-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_cosines [hPre_cosines : Cert.Pre_cosines.Facts] (m : (ℓ : Loc Cert.KernelIdeal.nD Cert.KernelIdeal.τ Cert.KernelIdeal.sig) → Buf (Elt Ideal) ℓ) : Prop :=
  ∀ c : Dev Cert.KernelIdeal.nD,
    (Cert.Pre_cosines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cosines [hPre_cosines : Cert.Pre_cosines.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cosines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cosines [hKernelIdeal : Cert.KernelIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosines m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cosines [hReferenceIdeal : Cert.ReferenceIdeal.Facts] [hPre_cosines : Cert.Pre_cosines.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cosines m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "cos_m" .f32 0x3F60A940#32 ((Real.sqrt (54194568723295 / 70368744177664) : ℝ) : EReal)

def algebraic_KernelIdeal_ReferenceIdeal_pre_cosines [hKernelIdeal : Cert.KernelIdeal.Facts] [hReferenceIdeal : Cert.ReferenceIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cosines m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_cosines : Cert.Pre_cosines.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_cosines (hKernelIdeal := hKernelIdeal) (hPre_cosines := hPre_cosines)
    ∧ quiescent_ReferenceIdeal (hReferenceIdeal := hReferenceIdeal)
    ∧ quiescent_ReferenceIdeal_pre_cosines (hReferenceIdeal := hReferenceIdeal) (hPre_cosines := hPre_cosines)
    ∧ preserves_Kernel_KernelIdeal
    ∧ algebraic_KernelIdeal_ReferenceIdeal_pre_cosines (hKernelIdeal := hKernelIdeal) (hReferenceIdeal := hReferenceIdeal) (hPre_cosines := hPre_cosines)
-- ==== Pre_cosines.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_c : IVec S_ 32 := constantI S_ 32 4294967295#32
  let main_v1 : IVec S1024 32 := broadcastInDim S1024 ![] bcast_S_S1024 main_c
  let main_v2 : IVec S1024 1 := cmpi .sge main_arg1 main_v1
  let main_c_0 : IVec S_ 32 := constantI S_ 32 100000#32
  let main_v3 : IVec S1024 32 := broadcastInDim S1024 ![] bcast_S_S1024 main_c_0
  let main_v4 : IVec S1024 1 := cmpi .slt main_arg1 main_v3
  let main_v5 : IVec S1024 1 := andi main_v2 main_v4
  let main_c_1 : IVec S_ 1 := constantI S_ 1 1#1
  let main_v6 : IVec S_ 1 := (fun x v => Host.reduce IntOp.andi x v reducesTo_S1024_S_d0 h_S_) main_v5 main_c_1
  let main_cst : FVec F S_ .f32 := constant S_ .f32 0x3F7FFFFF#32
  let main_v7 : FVec F S1024x100000 .f32 := broadcastInDim S1024x100000 ![] bcast_S_S1024x100000 main_cst
  let main_v8 : IVec S1024x100000 1 := cmpf .ole main_v0 main_v7
  let main_cst_2 : FVec F S_ .f32 := constant S_ .f32 0x3F800000#32
  let main_v9 : FVec F S1024x100000 .f32 := broadcastInDim S1024x100000 ![] bcast_S_S1024x100000 main_cst_2
  let main_v10 : IVec S1024x100000 1 := cmpf .oeq main_v0 main_v9
  let main_v11 : IVec S1024x100000 1 := ori main_v8 main_v10
  let main_c_3 : IVec S_ 1 := constantI S_ 1 1#1
  let main_v12 : IVec S_ 1 := (fun x v => Host.reduce IntOp.andi x v reducesTo_S1024x100000_S_d0_1 h_S_) main_v11 main_c_3
  let main_v13 : IVec S_ 1 := andi main_v6 main_v12
  main_v13
-- ==== Pre_labels_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 4294967295#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S_ : Shape := ⟨0, ![]⟩
abbrev S1024x100096 : Shape := ⟨2, ![1024, 100096]⟩
abbrev S32 : Shape := ⟨1, ![32]⟩
abbrev S16x8x128 : Shape := ⟨3, ![16, 8, 128]⟩
abbrev S16 : Shape := ⟨1, ![16]⟩
abbrev S1 : Shape := ⟨1, ![1]⟩
abbrev S1x8x128 : Shape := ⟨3, ![1, 8, 128]⟩
abbrev S8x128 : Shape := ⟨2, ![8, 128]⟩
abbrev S1024x1 : Shape := ⟨2, ![1024, 1]⟩
abbrev S16x1 : Shape := ⟨2, ![16, 1]⟩
abbrev S16x100000 : Shape := ⟨2, ![16, 100000]⟩

abbrev nBuf : Table → Nat
  | .hbm => 9
  | .local .tc .vmem => 8
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S_, .i32⟩
  | .hbm, ⟨3, _⟩ => ⟨S_, .f32⟩
  | .hbm, ⟨4, _⟩ => ⟨S1024x100096, .f32⟩
  | .hbm, ⟨5, _⟩ => ⟨S1024, .f32⟩
  | .hbm, ⟨6, _⟩ => ⟨S1024x1, .i32⟩
  | .hbm, ⟨7, _⟩ => ⟨S1024x1, .f32⟩
  | .hbm, ⟨8, _⟩ => ⟨S1024x100000, .f32⟩
  | .local .tc .vmem, ⟨0, _⟩ => ⟨S16x1, .i32⟩
  | .local .tc .vmem, ⟨1, _⟩ => ⟨S16x1, .i32⟩
  | .local .tc .vmem, ⟨2, _⟩ => ⟨S16x1, .f32⟩
  | .local .tc .vmem, ⟨3, _⟩ => ⟨S16x1, .f32⟩
  | .local .tc .vmem, ⟨4, _⟩ => ⟨S16x100000, .f32⟩
  | .local .tc .vmem, ⟨5, _⟩ => ⟨S16x100000, .f32⟩
  | .local .tc .vmem, ⟨6, _⟩ => ⟨S16x100000, .f32⟩
  | .local .tc .vmem, ⟨7, _⟩ => ⟨S16x100000, .f32⟩
  | .local .scVector .vmem, ⟨0, _⟩ => ⟨S32, .i32⟩
  | .local .scVector .vmem, ⟨1, _⟩ => ⟨S16x8x128, .f32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let v10 : BitVec 32 := Scalar.addi v2 c0_i32_1
  let c0_i32_2 : BitVec 32 := 0#32
  let v11 : BitVec 32 := Scalar.addi v10 c0_i32_2
  let c_m8_i32 : BitVec 32 := 4294967288#32
  let v14 : BitVec 32 := Scalar.andi v11 c_m8_i32
  v14
def k0_mult2 (v13 : BitVec 32) : BitVec 32 :=
  let c_m128_i32 : BitVec 32 := 4294967168#32
  let v16 : BitVec 32 := Scalar.andi v13 c_m128_i32
  v16

def k0_off2 (i : grid0.Coords) (v13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let v10 : BitVec 32 := Scalar.addi v2 c0_i32_1
  let c0_i32_2 : BitVec 32 := 0#32
  let v11 : BitVec 32 := Scalar.addi v10 c0_i32_2
  let c_m8_i32 : BitVec 32 := 4294967288#32
  let v14 : BitVec 32 := Scalar.andi v11 c_m8_i32
  let v15 : BitVec 32 := v14
  let c_m128_i32 : BitVec 32 := 4294967168#32
  let v16 : BitVec 32 := Scalar.andi v13 c_m128_i32
  let v17 : BitVec 32 := v16
  ![v15.toNat, v17.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8 : BitVec 32 := 0#32
  let v24 : BitVec 32 := Scalar.addi v2 c0_i32_8
  let c1_i32 : BitVec 32 := 1#32
  let v25 : BitVec 32 := Scalar.addi v24 c1_i32
  let c_m8_i32_9 : BitVec 32 := 4294967288#32
  let v28 : BitVec 32 := Scalar.andi v25 c_m8_i32_9
  v28
def k0_mult4 (v27 : BitVec 32) : BitVec 32 :=
  let c_m128_i32_10 : BitVec 32 := 4294967168#32
  let v30 : BitVec 32 := Scalar.andi v27 c_m128_i32_10
  v30

def k0_off3 (i : grid0.Coords) (v27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8 : BitVec 32 := 0#32
  let v24 : BitVec 32 := Scalar.addi v2 c0_i32_8
  let c1_i32 : BitVec 32 := 1#32
  let v25 : BitVec 32 := Scalar.addi v24 c1_i32
  let c_m8_i32_9 : BitVec 32 := 4294967288#32
  let v28 : BitVec 32 := Scalar.andi v25 c_m8_i32_9
  let v29 : BitVec 32 := v28
  let c_m128_i32_10 : BitVec 32 := 4294967168#32
  let v30 : BitVec 32 := Scalar.andi v27 c_m128_i32_10
  let v31 : BitVec 32 := v30
  ![v29.toNat, v31.toNat]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_16 : BitVec 32 := 0#32
  let v38 : BitVec 32 := Scalar.addi v2 c0_i32_16
  let c2_i32_17 : BitVec 32 := 2#32
  let v39 : BitVec 32 := Scalar.addi v38 c2_i32_17
  let c_m8_i32_18 : BitVec 32 := 4294967288#32
  let v42 : BitVec 32 := Scalar.andi v39 c_m8_i32_18
  v42
def k0_mult6 (v41 : BitVec 32) : BitVec 32 :=
  let c_m128_i32_19 : BitVec 32 := 4294967168#32
  let v44 : BitVec 32 := Scalar.andi v41 c_m128_i32_19
  v44

def k0_off4 (i : grid0.Coords) (v41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_16 : BitVec 32 := 0#32
  let v38 : BitVec 32 := Scalar.addi v2 c0_i32_16
  let c2_i32_17 : BitVec 32 := 2#32
  let v39 : BitVec 32 := Scalar.addi v38 c2_i32_17
  let c_m8_i32_18 : BitVec 32 := 4294967288#32
  let v42 : BitVec 32 := Scalar.andi v39 c_m8_i32_18
  let v43 : BitVec 32 := v42
  let c_m128_i32_19 : BitVec 32 := 4294967168#32
  let v44 : BitVec 32 := Scalar.andi v41 c_m128_i32_19
  let v45 : BitVec 32 := v44
  ![v43.toNat, v45.toNat]
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v52 : BitVec 32 := Scalar.addi v2 c0_i32_25
  let c3_i32 : BitVec 32 := 3#32
  let v53 : BitVec 32 := Scalar.addi v52 c3_i32
  let c_m8_i32_26 : BitVec 32 := 4294967288#32
  let v56 : BitVec 32 := Scalar.andi v53 c_m8_i32_26
  v56
def k0_mult8 (v55 : BitVec 32) : BitVec 32 :=
  let c_m128_i32_27 : BitVec 32 := 4294967168#32
  let v58 : BitVec 32 := Scalar.andi v55 c_m128_i32_27
  v58

def k0_off5 (i : grid0.Coords) (v55 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v52 : BitVec 32 := Scalar.addi v2 c0_i32_25
  let c3_i32 : BitVec 32 := 3#32
  let v53 : BitVec 32 := Scalar.addi v52 c3_i32
  let c_m8_i32_26 : BitVec 32 := 4294967288#32
  let v56 : BitVec 32 := Scalar.andi v53 c_m8_i32_26
  let v57 : BitVec 32 := v56
  let c_m128_i32_27 : BitVec 32 := 4294967168#32
  let v58 : BitVec 32 := Scalar.andi v55 c_m128_i32_27
  let v59 : BitVec 32 := v58
  ![v57.toNat, v59.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_33 : BitVec 32 := 0#32
  let v66 : BitVec 32 := Scalar.addi v2 c0_i32_33
  let c4_i32 : BitVec 32 := 4#32
  let v67 : BitVec 32 := Scalar.addi v66 c4_i32
  let c_m8_i32_34 : BitVec 32 := 4294967288#32
  let v70 : BitVec 32 := Scalar.andi v67 c_m8_i32_34
  v70
def k0_mult10 (v69 : BitVec 32) : BitVec 32 :=
  let c_m128_i32_35 : BitVec 32 := 4294967168#32
  let v72 : BitVec 32 := Scalar.andi v69 c_m128_i32_35
  v72

def k0_off6 (i : grid0.Coords) (v69 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_33 : BitVec 32 := 0#32
  let v66 : BitVec 32 := Scalar.addi v2 c0_i32_33
  let c4_i32 : BitVec 32 := 4#32
  let v67 : BitVec 32 := Scalar.addi v66 c4_i32
  let c_m8_i32_34 : BitVec 32 := 4294967288#32
  let v70 : BitVec 32 := Scalar.andi v67 c_m8_i32_34
  let v71 : BitVec 32 := v70
  let c_m128_i32_35 : BitVec 32 := 4294967168#32
  let v72 : BitVec 32 := Scalar.andi v69 c_m128_i32_35
  let v73 : BitVec 32 := v72
  ![v71.toNat, v73.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let v80 : BitVec 32 := Scalar.addi v2 c0_i32_41
  let c5_i32 : BitVec 32 := 5#32
  let v81 : BitVec 32 := Scalar.addi v80 c5_i32
  let c_m8_i32_42 : BitVec 32 := 4294967288#32
  let v84 : BitVec 32 := Scalar.andi v81 c_m8_i32_42
  v84
def k0_mult12 (v83 : BitVec 32) : BitVec 32 :=
  let c_m128_i32_43 : BitVec 32 := 4294967168#32
  let v86 : BitVec 32 := Scalar.andi v83 c_m128_i32_43
  v86

def k0_off7 (i : grid0.Coords) (v83 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let v80 : BitVec 32 := Scalar.addi v2 c0_i32_41
  let c5_i32 : BitVec 32 := 5#32
  let v81 : BitVec 32 := Scalar.addi v80 c5_i32
  let c_m8_i32_42 : BitVec 32 := 4294967288#32
  let v84 : BitVec 32 := Scalar.andi v81 c_m8_i32_42
  let v85 : BitVec 32 := v84
  let c_m128_i32_43 : BitVec 32 := 4294967168#32
  let v86 : BitVec 32 := Scalar.andi v83 c_m128_i32_43
  let v87 : BitVec 32 := v86
  ![v85.toNat, v87.toNat]
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_49 : BitVec 32 := 0#32
  let v94 : BitVec 32 := Scalar.addi v2 c0_i32_49
  let c6_i32 : BitVec 32 := 6#32
  let v95 : BitVec 32 := Scalar.addi v94 c6_i32
  let c_m8_i32_50 : BitVec 32 := 4294967288#32
  let v98 : BitVec 32 := Scalar.andi v95 c_m8_i32_50
  v98
def k0_mult14 (v97 : BitVec 32) : BitVec 32 :=
  let c_m128_i32_51 : BitVec 32 := 4294967168#32
  let v100 : BitVec 32 := Scalar.andi v97 c_m128_i32_51
  v100

def k0_off8 (i : grid0.Coords) (v97 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_49 : BitVec 32 := 0#32
  let v94 : BitVec 32 := Scalar.addi v2 c0_i32_49
  let c6_i32 : BitVec 32 := 6#32
  let v95 : BitVec 32 := Scalar.addi v94 c6_i32
  let c_m8_i32_50 : BitVec 32 := 4294967288#32
  let v98 : BitVec 32 := Scalar.andi v95 c_m8_i32_50
  let v99 : BitVec 32 := v98
  let c_m128_i32_51 : BitVec 32 := 4294967168#32
  let v100 : BitVec 32 := Scalar.andi v97 c_m128_i32_51
  let v101 : BitVec 32 := v100
  ![v99.toNat, v101.toNat]
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_57 : BitVec 32 := 0#32
  let v108 : BitVec 32 := Scalar.addi v2 c0_i32_57
  let c7_i32 : BitVec 32 := 7#32
  let v109 : BitVec 32 := Scalar.addi v108 c7_i32
  let c_m8_i32_58 : BitVec 32 := 4294967288#32
  let v112 : BitVec 32 := Scalar.andi v109 c_m8_i32_58
  v112
def k0_mult16 (v111 : BitVec 32) : BitVec 32 :=
  let c_m128_i32_59 : BitVec 32 := 4294967168#32
  let v114 : BitVec 32 := Scalar.andi v111 c_m128_i32_59
  v114

def k0_off9 (i : grid0.Coords) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_57 : BitVec 32 := 0#32
  let v108 : BitVec 32 := Scalar.addi v2 c0_i32_57
  let c7_i32 : BitVec 32 := 7#32
  let v109 : BitVec 32 := Scalar.addi v108 c7_i32
  let c_m8_i32_58 : BitVec 32 := 4294967288#32
  let v112 : BitVec 32 := Scalar.andi v109 c_m8_i32_58
  let v113 : BitVec 32 := v112
  let c_m128_i32_59 : BitVec 32 := 4294967168#32
  let v114 : BitVec 32 := Scalar.andi v111 c_m128_i32_59
  let v115 : BitVec 32 := v114
  ![v113.toNat, v115.toNat]
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v122 : BitVec 32 := Scalar.addi v2 c0_i32_65
  let c8_i32 : BitVec 32 := 8#32
  let v123 : BitVec 32 := Scalar.addi v122 c8_i32
  let c_m8_i32_66 : BitVec 32 := 4294967288#32
  let v126 : BitVec 32 := Scalar.andi v123 c_m8_i32_66
  v126
def k0_mult18 (v125 : BitVec 32) : BitVec 32 :=
  let c_m128_i32_67 : BitVec 32 := 4294967168#32
  let v128 : BitVec 32 := Scalar.andi v125 c_m128_i32_67
  v128

def k0_off10 (i : grid0.Coords) (v125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v122 : BitVec 32 := Scalar.addi v2 c0_i32_65
  let c8_i32 : BitVec 32 := 8#32
  let v123 : BitVec 32 := Scalar.addi v122 c8_i32
  let c_m8_i32_66 : BitVec 32 := 4294967288#32
  let v126 : BitVec 32 := Scalar.andi v123 c_m8_i32_66
  let v127 : BitVec 32 := v126
  let c_m128_i32_67 : BitVec 32 := 4294967168#32
  let v128 : BitVec 32 := Scalar.andi v125 c_m128_i32_67
  let v129 : BitVec 32 := v128
  ![v127.toNat, v129.toNat]
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_73 : BitVec 32 := 0#32
  let v136 : BitVec 32 := Scalar.addi v2 c0_i32_73
  let c9_i32 : BitVec 32 := 9#32
  let v137 : BitVec 32 := Scalar.addi v136 c9_i32
  let c_m8_i32_74 : BitVec 32 := 4294967288#32
  let v140 : BitVec 32 := Scalar.andi v137 c_m8_i32_74
  v140
def k0_mult20 (v139 : BitVec 32) : BitVec 32 :=
  let c_m128_i32_75 : BitVec 32 := 4294967168#32
  let v142 : BitVec 32 := Scalar.andi v139 c_m128_i32_75
  v142

def k0_off11 (i : grid0.Coords) (v139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_73 : BitVec 32 := 0#32
  let v136 : BitVec 32 := Scalar.addi v2 c0_i32_73
  let c9_i32 : BitVec 32 := 9#32
  let v137 : BitVec 32 := Scalar.addi v136 c9_i32
  let c_m8_i32_74 : BitVec 32 := 4294967288#32
  let v140 : BitVec 32 := Scalar.andi v137 c_m8_i32_74
  let v141 : BitVec 32 := v140
  let c_m128_i32_75 : BitVec 32 := 4294967168#32
  let v142 : BitVec 32 := Scalar.andi v139 c_m128_i32_75
  let v143 : BitVec 32 := v142
  ![v141.toNat, v143.toNat]
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_81 : BitVec 32 := 0#32
  let v150 : BitVec 32 := Scalar.addi v2 c0_i32_81
  let c10_i32 : BitVec 32 := 10#32
  let v151 : BitVec 32 := Scalar.addi v150 c10_i32
  let c_m8_i32_82 : BitVec 32 := 4294967288#32
  let v154 : BitVec 32 := Scalar.andi v151 c_m8_i32_82
  v154
def k0_mult22 (v153 : BitVec 32) : BitVec 32 :=
  let c_m128_i32_83 : BitVec 32 := 4294967168#32
  let v156 : BitVec 32 := Scalar.andi v153 c_m128_i32_83
  v156

def k0_off12 (i : grid0.Coords) (v153 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_81 : BitVec 32 := 0#32
  let v150 : BitVec 32 := Scalar.addi v2 c0_i32_81
  let c10_i32 : BitVec 32 := 10#32
  let v151 : BitVec 32 := Scalar.addi v150 c10_i32
  let c_m8_i32_82 : BitVec 32 := 4294967288#32
  let v154 : BitVec 32 := Scalar.andi v151 c_m8_i32_82
  let v155 : BitVec 32 := v154
  let c_m128_i32_83 : BitVec 32 := 4294967168#32
  let v156 : BitVec 32 := Scalar.andi v153 c_m128_i32_83
  let v157 : BitVec 32 := v156
  ![v155.toNat, v157.toNat]
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_89 : BitVec 32 := 0#32
  let v164 : BitVec 32 := Scalar.addi v2 c0_i32_89
  let c11_i32 : BitVec 32 := 11#32
  let v165 : BitVec 32 := Scalar.addi v164 c11_i32
  let c_m8_i32_90 : BitVec 32 := 4294967288#32
  let v168 : BitVec 32 := Scalar.andi v165 c_m8_i32_90
  v168
def k0_mult24 (v167 : BitVec 32) : BitVec 32 :=
  let c_m128_i32_91 : BitVec 32 := 4294967168#32
  let v170 : BitVec 32 := Scalar.andi v167 c_m128_i32_91
  v170

def k0_off13 (i : grid0.Coords) (v167 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_89 : BitVec 32 := 0#32
  let v164 : BitVec 32 := Scalar.addi v2 c0_i32_89
  let c11_i32 : BitVec 32 := 11#32
  let v165 : BitVec 32 := Scalar.addi v164 c11_i32
  let c_m8_i32_90 : BitVec 32 := 4294967288#32
  let v168 : BitVec 32 := Scalar.andi v165 c_m8_i32_90
  let v169 : BitVec 32 := v168
  let c_m128_i32_91 : BitVec 32 := 4294967168#32
  let v170 : BitVec 32 := Scalar.andi v167 c_m128_i32_91
  let v171 : BitVec 32 := v170
  ![v169.toNat, v171.toNat]
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_97 : BitVec 32 := 0#32
  let v178 : BitVec 32 := Scalar.addi v2 c0_i32_97
  let c12_i32 : BitVec 32 := 12#32
  let v179 : BitVec 32 := Scalar.addi v178 c12_i32
  let c_m8_i32_98 : BitVec 32 := 4294967288#32
  let v182 : BitVec 32 := Scalar.andi v179 c_m8_i32_98
  v182
def k0_mult26 (v181 : BitVec 32) : BitVec 32 :=
  let c_m128_i32_99 : BitVec 32 := 4294967168#32
  let v184 : BitVec 32 := Scalar.andi v181 c_m128_i32_99
  v184

def k0_off14 (i : grid0.Coords) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_97 : BitVec 32 := 0#32
  let v178 : BitVec 32 := Scalar.addi v2 c0_i32_97
  let c12_i32 : BitVec 32 := 12#32
  let v179 : BitVec 32 := Scalar.addi v178 c12_i32
  let c_m8_i32_98 : BitVec 32 := 4294967288#32
  let v182 : BitVec 32 := Scalar.andi v179 c_m8_i32_98
  let v183 : BitVec 32 := v182
  let c_m128_i32_99 : BitVec 32 := 4294967168#32
  let v184 : BitVec 32 := Scalar.andi v181 c_m128_i32_99
  let v185 : BitVec 32 := v184
  ![v183.toNat, v185.toNat]
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_105 : BitVec 32 := 0#32
  let v192 : BitVec 32 := Scalar.addi v2 c0_i32_105
  let c13_i32 : BitVec 32 := 13#32
  let v193 : BitVec 32 := Scalar.addi v192 c13_i32
  let c_m8_i32_106 : BitVec 32 := 4294967288#32
  let v196 : BitVec 32 := Scalar.andi v193 c_m8_i32_106
  v196
def k0_mult28 (v195 : BitVec 32) : BitVec 32 :=
  let c_m128_i32_107 : BitVec 32 := 4294967168#32
  let v198 : BitVec 32 := Scalar.andi v195 c_m128_i32_107
  v198

def k0_off15 (i : grid0.Coords) (v195 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_105 : BitVec 32 := 0#32
  let v192 : BitVec 32 := Scalar.addi v2 c0_i32_105
  let c13_i32 : BitVec 32 := 13#32
  let v193 : BitVec 32 := Scalar.addi v192 c13_i32
  let c_m8_i32_106 : BitVec 32 := 4294967288#32
  let v196 : BitVec 32 := Scalar.andi v193 c_m8_i32_106
  let v197 : BitVec 32 := v196
  let c_m128_i32_107 : BitVec 32 := 4294967168#32
  let v198 : BitVec 32 := Scalar.andi v195 c_m128_i32_107
  let v199 : BitVec 32 := v198
  ![v197.toNat, v199.toNat]
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_113 : BitVec 32 := 0#32
  let v206 : BitVec 32 := Scalar.addi v2 c0_i32_113
  let c14_i32 : BitVec 32 := 14#32
  let v207 : BitVec 32 := Scalar.addi v206 c14_i32
  let c_m8_i32_114 : BitVec 32 := 4294967288#32
  let v210 : BitVec 32 := Scalar.andi v207 c_m8_i32_114
  v210
def k0_mult30 (v209 : BitVec 32) : BitVec 32 :=
  let c_m128_i32_115 : BitVec 32 := 4294967168#32
  let v212 : BitVec 32 := Scalar.andi v209 c_m128_i32_115
  v212

def k0_off16 (i : grid0.Coords) (v209 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_113 : BitVec 32 := 0#32
  let v206 : BitVec 32 := Scalar.addi v2 c0_i32_113
  let c14_i32 : BitVec 32 := 14#32
  let v207 : BitVec 32 := Scalar.addi v206 c14_i32
  let c_m8_i32_114 : BitVec 32 := 4294967288#32
  let v210 : BitVec 32 := Scalar.andi v207 c_m8_i32_114
  let v211 : BitVec 32 := v210
  let c_m128_i32_115 : BitVec 32 := 4294967168#32
  let v212 : BitVec 32 := Scalar.andi v209 c_m128_i32_115
  let v213 : BitVec 32 := v212
  ![v211.toNat, v213.toNat]
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_121 : BitVec 32 := 0#32
  let v220 : BitVec 32 := Scalar.addi v2 c0_i32_121
  let c15_i32 : BitVec 32 := 15#32
  let v221 : BitVec 32 := Scalar.addi v220 c15_i32
  let c_m8_i32_122 : BitVec 32 := 4294967288#32
  let v224 : BitVec 32 := Scalar.andi v221 c_m8_i32_122
  v224
def k0_mult32 (v223 : BitVec 32) : BitVec 32 :=
  let c_m128_i32_123 : BitVec 32 := 4294967168#32
  let v226 : BitVec 32 := Scalar.andi v223 c_m128_i32_123
  v226

def k0_off17 (i : grid0.Coords) (v223 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_121 : BitVec 32 := 0#32
  let v220 : BitVec 32 := Scalar.addi v2 c0_i32_121
  let c15_i32 : BitVec 32 := 15#32
  let v221 : BitVec 32 := Scalar.addi v220 c15_i32
  let c_m8_i32_122 : BitVec 32 := 4294967288#32
  let v224 : BitVec 32 := Scalar.andi v221 c_m8_i32_122
  let v225 : BitVec 32 := v224
  let c_m128_i32_123 : BitVec 32 := 4294967168#32
  let v226 : BitVec 32 := Scalar.andi v223 c_m128_i32_123
  let v227 : BitVec 32 := v226
  ![v225.toNat, v227.toNat]

def k0_chk16 (i : grid0.Coords) (v223 : BitVec 32) : Prop :=
  (128 ∣ (k0_mult32 v223).toNat) ∧
  (∀ a, (k0_off17 i v223) a + S8x128.size a ≤ S1024x100096.size a)
theorem k0_mult32_dvd : ∀ (i : grid0.Coords) (v223 : BitVec 32) (k0_hw16 : k0_chk16 i v223), 128 ∣ (k0_mult32 v223).toNat := fun i v223 k0_hw16 => k0_hw16.1
theorem k0_off17_inb : ∀ (i : grid0.Coords) (v223 : BitVec 32) (k0_hw16 : k0_chk16 i v223), ∀ a, (k0_off17 i v223) a + S8x128.size a ≤ S1024x100096.size a := fun i v223 k0_hw16 => k0_hw16.2

def k0_off18 (i : grid0.Coords) (v13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let v10 : BitVec 32 := Scalar.addi v2 c0_i32_1
  let c0_i32_2 : BitVec 32 := 0#32
  let v11 : BitVec 32 := Scalar.addi v10 c0_i32_2
  let c_m8_i32 : BitVec 32 := 4294967288#32
  let v14 : BitVec 32 := Scalar.andi v11 c_m8_i32
  let v15 : BitVec 32 := v14
  let c_m128_i32 : BitVec 32 := 4294967168#32
  let v16 : BitVec 32 := Scalar.andi v13 c_m128_i32
  let v17 : BitVec 32 := v16
  ![v15.toNat, v17.toNat]

def k0_chk1 (i : grid0.Coords) (v13 : BitVec 32) : Prop :=
  (128 ∣ (k0_mult2 v13).toNat) ∧
  (∀ a, (k0_off2 i v13) a + S8x128.size a ≤ S1024x100096.size a) ∧
  (∀ a, (k0_off18 i v13) a + S8x128.size a ≤ S1024x100096.size a)
theorem k0_mult2_dvd : ∀ (i : grid0.Coords) (v13 : BitVec 32) (k0_hw1 : k0_chk1 i v13), 128 ∣ (k0_mult2 v13).toNat := fun i v13 k0_hw1 => k0_hw1.1
theorem k0_off2_inb : ∀ (i : grid0.Coords) (v13 : BitVec 32) (k0_hw1 : k0_chk1 i v13), ∀ a, (k0_off2 i v13) a + S8x128.size a ≤ S1024x100096.size a := fun i v13 k0_hw1 => k0_hw1.2.1
theorem k0_off18_inb : ∀ (i : grid0.Coords) (v13 : BitVec 32) (k0_hw1 : k0_chk1 i v13), ∀ a, (k0_off18 i v13) a + S8x128.size a ≤ S1024x100096.size a := fun i v13 k0_hw1 => k0_hw1.2.2

def k0_off19 (i : grid0.Coords) (v27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8 : BitVec 32 := 0#32
  let v24 : BitVec 32 := Scalar.addi v2 c0_i32_8
  let c1_i32 : BitVec 32 := 1#32
  let v25 : BitVec 32 := Scalar.addi v24 c1_i32
  let c_m8_i32_9 : BitVec 32 := 4294967288#32
  let v28 : BitVec 32 := Scalar.andi v25 c_m8_i32_9
  let v29 : BitVec 32 := v28
  let c_m128_i32_10 : BitVec 32 := 4294967168#32
  let v30 : BitVec 32 := Scalar.andi v27 c_m128_i32_10
  let v31 : BitVec 32 := v30
  ![v29.toNat, v31.toNat]

def k0_chk2 (i : grid0.Coords) (v27 : BitVec 32) : Prop :=
  (128 ∣ (k0_mult4 v27).toNat) ∧
  (∀ a, (k0_off3 i v27) a + S8x128.size a ≤ S1024x100096.size a) ∧
  (∀ a, (k0_off19 i v27) a + S8x128.size a ≤ S1024x100096.size a)
theorem k0_mult4_dvd : ∀ (i : grid0.Coords) (v27 : BitVec 32) (k0_hw2 : k0_chk2 i v27), 128 ∣ (k0_mult4 v27).toNat := fun i v27 k0_hw2 => k0_hw2.1
theorem k0_off3_inb : ∀ (i : grid0.Coords) (v27 : BitVec 32) (k0_hw2 : k0_chk2 i v27), ∀ a, (k0_off3 i v27) a + S8x128.size a ≤ S1024x100096.size a := fun i v27 k0_hw2 => k0_hw2.2.1
theorem k0_off19_inb : ∀ (i : grid0.Coords) (v27 : BitVec 32) (k0_hw2 : k0_chk2 i v27), ∀ a, (k0_off19 i v27) a + S8x128.size a ≤ S1024x100096.size a := fun i v27 k0_hw2 => k0_hw2.2.2

def k0_off20 (i : grid0.Coords) (v41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_16 : BitVec 32 := 0#32
  let v38 : BitVec 32 := Scalar.addi v2 c0_i32_16
  let c2_i32_17 : BitVec 32 := 2#32
  let v39 : BitVec 32 := Scalar.addi v38 c2_i32_17
  let c_m8_i32_18 : BitVec 32 := 4294967288#32
  let v42 : BitVec 32 := Scalar.andi v39 c_m8_i32_18
  let v43 : BitVec 32 := v42
  let c_m128_i32_19 : BitVec 32 := 4294967168#32
  let v44 : BitVec 32 := Scalar.andi v41 c_m128_i32_19
  let v45 : BitVec 32 := v44
  ![v43.toNat, v45.toNat]

def k0_chk3 (i : grid0.Coords) (v41 : BitVec 32) : Prop :=
  (128 ∣ (k0_mult6 v41).toNat) ∧
  (∀ a, (k0_off4 i v41) a + S8x128.size a ≤ S1024x100096.size a) ∧
  (∀ a, (k0_off20 i v41) a + S8x128.size a ≤ S1024x100096.size a)
theorem k0_mult6_dvd : ∀ (i : grid0.Coords) (v41 : BitVec 32) (k0_hw3 : k0_chk3 i v41), 128 ∣ (k0_mult6 v41).toNat := fun i v41 k0_hw3 => k0_hw3.1
theorem k0_off4_inb : ∀ (i : grid0.Coords) (v41 : BitVec 32) (k0_hw3 : k0_chk3 i v41), ∀ a, (k0_off4 i v41) a + S8x128.size a ≤ S1024x100096.size a := fun i v41 k0_hw3 => k0_hw3.2.1
theorem k0_off20_inb : ∀ (i : grid0.Coords) (v41 : BitVec 32) (k0_hw3 : k0_chk3 i v41), ∀ a, (k0_off20 i v41) a + S8x128.size a ≤ S1024x100096.size a := fun i v41 k0_hw3 => k0_hw3.2.2

def k0_off21 (i : grid0.Coords) (v55 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v52 : BitVec 32 := Scalar.addi v2 c0_i32_25
  let c3_i32 : BitVec 32 := 3#32
  let v53 : BitVec 32 := Scalar.addi v52 c3_i32
  let c_m8_i32_26 : BitVec 32 := 4294967288#32
  let v56 : BitVec 32 := Scalar.andi v53 c_m8_i32_26
  let v57 : BitVec 32 := v56
  let c_m128_i32_27 : BitVec 32 := 4294967168#32
  let v58 : BitVec 32 := Scalar.andi v55 c_m128_i32_27
  let v59 : BitVec 32 := v58
  ![v57.toNat, v59.toNat]

def k0_chk4 (i : grid0.Coords) (v55 : BitVec 32) : Prop :=
  (128 ∣ (k0_mult8 v55).toNat) ∧
  (∀ a, (k0_off5 i v55) a + S8x128.size a ≤ S1024x100096.size a) ∧
  (∀ a, (k0_off21 i v55) a + S8x128.size a ≤ S1024x100096.size a)
theorem k0_mult8_dvd : ∀ (i : grid0.Coords) (v55 : BitVec 32) (k0_hw4 : k0_chk4 i v55), 128 ∣ (k0_mult8 v55).toNat := fun i v55 k0_hw4 => k0_hw4.1
theorem k0_off5_inb : ∀ (i : grid0.Coords) (v55 : BitVec 32) (k0_hw4 : k0_chk4 i v55), ∀ a, (k0_off5 i v55) a + S8x128.size a ≤ S1024x100096.size a := fun i v55 k0_hw4 => k0_hw4.2.1
theorem k0_off21_inb : ∀ (i : grid0.Coords) (v55 : BitVec 32) (k0_hw4 : k0_chk4 i v55), ∀ a, (k0_off21 i v55) a + S8x128.size a ≤ S1024x100096.size a := fun i v55 k0_hw4 => k0_hw4.2.2

def k0_off22 (i : grid0.Coords) (v69 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_33 : BitVec 32 := 0#32
  let v66 : BitVec 32 := Scalar.addi v2 c0_i32_33
  let c4_i32 : BitVec 32 := 4#32
  let v67 : BitVec 32 := Scalar.addi v66 c4_i32
  let c_m8_i32_34 : BitVec 32 := 4294967288#32
  let v70 : BitVec 32 := Scalar.andi v67 c_m8_i32_34
  let v71 : BitVec 32 := v70
  let c_m128_i32_35 : BitVec 32 := 4294967168#32
  let v72 : BitVec 32 := Scalar.andi v69 c_m128_i32_35
  let v73 : BitVec 32 := v72
  ![v71.toNat, v73.toNat]

def k0_chk5 (i : grid0.Coords) (v69 : BitVec 32) : Prop :=
  (128 ∣ (k0_mult10 v69).toNat) ∧
  (∀ a, (k0_off6 i v69) a + S8x128.size a ≤ S1024x100096.size a) ∧
  (∀ a, (k0_off22 i v69) a + S8x128.size a ≤ S1024x100096.size a)
theorem k0_mult10_dvd : ∀ (i : grid0.Coords) (v69 : BitVec 32) (k0_hw5 : k0_chk5 i v69), 128 ∣ (k0_mult10 v69).toNat := fun i v69 k0_hw5 => k0_hw5.1
theorem k0_off6_inb : ∀ (i : grid0.Coords) (v69 : BitVec 32) (k0_hw5 : k0_chk5 i v69), ∀ a, (k0_off6 i v69) a + S8x128.size a ≤ S1024x100096.size a := fun i v69 k0_hw5 => k0_hw5.2.1
theorem k0_off22_inb : ∀ (i : grid0.Coords) (v69 : BitVec 32) (k0_hw5 : k0_chk5 i v69), ∀ a, (k0_off22 i v69) a + S8x128.size a ≤ S1024x100096.size a := fun i v69 k0_hw5 => k0_hw5.2.2

def k0_off23 (i : grid0.Coords) (v83 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let v80 : BitVec 32 := Scalar.addi v2 c0_i32_41
  let c5_i32 : BitVec 32 := 5#32
  let v81 : BitVec 32 := Scalar.addi v80 c5_i32
  let c_m8_i32_42 : BitVec 32 := 4294967288#32
  let v84 : BitVec 32 := Scalar.andi v81 c_m8_i32_42
  let v85 : BitVec 32 := v84
  let c_m128_i32_43 : BitVec 32 := 4294967168#32
  let v86 : BitVec 32 := Scalar.andi v83 c_m128_i32_43
  let v87 : BitVec 32 := v86
  ![v85.toNat, v87.toNat]

def k0_chk6 (i : grid0.Coords) (v83 : BitVec 32) : Prop :=
  (128 ∣ (k0_mult12 v83).toNat) ∧
  (∀ a, (k0_off7 i v83) a + S8x128.size a ≤ S1024x100096.size a) ∧
  (∀ a, (k0_off23 i v83) a + S8x128.size a ≤ S1024x100096.size a)
theorem k0_mult12_dvd : ∀ (i : grid0.Coords) (v83 : BitVec 32) (k0_hw6 : k0_chk6 i v83), 128 ∣ (k0_mult12 v83).toNat := fun i v83 k0_hw6 => k0_hw6.1
theorem k0_off7_inb : ∀ (i : grid0.Coords) (v83 : BitVec 32) (k0_hw6 : k0_chk6 i v83), ∀ a, (k0_off7 i v83) a + S8x128.size a ≤ S1024x100096.size a := fun i v83 k0_hw6 => k0_hw6.2.1
theorem k0_off23_inb : ∀ (i : grid0.Coords) (v83 : BitVec 32) (k0_hw6 : k0_chk6 i v83), ∀ a, (k0_off23 i v83) a + S8x128.size a ≤ S1024x100096.size a := fun i v83 k0_hw6 => k0_hw6.2.2

def k0_off24 (i : grid0.Coords) (v97 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_49 : BitVec 32 := 0#32
  let v94 : BitVec 32 := Scalar.addi v2 c0_i32_49
  let c6_i32 : BitVec 32 := 6#32
  let v95 : BitVec 32 := Scalar.addi v94 c6_i32
  let c_m8_i32_50 : BitVec 32 := 4294967288#32
  let v98 : BitVec 32 := Scalar.andi v95 c_m8_i32_50
  let v99 : BitVec 32 := v98
  let c_m128_i32_51 : BitVec 32 := 4294967168#32
  let v100 : BitVec 32 := Scalar.andi v97 c_m128_i32_51
  let v101 : BitVec 32 := v100
  ![v99.toNat, v101.toNat]

def k0_chk7 (i : grid0.Coords) (v97 : BitVec 32) : Prop :=
  (128 ∣ (k0_mult14 v97).toNat) ∧
  (∀ a, (k0_off8 i v97) a + S8x128.size a ≤ S1024x100096.size a) ∧
  (∀ a, (k0_off24 i v97) a + S8x128.size a ≤ S1024x100096.size a)
theorem k0_mult14_dvd : ∀ (i : grid0.Coords) (v97 : BitVec 32) (k0_hw7 : k0_chk7 i v97), 128 ∣ (k0_mult14 v97).toNat := fun i v97 k0_hw7 => k0_hw7.1
theorem k0_off8_inb : ∀ (i : grid0.Coords) (v97 : BitVec 32) (k0_hw7 : k0_chk7 i v97), ∀ a, (k0_off8 i v97) a + S8x128.size a ≤ S1024x100096.size a := fun i v97 k0_hw7 => k0_hw7.2.1
theorem k0_off24_inb : ∀ (i : grid0.Coords) (v97 : BitVec 32) (k0_hw7 : k0_chk7 i v97), ∀ a, (k0_off24 i v97) a + S8x128.size a ≤ S1024x100096.size a := fun i v97 k0_hw7 => k0_hw7.2.2

def k0_off25 (i : grid0.Coords) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_57 : BitVec 32 := 0#32
  let v108 : BitVec 32 := Scalar.addi v2 c0_i32_57
  let c7_i32 : BitVec 32 := 7#32
  let v109 : BitVec 32 := Scalar.addi v108 c7_i32
  let c_m8_i32_58 : BitVec 32 := 4294967288#32
  let v112 : BitVec 32 := Scalar.andi v109 c_m8_i32_58
  let v113 : BitVec 32 := v112
  let c_m128_i32_59 : BitVec 32 := 4294967168#32
  let v114 : BitVec 32 := Scalar.andi v111 c_m128_i32_59
  let v115 : BitVec 32 := v114
  ![v113.toNat, v115.toNat]

def k0_chk8 (i : grid0.Coords) (v111 : BitVec 32) : Prop :=
  (128 ∣ (k0_mult16 v111).toNat) ∧
  (∀ a, (k0_off9 i v111) a + S8x128.size a ≤ S1024x100096.size a) ∧
  (∀ a, (k0_off25 i v111) a + S8x128.size a ≤ S1024x100096.size a)
theorem k0_mult16_dvd : ∀ (i : grid0.Coords) (v111 : BitVec 32) (k0_hw8 : k0_chk8 i v111), 128 ∣ (k0_mult16 v111).toNat := fun i v111 k0_hw8 => k0_hw8.1
theorem k0_off9_inb : ∀ (i : grid0.Coords) (v111 : BitVec 32) (k0_hw8 : k0_chk8 i v111), ∀ a, (k0_off9 i v111) a + S8x128.size a ≤ S1024x100096.size a := fun i v111 k0_hw8 => k0_hw8.2.1
theorem k0_off25_inb : ∀ (i : grid0.Coords) (v111 : BitVec 32) (k0_hw8 : k0_chk8 i v111), ∀ a, (k0_off25 i v111) a + S8x128.size a ≤ S1024x100096.size a := fun i v111 k0_hw8 => k0_hw8.2.2

def k0_off26 (i : grid0.Coords) (v125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v122 : BitVec 32 := Scalar.addi v2 c0_i32_65
  let c8_i32 : BitVec 32 := 8#32
  let v123 : BitVec 32 := Scalar.addi v122 c8_i32
  let c_m8_i32_66 : BitVec 32 := 4294967288#32
  let v126 : BitVec 32 := Scalar.andi v123 c_m8_i32_66
  let v127 : BitVec 32 := v126
  let c_m128_i32_67 : BitVec 32 := 4294967168#32
  let v128 : BitVec 32 := Scalar.andi v125 c_m128_i32_67
  let v129 : BitVec 32 := v128
  ![v127.toNat, v129.toNat]

def k0_chk9 (i : grid0.Coords) (v125 : BitVec 32) : Prop :=
  (128 ∣ (k0_mult18 v125).toNat) ∧
  (∀ a, (k0_off10 i v125) a + S8x128.size a ≤ S1024x100096.size a) ∧
  (∀ a, (k0_off26 i v125) a + S8x128.size a ≤ S1024x100096.size a)
theorem k0_mult18_dvd : ∀ (i : grid0.Coords) (v125 : BitVec 32) (k0_hw9 : k0_chk9 i v125), 128 ∣ (k0_mult18 v125).toNat := fun i v125 k0_hw9 => k0_hw9.1
theorem k0_off10_inb : ∀ (i : grid0.Coords) (v125 : BitVec 32) (k0_hw9 : k0_chk9 i v125), ∀ a, (k0_off10 i v125) a + S8x128.size a ≤ S1024x100096.size a := fun i v125 k0_hw9 => k0_hw9.2.1
theorem k0_off26_inb : ∀ (i : grid0.Coords) (v125 : BitVec 32) (k0_hw9 : k0_chk9 i v125), ∀ a, (k0_off26 i v125) a + S8x128.size a ≤ S1024x100096.size a := fun i v125 k0_hw9 => k0_hw9.2.2

def k0_off27 (i : grid0.Coords) (v139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_73 : BitVec 32 := 0#32
  let v136 : BitVec 32 := Scalar.addi v2 c0_i32_73
  let c9_i32 : BitVec 32 := 9#32
  let v137 : BitVec 32 := Scalar.addi v136 c9_i32
  let c_m8_i32_74 : BitVec 32 := 4294967288#32
  let v140 : BitVec 32 := Scalar.andi v137 c_m8_i32_74
  let v141 : BitVec 32 := v140
  let c_m128_i32_75 : BitVec 32 := 4294967168#32
  let v142 : BitVec 32 := Scalar.andi v139 c_m128_i32_75
  let v143 : BitVec 32 := v142
  ![v141.toNat, v143.toNat]

def k0_chk10 (i : grid0.Coords) (v139 : BitVec 32) : Prop :=
  (128 ∣ (k0_mult20 v139).toNat) ∧
  (∀ a, (k0_off11 i v139) a + S8x128.size a ≤ S1024x100096.size a) ∧
  (∀ a, (k0_off27 i v139) a + S8x128.size a ≤ S1024x100096.size a)
theorem k0_mult20_dvd : ∀ (i : grid0.Coords) (v139 : BitVec 32) (k0_hw10 : k0_chk10 i v139), 128 ∣ (k0_mult20 v139).toNat := fun i v139 k0_hw10 => k0_hw10.1
theorem k0_off11_inb : ∀ (i : grid0.Coords) (v139 : BitVec 32) (k0_hw10 : k0_chk10 i v139), ∀ a, (k0_off11 i v139) a + S8x128.size a ≤ S1024x100096.size a := fun i v139 k0_hw10 => k0_hw10.2.1
theorem k0_off27_inb : ∀ (i : grid0.Coords) (v139 : BitVec 32) (k0_hw10 : k0_chk10 i v139), ∀ a, (k0_off27 i v139) a + S8x128.size a ≤ S1024x100096.size a := fun i v139 k0_hw10 => k0_hw10.2.2

def k0_off28 (i : grid0.Coords) (v153 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_81 : BitVec 32 := 0#32
  let v150 : BitVec 32 := Scalar.addi v2 c0_i32_81
  let c10_i32 : BitVec 32 := 10#32
  let v151 : BitVec 32 := Scalar.addi v150 c10_i32
  let c_m8_i32_82 : BitVec 32 := 4294967288#32
  let v154 : BitVec 32 := Scalar.andi v151 c_m8_i32_82
  let v155 : BitVec 32 := v154
  let c_m128_i32_83 : BitVec 32 := 4294967168#32
  let v156 : BitVec 32 := Scalar.andi v153 c_m128_i32_83
  let v157 : BitVec 32 := v156
  ![v155.toNat, v157.toNat]

def k0_chk11 (i : grid0.Coords) (v153 : BitVec 32) : Prop :=
  (128 ∣ (k0_mult22 v153).toNat) ∧
  (∀ a, (k0_off12 i v153) a + S8x128.size a ≤ S1024x100096.size a) ∧
  (∀ a, (k0_off28 i v153) a + S8x128.size a ≤ S1024x100096.size a)
theorem k0_mult22_dvd : ∀ (i : grid0.Coords) (v153 : BitVec 32) (k0_hw11 : k0_chk11 i v153), 128 ∣ (k0_mult22 v153).toNat := fun i v153 k0_hw11 => k0_hw11.1
theorem k0_off12_inb : ∀ (i : grid0.Coords) (v153 : BitVec 32) (k0_hw11 : k0_chk11 i v153), ∀ a, (k0_off12 i v153) a + S8x128.size a ≤ S1024x100096.size a := fun i v153 k0_hw11 => k0_hw11.2.1
theorem k0_off28_inb : ∀ (i : grid0.Coords) (v153 : BitVec 32) (k0_hw11 : k0_chk11 i v153), ∀ a, (k0_off28 i v153) a + S8x128.size a ≤ S1024x100096.size a := fun i v153 k0_hw11 => k0_hw11.2.2

def k0_off29 (i : grid0.Coords) (v167 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_89 : BitVec 32 := 0#32
  let v164 : BitVec 32 := Scalar.addi v2 c0_i32_89
  let c11_i32 : BitVec 32 := 11#32
  let v165 : BitVec 32 := Scalar.addi v164 c11_i32
  let c_m8_i32_90 : BitVec 32 := 4294967288#32
  let v168 : BitVec 32 := Scalar.andi v165 c_m8_i32_90
  let v169 : BitVec 32 := v168
  let c_m128_i32_91 : BitVec 32 := 4294967168#32
  let v170 : BitVec 32 := Scalar.andi v167 c_m128_i32_91
  let v171 : BitVec 32 := v170
  ![v169.toNat, v171.toNat]

def k0_chk12 (i : grid0.Coords) (v167 : BitVec 32) : Prop :=
  (128 ∣ (k0_mult24 v167).toNat) ∧
  (∀ a, (k0_off13 i v167) a + S8x128.size a ≤ S1024x100096.size a) ∧
  (∀ a, (k0_off29 i v167) a + S8x128.size a ≤ S1024x100096.size a)
theorem k0_mult24_dvd : ∀ (i : grid0.Coords) (v167 : BitVec 32) (k0_hw12 : k0_chk12 i v167), 128 ∣ (k0_mult24 v167).toNat := fun i v167 k0_hw12 => k0_hw12.1
theorem k0_off13_inb : ∀ (i : grid0.Coords) (v167 : BitVec 32) (k0_hw12 : k0_chk12 i v167), ∀ a, (k0_off13 i v167) a + S8x128.size a ≤ S1024x100096.size a := fun i v167 k0_hw12 => k0_hw12.2.1
theorem k0_off29_inb : ∀ (i : grid0.Coords) (v167 : BitVec 32) (k0_hw12 : k0_chk12 i v167), ∀ a, (k0_off29 i v167) a + S8x128.size a ≤ S1024x100096.size a := fun i v167 k0_hw12 => k0_hw12.2.2

def k0_off30 (i : grid0.Coords) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_97 : BitVec 32 := 0#32
  let v178 : BitVec 32 := Scalar.addi v2 c0_i32_97
  let c12_i32 : BitVec 32 := 12#32
  let v179 : BitVec 32 := Scalar.addi v178 c12_i32
  let c_m8_i32_98 : BitVec 32 := 4294967288#32
  let v182 : BitVec 32 := Scalar.andi v179 c_m8_i32_98
  let v183 : BitVec 32 := v182
  let c_m128_i32_99 : BitVec 32 := 4294967168#32
  let v184 : BitVec 32 := Scalar.andi v181 c_m128_i32_99
  let v185 : BitVec 32 := v184
  ![v183.toNat, v185.toNat]

def k0_chk13 (i : grid0.Coords) (v181 : BitVec 32) : Prop :=
  (128 ∣ (k0_mult26 v181).toNat) ∧
  (∀ a, (k0_off14 i v181) a + S8x128.size a ≤ S1024x100096.size a) ∧
  (∀ a, (k0_off30 i v181) a + S8x128.size a ≤ S1024x100096.size a)
theorem k0_mult26_dvd : ∀ (i : grid0.Coords) (v181 : BitVec 32) (k0_hw13 : k0_chk13 i v181), 128 ∣ (k0_mult26 v181).toNat := fun i v181 k0_hw13 => k0_hw13.1
theorem k0_off14_inb : ∀ (i : grid0.Coords) (v181 : BitVec 32) (k0_hw13 : k0_chk13 i v181), ∀ a, (k0_off14 i v181) a + S8x128.size a ≤ S1024x100096.size a := fun i v181 k0_hw13 => k0_hw13.2.1
theorem k0_off30_inb : ∀ (i : grid0.Coords) (v181 : BitVec 32) (k0_hw13 : k0_chk13 i v181), ∀ a, (k0_off30 i v181) a + S8x128.size a ≤ S1024x100096.size a := fun i v181 k0_hw13 => k0_hw13.2.2

def k0_off31 (i : grid0.Coords) (v195 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_105 : BitVec 32 := 0#32
  let v192 : BitVec 32 := Scalar.addi v2 c0_i32_105
  let c13_i32 : BitVec 32 := 13#32
  let v193 : BitVec 32 := Scalar.addi v192 c13_i32
  let c_m8_i32_106 : BitVec 32 := 4294967288#32
  let v196 : BitVec 32 := Scalar.andi v193 c_m8_i32_106
  let v197 : BitVec 32 := v196
  let c_m128_i32_107 : BitVec 32 := 4294967168#32
  let v198 : BitVec 32 := Scalar.andi v195 c_m128_i32_107
  let v199 : BitVec 32 := v198
  ![v197.toNat, v199.toNat]

def k0_chk14 (i : grid0.Coords) (v195 : BitVec 32) : Prop :=
  (128 ∣ (k0_mult28 v195).toNat) ∧
  (∀ a, (k0_off15 i v195) a + S8x128.size a ≤ S1024x100096.size a) ∧
  (∀ a, (k0_off31 i v195) a + S8x128.size a ≤ S1024x100096.size a)
theorem k0_mult28_dvd : ∀ (i : grid0.Coords) (v195 : BitVec 32) (k0_hw14 : k0_chk14 i v195), 128 ∣ (k0_mult28 v195).toNat := fun i v195 k0_hw14 => k0_hw14.1
theorem k0_off15_inb : ∀ (i : grid0.Coords) (v195 : BitVec 32) (k0_hw14 : k0_chk14 i v195), ∀ a, (k0_off15 i v195) a + S8x128.size a ≤ S1024x100096.size a := fun i v195 k0_hw14 => k0_hw14.2.1
theorem k0_off31_inb : ∀ (i : grid0.Coords) (v195 : BitVec 32) (k0_hw14 : k0_chk14 i v195), ∀ a, (k0_off31 i v195) a + S8x128.size a ≤ S1024x100096.size a := fun i v195 k0_hw14 => k0_hw14.2.2

def k0_off32 (i : grid0.Coords) (v209 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_113 : BitVec 32 := 0#32
  let v206 : BitVec 32 := Scalar.addi v2 c0_i32_113
  let c14_i32 : BitVec 32 := 14#32
  let v207 : BitVec 32 := Scalar.addi v206 c14_i32
  let c_m8_i32_114 : BitVec 32 := 4294967288#32
  let v210 : BitVec 32 := Scalar.andi v207 c_m8_i32_114
  let v211 : BitVec 32 := v210
  let c_m128_i32_115 : BitVec 32 := 4294967168#32
  let v212 : BitVec 32 := Scalar.andi v209 c_m128_i32_115
  let v213 : BitVec 32 := v212
  ![v211.toNat, v213.toNat]

def k0_chk15 (i : grid0.Coords) (v209 : BitVec 32) : Prop :=
  (128 ∣ (k0_mult30 v209).toNat) ∧
  (∀ a, (k0_off16 i v209) a + S8x128.size a ≤ S1024x100096.size a) ∧
  (∀ a, (k0_off32 i v209) a + S8x128.size a ≤ S1024x100096.size a)
theorem k0_mult30_dvd : ∀ (i : grid0.Coords) (v209 : BitVec 32) (k0_hw15 : k0_chk15 i v209), 128 ∣ (k0_mult30 v209).toNat := fun i v209 k0_hw15 => k0_hw15.1
theorem k0_off16_inb : ∀ (i : grid0.Coords) (v209 : BitVec 32) (k0_hw15 : k0_chk15 i v209), ∀ a, (k0_off16 i v209) a + S8x128.size a ≤ S1024x100096.size a := fun i v209 k0_hw15 => k0_hw15.2.1
theorem k0_off32_inb : ∀ (i : grid0.Coords) (v209 : BitVec 32) (k0_hw15 : k0_chk15 i v209), ∀ a, (k0_off32 i v209) a + S8x128.size a ≤ S1024x100096.size a := fun i v209 k0_hw15 => k0_hw15.2.2

def k0_chk17 (v331 : IVec S16 32) (v332 : IVec S16 32) (v334 : IVec S16 32) : Prop :=
  (∀ a x, ((![v331, v332, v334] : Fin 3 → IVec S16 32) a x).toNat < S16x8x128.size a)
theorem k0_idx1_inb : ∀ (v331 : IVec S16 32) (v332 : IVec S16 32) (v334 : IVec S16 32) (k0_hw17 : k0_chk17 v331 v332 v334), ∀ a x, ((![v331, v332, v334] : Fin 3 → IVec S16 32) a x).toNat < S16x8x128.size a := fun v331 v332 v334 k0_hw17 => k0_hw17

def k0_chk18 (v339 : IVec S16 32) (v340 : IVec S16 32) (v342 : IVec S16 32) : Prop :=
  (∀ a x, ((![v339, v340, v342] : Fin 3 → IVec S16 32) a x).toNat < S16x8x128.size a)
theorem k0_idx2_inb : ∀ (v339 : IVec S16 32) (v340 : IVec S16 32) (v342 : IVec S16 32) (k0_hw18 : k0_chk18 v339 v340 v342), ∀ a x, ((![v339, v340, v342] : Fin 3 → IVec S16 32) a x).toNat < S16x8x128.size a := fun v339 v340 v342 k0_hw18 => k0_hw18

def k0_chk19 (v347 : IVec S16 32) (v348 : IVec S16 32) (v350 : IVec S16 32) : Prop :=
  (∀ a x, ((![v347, v348, v350] : Fin 3 → IVec S16 32) a x).toNat < S16x8x128.size a)
theorem k0_idx3_inb : ∀ (v347 : IVec S16 32) (v348 : IVec S16 32) (v350 : IVec S16 32) (k0_hw19 : k0_chk19 v347 v348 v350), ∀ a x, ((![v347, v348, v350] : Fin 3 → IVec S16 32) a x).toNat < S16x8x128.size a := fun v347 v348 v350 k0_hw19 => k0_hw19

def k0_chk20 (v355 : IVec S16 32) (v356 : IVec S16 32) (v358 : IVec S16 32) : Prop :=
  (∀ a x, ((![v355, v356, v358] : Fin 3 → IVec S16 32) a x).toNat < S16x8x128.size a)
theorem k0_idx4_inb : ∀ (v355 : IVec S16 32) (v356 : IVec S16 32) (v358 : IVec S16 32) (k0_hw20 : k0_chk20 v355 v356 v358), ∀ a x, ((![v355, v356, v358] : Fin 3 → IVec S16 32) a x).toNat < S16x8x128.size a := fun v355 v356 v358 k0_hw20 => k0_hw20

def k0_chk21 (v363 : IVec S16 32) (v364 : IVec S16 32) (v366 : IVec S16 32) : Prop :=
  (∀ a x, ((![v363, v364, v366] : Fin 3 → IVec S16 32) a x).toNat < S16x8x128.size a)
theorem k0_idx5_inb : ∀ (v363 : IVec S16 32) (v364 : IVec S16 32) (v366 : IVec S16 32) (k0_hw21 : k0_chk21 v363 v364 v366), ∀ a x, ((![v363, v364, v366] : Fin 3 → IVec S16 32) a x).toNat < S16x8x128.size a := fun v363 v364 v366 k0_hw21 => k0_hw21

def k0_chk22 (v371 : IVec S16 32) (v372 : IVec S16 32) (v374 : IVec S16 32) : Prop :=
  (∀ a x, ((![v371, v372, v374] : Fin 3 → IVec S16 32) a x).toNat < S16x8x128.size a)
theorem k0_idx6_inb : ∀ (v371 : IVec S16 32) (v372 : IVec S16 32) (v374 : IVec S16 32) (k0_hw22 : k0_chk22 v371 v372 v374), ∀ a x, ((![v371, v372, v374] : Fin 3 → IVec S16 32) a x).toNat < S16x8x128.size a := fun v371 v372 v374 k0_hw22 => k0_hw22

def k0_chk23 (v379 : IVec S16 32) (v380 : IVec S16 32) (v382 : IVec S16 32) : Prop :=
  (∀ a x, ((![v379, v380, v382] : Fin 3 → IVec S16 32) a x).toNat < S16x8x128.size a)
theorem k0_idx7_inb : ∀ (v379 : IVec S16 32) (v380 : IVec S16 32) (v382 : IVec S16 32) (k0_hw23 : k0_chk23 v379 v380 v382), ∀ a x, ((![v379, v380, v382] : Fin 3 → IVec S16 32) a x).toNat < S16x8x128.size a := fun v379 v380 v382 k0_hw23 => k0_hw23

def k0_chk24 (v387 : IVec S16 32) (v388 : IVec S16 32) (v390 : IVec S16 32) : Prop :=
  (∀ a x, ((![v387, v388, v390] : Fin 3 → IVec S16 32) a x).toNat < S16x8x128.size a)
theorem k0_idx8_inb : ∀ (v387 : IVec S16 32) (v388 : IVec S16 32) (v390 : IVec S16 32) (k0_hw24 : k0_chk24 v387 v388 v390), ∀ a x, ((![v387, v388, v390] : Fin 3 → IVec S16 32) a x).toNat < S16x8x128.size a := fun v387 v388 v390 k0_hw24 => k0_hw24

def k0_chk25 (v395 : IVec S16 32) (v396 : IVec S16 32) (v398 : IVec S16 32) : Prop :=
  (∀ a x, ((![v395, v396, v398] : Fin 3 → IVec S16 32) a x).toNat < S16x8x128.size a)
theorem k0_idx9_inb : ∀ (v395 : IVec S16 32) (v396 : IVec S16 32) (v398 : IVec S16 32) (k0_hw25 : k0_chk25 v395 v396 v398), ∀ a x, ((![v395, v396, v398] : Fin 3 → IVec S16 32) a x).toNat < S16x8x128.size a := fun v395 v396 v398 k0_hw25 => k0_hw25

def k0_chk26 (v403 : IVec S16 32) (v404 : IVec S16 32) (v406 : IVec S16 32) : Prop :=
  (∀ a x, ((![v403, v404, v406] : Fin 3 → IVec S16 32) a x).toNat < S16x8x128.size a)
theorem k0_idx10_inb : ∀ (v403 : IVec S16 32) (v404 : IVec S16 32) (v406 : IVec S16 32) (k0_hw26 : k0_chk26 v403 v404 v406), ∀ a x, ((![v403, v404, v406] : Fin 3 → IVec S16 32) a x).toNat < S16x8x128.size a := fun v403 v404 v406 k0_hw26 => k0_hw26

def k0_chk27 (v411 : IVec S16 32) (v412 : IVec S16 32) (v414 : IVec S16 32) : Prop :=
  (∀ a x, ((![v411, v412, v414] : Fin 3 → IVec S16 32) a x).toNat < S16x8x128.size a)
theorem k0_idx11_inb : ∀ (v411 : IVec S16 32) (v412 : IVec S16 32) (v414 : IVec S16 32) (k0_hw27 : k0_chk27 v411 v412 v414), ∀ a x, ((![v411, v412, v414] : Fin 3 → IVec S16 32) a x).toNat < S16x8x128.size a := fun v411 v412 v414 k0_hw27 => k0_hw27

def k0_chk28 (v419 : IVec S16 32) (v420 : IVec S16 32) (v422 : IVec S16 32) : Prop :=
  (∀ a x, ((![v419, v420, v422] : Fin 3 → IVec S16 32) a x).toNat < S16x8x128.size a)
theorem k0_idx12_inb : ∀ (v419 : IVec S16 32) (v420 : IVec S16 32) (v422 : IVec S16 32) (k0_hw28 : k0_chk28 v419 v420 v422), ∀ a x, ((![v419, v420, v422] : Fin 3 → IVec S16 32) a x).toNat < S16x8x128.size a := fun v419 v420 v422 k0_hw28 => k0_hw28

def k0_chk29 (v427 : IVec S16 32) (v428 : IVec S16 32) (v430 : IVec S16 32) : Prop :=
  (∀ a x, ((![v427, v428, v430] : Fin 3 → IVec S16 32) a x).toNat < S16x8x128.size a)
theorem k0_idx13_inb : ∀ (v427 : IVec S16 32) (v428 : IVec S16 32) (v430 : IVec S16 32) (k0_hw29 : k0_chk29 v427 v428 v430), ∀ a x, ((![v427, v428, v430] : Fin 3 → IVec S16 32) a x).toNat < S16x8x128.size a := fun v427 v428 v430 k0_hw29 => k0_hw29

def k0_chk30 (v435 : IVec S16 32) (v436 : IVec S16 32) (v438 : IVec S16 32) : Prop :=
  (∀ a x, ((![v435, v436, v438] : Fin 3 → IVec S16 32) a x).toNat < S16x8x128.size a)
theorem k0_idx14_inb : ∀ (v435 : IVec S16 32) (v436 : IVec S16 32) (v438 : IVec S16 32) (k0_hw30 : k0_chk30 v435 v436 v438), ∀ a x, ((![v435, v436, v438] : Fin 3 → IVec S16 32) a x).toNat < S16x8x128.size a := fun v435 v436 v438 k0_hw30 => k0_hw30

def k0_chk31 (v443 : IVec S16 32) (v444 : IVec S16 32) (v446 : IVec S16 32) : Prop :=
  (∀ a x, ((![v443, v444, v446] : Fin 3 → IVec S16 32) a x).toNat < S16x8x128.size a)
theorem k0_idx15_inb : ∀ (v443 : IVec S16 32) (v444 : IVec S16 32) (v446 : IVec S16 32) (k0_hw31 : k0_chk31 v443 v444 v446), ∀ a x, ((![v443, v444, v446] : Fin 3 → IVec S16 32) a x).toNat < S16x8x128.size a := fun v443 v444 v446 k0_hw31 => k0_hw31

def k0_chk32 (v451 : IVec S16 32) (v452 : IVec S16 32) (v454 : IVec S16 32) : Prop :=
  (∀ a x, ((![v451, v452, v454] : Fin 3 → IVec S16 32) a x).toNat < S16x8x128.size a)
theorem k0_idx16_inb : ∀ (v451 : IVec S16 32) (v452 : IVec S16 32) (v454 : IVec S16 32) (k0_hw32 : k0_chk32 v451 v452 v454), ∀ a x, ((![v451, v452, v454] : Fin 3 → IVec S16 32) a x).toNat < S16x8x128.size a := fun v451 v452 v454 k0_hw32 => k0_hw32
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v603 : BitVec 32 := Scalar.addi v2 c16_i32
  let c0_i32_321 : BitVec 32 := 0#32
  let v604 : BitVec 32 := Scalar.addi v603 c0_i32_321
  let c_m8_i32_322 : BitVec 32 := 4294967288#32
  let v607 : BitVec 32 := Scalar.andi v604 c_m8_i32_322
  v607
def k0_mult34 (v606 : BitVec 32) : BitVec 32 :=
  let c_m128_i32_323 : BitVec 32 := 4294967168#32
  let v609 : BitVec 32 := Scalar.andi v606 c_m128_i32_323
  v609

def k0_off33 (i : grid0.Coords) (v606 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v603 : BitVec 32 := Scalar.addi v2 c16_i32
  let c0_i32_321 : BitVec 32 := 0#32
  let v604 : BitVec 32 := Scalar.addi v603 c0_i32_321
  let c_m8_i32_322 : BitVec 32 := 4294967288#32
  let v607 : BitVec 32 := Scalar.andi v604 c_m8_i32_322
  let v608 : BitVec 32 := v607
  let c_m128_i32_323 : BitVec 32 := 4294967168#32
  let v609 : BitVec 32 := Scalar.andi v606 c_m128_i32_323
  let v610 : BitVec 32 := v609
  ![v608.toNat, v610.toNat]
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_329 : BitVec 32 := 16#32
  let v617 : BitVec 32 := Scalar.addi v2 c16_i32_329
  let c1_i32_330 : BitVec 32 := 1#32
  let v618 : BitVec 32 := Scalar.addi v617 c1_i32_330
  let c_m8_i32_331 : BitVec 32 := 4294967288#32
  let v621 : BitVec 32 := Scalar.andi v618 c_m8_i32_331
  v621
def k0_mult36 (v620 : BitVec 32) : BitVec 32 :=
  let c_m128_i32_332 : BitVec 32 := 4294967168#32
  let v623 : BitVec 32 := Scalar.andi v620 c_m128_i32_332
  v623

def k0_off34 (i : grid0.Coords) (v620 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_329 : BitVec 32 := 16#32
  let v617 : BitVec 32 := Scalar.addi v2 c16_i32_329
  let c1_i32_330 : BitVec 32 := 1#32
  let v618 : BitVec 32 := Scalar.addi v617 c1_i32_330
  let c_m8_i32_331 : BitVec 32 := 4294967288#32
  let v621 : BitVec 32 := Scalar.andi v618 c_m8_i32_331
  let v622 : BitVec 32 := v621
  let c_m128_i32_332 : BitVec 32 := 4294967168#32
  let v623 : BitVec 32 := Scalar.andi v620 c_m128_i32_332
  let v624 : BitVec 32 := v623
  ![v622.toNat, v624.toNat]
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_338 : BitVec 32 := 16#32
  let v631 : BitVec 32 := Scalar.addi v2 c16_i32_338
  let c2_i32_339 : BitVec 32 := 2#32
  let v632 : BitVec 32 := Scalar.addi v631 c2_i32_339
  let c_m8_i32_340 : BitVec 32 := 4294967288#32
  let v635 : BitVec 32 := Scalar.andi v632 c_m8_i32_340
  v635
def k0_mult38 (v634 : BitVec 32) : BitVec 32 :=
  let c_m128_i32_341 : BitVec 32 := 4294967168#32
  let v637 : BitVec 32 := Scalar.andi v634 c_m128_i32_341
  v637

def k0_off35 (i : grid0.Coords) (v634 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_338 : BitVec 32 := 16#32
  let v631 : BitVec 32 := Scalar.addi v2 c16_i32_338
  let c2_i32_339 : BitVec 32 := 2#32
  let v632 : BitVec 32 := Scalar.addi v631 c2_i32_339
  let c_m8_i32_340 : BitVec 32 := 4294967288#32
  let v635 : BitVec 32 := Scalar.andi v632 c_m8_i32_340
  let v636 : BitVec 32 := v635
  let c_m128_i32_341 : BitVec 32 := 4294967168#32
  let v637 : BitVec 32 := Scalar.andi v634 c_m128_i32_341
  let v638 : BitVec 32 := v637
  ![v636.toNat, v638.toNat]
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_347 : BitVec 32 := 16#32
  let v645 : BitVec 32 := Scalar.addi v2 c16_i32_347
  let c3_i32_348 : BitVec 32 := 3#32
  let v646 : BitVec 32 := Scalar.addi v645 c3_i32_348
  let c_m8_i32_349 : BitVec 32 := 4294967288#32
  let v649 : BitVec 32 := Scalar.andi v646 c_m8_i32_349
  v649
def k0_mult40 (v648 : BitVec 32) : BitVec 32 :=
  let c_m128_i32_350 : BitVec 32 := 4294967168#32
  let v651 : BitVec 32 := Scalar.andi v648 c_m128_i32_350
  v651

def k0_off36 (i : grid0.Coords) (v648 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_347 : BitVec 32 := 16#32
  let v645 : BitVec 32 := Scalar.addi v2 c16_i32_347
  let c3_i32_348 : BitVec 32 := 3#32
  let v646 : BitVec 32 := Scalar.addi v645 c3_i32_348
  let c_m8_i32_349 : BitVec 32 := 4294967288#32
  let v649 : BitVec 32 := Scalar.andi v646 c_m8_i32_349
  let v650 : BitVec 32 := v649
  let c_m128_i32_350 : BitVec 32 := 4294967168#32
  let v651 : BitVec 32 := Scalar.andi v648 c_m128_i32_350
  let v652 : BitVec 32 := v651
  ![v650.toNat, v652.toNat]
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_356 : BitVec 32 := 16#32
  let v659 : BitVec 32 := Scalar.addi v2 c16_i32_356
  let c4_i32_357 : BitVec 32 := 4#32
  let v660 : BitVec 32 := Scalar.addi v659 c4_i32_357
  let c_m8_i32_358 : BitVec 32 := 4294967288#32
  let v663 : BitVec 32 := Scalar.andi v660 c_m8_i32_358
  v663
def k0_mult42 (v662 : BitVec 32) : BitVec 32 :=
  let c_m128_i32_359 : BitVec 32 := 4294967168#32
  let v665 : BitVec 32 := Scalar.andi v662 c_m128_i32_359
  v665

def k0_off37 (i : grid0.Coords) (v662 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_356 : BitVec 32 := 16#32
  let v659 : BitVec 32 := Scalar.addi v2 c16_i32_356
  let c4_i32_357 : BitVec 32 := 4#32
  let v660 : BitVec 32 := Scalar.addi v659 c4_i32_357
  let c_m8_i32_358 : BitVec 32 := 4294967288#32
  let v663 : BitVec 32 := Scalar.andi v660 c_m8_i32_358
  let v664 : BitVec 32 := v663
  let c_m128_i32_359 : BitVec 32 := 4294967168#32
  let v665 : BitVec 32 := Scalar.andi v662 c_m128_i32_359
  let v666 : BitVec 32 := v665
  ![v664.toNat, v666.toNat]
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_365 : BitVec 32 := 16#32
  let v673 : BitVec 32 := Scalar.addi v2 c16_i32_365
  let c5_i32_366 : BitVec 32 := 5#32
  let v674 : BitVec 32 := Scalar.addi v673 c5_i32_366
  let c_m8_i32_367 : BitVec 32 := 4294967288#32
  let v677 : BitVec 32 := Scalar.andi v674 c_m8_i32_367
  v677
def k0_mult44 (v676 : BitVec 32) : BitVec 32 :=
  let c_m128_i32_368 : BitVec 32 := 4294967168#32
  let v679 : BitVec 32 := Scalar.andi v676 c_m128_i32_368
  v679

def k0_off38 (i : grid0.Coords) (v676 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_365 : BitVec 32 := 16#32
  let v673 : BitVec 32 := Scalar.addi v2 c16_i32_365
  let c5_i32_366 : BitVec 32 := 5#32
  let v674 : BitVec 32 := Scalar.addi v673 c5_i32_366
  let c_m8_i32_367 : BitVec 32 := 4294967288#32
  let v677 : BitVec 32 := Scalar.andi v674 c_m8_i32_367
  let v678 : BitVec 32 := v677
  let c_m128_i32_368 : BitVec 32 := 4294967168#32
  let v679 : BitVec 32 := Scalar.andi v676 c_m128_i32_368
  let v680 : BitVec 32 := v679
  ![v678.toNat, v680.toNat]
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_374 : BitVec 32 := 16#32
  let v687 : BitVec 32 := Scalar.addi v2 c16_i32_374
  let c6_i32_375 : BitVec 32 := 6#32
  let v688 : BitVec 32 := Scalar.addi v687 c6_i32_375
  let c_m8_i32_376 : BitVec 32 := 4294967288#32
  let v691 : BitVec 32 := Scalar.andi v688 c_m8_i32_376
  v691
def k0_mult46 (v690 : BitVec 32) : BitVec 32 :=
  let c_m128_i32_377 : BitVec 32 := 4294967168#32
  let v693 : BitVec 32 := Scalar.andi v690 c_m128_i32_377
  v693

def k0_off39 (i : grid0.Coords) (v690 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_374 : BitVec 32 := 16#32
  let v687 : BitVec 32 := Scalar.addi v2 c16_i32_374
  let c6_i32_375 : BitVec 32 := 6#32
  let v688 : BitVec 32 := Scalar.addi v687 c6_i32_375
  let c_m8_i32_376 : BitVec 32 := 4294967288#32
  let v691 : BitVec 32 := Scalar.andi v688 c_m8_i32_376
  let v692 : BitVec 32 := v691
  let c_m128_i32_377 : BitVec 32 := 4294967168#32
  let v693 : BitVec 32 := Scalar.andi v690 c_m128_i32_377
  let v694 : BitVec 32 := v693
  ![v692.toNat, v694.toNat]
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_383 : BitVec 32 := 16#32
  let v701 : BitVec 32 := Scalar.addi v2 c16_i32_383
  let c7_i32_384 : BitVec 32 := 7#32
  let v702 : BitVec 32 := Scalar.addi v701 c7_i32_384
  let c_m8_i32_385 : BitVec 32 := 4294967288#32
  let v705 : BitVec 32 := Scalar.andi v702 c_m8_i32_385
  v705
def k0_mult48 (v704 : BitVec 32) : BitVec 32 :=
  let c_m128_i32_386 : BitVec 32 := 4294967168#32
  let v707 : BitVec 32 := Scalar.andi v704 c_m128_i32_386
  v707

def k0_off40 (i : grid0.Coords) (v704 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_383 : BitVec 32 := 16#32
  let v701 : BitVec 32 := Scalar.addi v2 c16_i32_383
  let c7_i32_384 : BitVec 32 := 7#32
  let v702 : BitVec 32 := Scalar.addi v701 c7_i32_384
  let c_m8_i32_385 : BitVec 32 := 4294967288#32
  let v705 : BitVec 32 := Scalar.andi v702 c_m8_i32_385
  let v706 : BitVec 32 := v705
  let c_m128_i32_386 : BitVec 32 := 4294967168#32
  let v707 : BitVec 32 := Scalar.andi v704 c_m128_i32_386
  let v708 : BitVec 32 := v707
  ![v706.toNat, v708.toNat]
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_392 : BitVec 32 := 16#32
  let v715 : BitVec 32 := Scalar.addi v2 c16_i32_392
  let c8_i32_393 : BitVec 32 := 8#32
  let v716 : BitVec 32 := Scalar.addi v715 c8_i32_393
  let c_m8_i32_394 : BitVec 32 := 4294967288#32
  let v719 : BitVec 32 := Scalar.andi v716 c_m8_i32_394
  v719
def k0_mult50 (v718 : BitVec 32) : BitVec 32 :=
  let c_m128_i32_395 : BitVec 32 := 4294967168#32
  let v721 : BitVec 32 := Scalar.andi v718 c_m128_i32_395
  v721

def k0_off41 (i : grid0.Coords) (v718 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_392 : BitVec 32 := 16#32
  let v715 : BitVec 32 := Scalar.addi v2 c16_i32_392
  let c8_i32_393 : BitVec 32 := 8#32
  let v716 : BitVec 32 := Scalar.addi v715 c8_i32_393
  let c_m8_i32_394 : BitVec 32 := 4294967288#32
  let v719 : BitVec 32 := Scalar.andi v716 c_m8_i32_394
  let v720 : BitVec 32 := v719
  let c_m128_i32_395 : BitVec 32 := 4294967168#32
  let v721 : BitVec 32 := Scalar.andi v718 c_m128_i32_395
  let v722 : BitVec 32 := v721
  ![v720.toNat, v722.toNat]
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_401 : BitVec 32 := 16#32
  let v729 : BitVec 32 := Scalar.addi v2 c16_i32_401
  let c9_i32_402 : BitVec 32 := 9#32
  let v730 : BitVec 32 := Scalar.addi v729 c9_i32_402
  let c_m8_i32_403 : BitVec 32 := 4294967288#32
  let v733 : BitVec 32 := Scalar.andi v730 c_m8_i32_403
  v733
def k0_mult52 (v732 : BitVec 32) : BitVec 32 :=
  let c_m128_i32_404 : BitVec 32 := 4294967168#32
  let v735 : BitVec 32 := Scalar.andi v732 c_m128_i32_404
  v735

def k0_off42 (i : grid0.Coords) (v732 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_401 : BitVec 32 := 16#32
  let v729 : BitVec 32 := Scalar.addi v2 c16_i32_401
  let c9_i32_402 : BitVec 32 := 9#32
  let v730 : BitVec 32 := Scalar.addi v729 c9_i32_402
  let c_m8_i32_403 : BitVec 32 := 4294967288#32
  let v733 : BitVec 32 := Scalar.andi v730 c_m8_i32_403
  let v734 : BitVec 32 := v733
  let c_m128_i32_404 : BitVec 32 := 4294967168#32
  let v735 : BitVec 32 := Scalar.andi v732 c_m128_i32_404
  let v736 : BitVec 32 := v735
  ![v734.toNat, v736.toNat]
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_410 : BitVec 32 := 16#32
  let v743 : BitVec 32 := Scalar.addi v2 c16_i32_410
  let c10_i32_411 : BitVec 32 := 10#32
  let v744 : BitVec 32 := Scalar.addi v743 c10_i32_411
  let c_m8_i32_412 : BitVec 32 := 4294967288#32
  let v747 : BitVec 32 := Scalar.andi v744 c_m8_i32_412
  v747
def k0_mult54 (v746 : BitVec 32) : BitVec 32 :=
  let c_m128_i32_413 : BitVec 32 := 4294967168#32
  let v749 : BitVec 32 := Scalar.andi v746 c_m128_i32_413
  v749

def k0_off43 (i : grid0.Coords) (v746 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_410 : BitVec 32 := 16#32
  let v743 : BitVec 32 := Scalar.addi v2 c16_i32_410
  let c10_i32_411 : BitVec 32 := 10#32
  let v744 : BitVec 32 := Scalar.addi v743 c10_i32_411
  let c_m8_i32_412 : BitVec 32 := 4294967288#32
  let v747 : BitVec 32 := Scalar.andi v744 c_m8_i32_412
  let v748 : BitVec 32 := v747
  let c_m128_i32_413 : BitVec 32 := 4294967168#32
  let v749 : BitVec 32 := Scalar.andi v746 c_m128_i32_413
  let v750 : BitVec 32 := v749
  ![v748.toNat, v750.toNat]
def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_419 : BitVec 32 := 16#32
  let v757 : BitVec 32 := Scalar.addi v2 c16_i32_419
  let c11_i32_420 : BitVec 32 := 11#32
  let v758 : BitVec 32 := Scalar.addi v757 c11_i32_420
  let c_m8_i32_421 : BitVec 32 := 4294967288#32
  let v761 : BitVec 32 := Scalar.andi v758 c_m8_i32_421
  v761
def k0_mult56 (v760 : BitVec 32) : BitVec 32 :=
  let c_m128_i32_422 : BitVec 32 := 4294967168#32
  let v763 : BitVec 32 := Scalar.andi v760 c_m128_i32_422
  v763

def k0_off44 (i : grid0.Coords) (v760 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_419 : BitVec 32 := 16#32
  let v757 : BitVec 32 := Scalar.addi v2 c16_i32_419
  let c11_i32_420 : BitVec 32 := 11#32
  let v758 : BitVec 32 := Scalar.addi v757 c11_i32_420
  let c_m8_i32_421 : BitVec 32 := 4294967288#32
  let v761 : BitVec 32 := Scalar.andi v758 c_m8_i32_421
  let v762 : BitVec 32 := v761
  let c_m128_i32_422 : BitVec 32 := 4294967168#32
  let v763 : BitVec 32 := Scalar.andi v760 c_m128_i32_422
  let v764 : BitVec 32 := v763
  ![v762.toNat, v764.toNat]
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_428 : BitVec 32 := 16#32
  let v771 : BitVec 32 := Scalar.addi v2 c16_i32_428
  let c12_i32_429 : BitVec 32 := 12#32
  let v772 : BitVec 32 := Scalar.addi v771 c12_i32_429
  let c_m8_i32_430 : BitVec 32 := 4294967288#32
  let v775 : BitVec 32 := Scalar.andi v772 c_m8_i32_430
  v775
def k0_mult58 (v774 : BitVec 32) : BitVec 32 :=
  let c_m128_i32_431 : BitVec 32 := 4294967168#32
  let v777 : BitVec 32 := Scalar.andi v774 c_m128_i32_431
  v777

def k0_off45 (i : grid0.Coords) (v774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_428 : BitVec 32 := 16#32
  let v771 : BitVec 32 := Scalar.addi v2 c16_i32_428
  let c12_i32_429 : BitVec 32 := 12#32
  let v772 : BitVec 32 := Scalar.addi v771 c12_i32_429
  let c_m8_i32_430 : BitVec 32 := 4294967288#32
  let v775 : BitVec 32 := Scalar.andi v772 c_m8_i32_430
  let v776 : BitVec 32 := v775
  let c_m128_i32_431 : BitVec 32 := 4294967168#32
  let v777 : BitVec 32 := Scalar.andi v774 c_m128_i32_431
  let v778 : BitVec 32 := v777
  ![v776.toNat, v778.toNat]
def k0_mult59 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_437 : BitVec 32 := 16#32
  let v785 : BitVec 32 := Scalar.addi v2 c16_i32_437
  let c13_i32_438 : BitVec 32 := 13#32
  let v786 : BitVec 32 := Scalar.addi v785 c13_i32_438
  let c_m8_i32_439 : BitVec 32 := 4294967288#32
  let v789 : BitVec 32 := Scalar.andi v786 c_m8_i32_439
  v789
def k0_mult60 (v788 : BitVec 32) : BitVec 32 :=
  let c_m128_i32_440 : BitVec 32 := 4294967168#32
  let v791 : BitVec 32 := Scalar.andi v788 c_m128_i32_440
  v791

def k0_off46 (i : grid0.Coords) (v788 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_437 : BitVec 32 := 16#32
  let v785 : BitVec 32 := Scalar.addi v2 c16_i32_437
  let c13_i32_438 : BitVec 32 := 13#32
  let v786 : BitVec 32 := Scalar.addi v785 c13_i32_438
  let c_m8_i32_439 : BitVec 32 := 4294967288#32
  let v789 : BitVec 32 := Scalar.andi v786 c_m8_i32_439
  let v790 : BitVec 32 := v789
  let c_m128_i32_440 : BitVec 32 := 4294967168#32
  let v791 : BitVec 32 := Scalar.andi v788 c_m128_i32_440
  let v792 : BitVec 32 := v791
  ![v790.toNat, v792.toNat]
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_446 : BitVec 32 := 16#32
  let v799 : BitVec 32 := Scalar.addi v2 c16_i32_446
  let c14_i32_447 : BitVec 32 := 14#32
  let v800 : BitVec 32 := Scalar.addi v799 c14_i32_447
  let c_m8_i32_448 : BitVec 32 := 4294967288#32
  let v803 : BitVec 32 := Scalar.andi v800 c_m8_i32_448
  v803
def k0_mult62 (v802 : BitVec 32) : BitVec 32 :=
  let c_m128_i32_449 : BitVec 32 := 4294967168#32
  let v805 : BitVec 32 := Scalar.andi v802 c_m128_i32_449
  v805

def k0_off47 (i : grid0.Coords) (v802 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_446 : BitVec 32 := 16#32
  let v799 : BitVec 32 := Scalar.addi v2 c16_i32_446
  let c14_i32_447 : BitVec 32 := 14#32
  let v800 : BitVec 32 := Scalar.addi v799 c14_i32_447
  let c_m8_i32_448 : BitVec 32 := 4294967288#32
  let v803 : BitVec 32 := Scalar.andi v800 c_m8_i32_448
  let v804 : BitVec 32 := v803
  let c_m128_i32_449 : BitVec 32 := 4294967168#32
  let v805 : BitVec 32 := Scalar.andi v802 c_m128_i32_449
  let v806 : BitVec 32 := v805
  ![v804.toNat, v806.toNat]
def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_455 : BitVec 32 := 16#32
  let v813 : BitVec 32 := Scalar.addi v2 c16_i32_455
  let c15_i32_456 : BitVec 32 := 15#32
  let v814 : BitVec 32 := Scalar.addi v813 c15_i32_456
  let c_m8_i32_457 : BitVec 32 := 4294967288#32
  let v817 : BitVec 32 := Scalar.andi v814 c_m8_i32_457
  v817
def k0_mult64 (v816 : BitVec 32) : BitVec 32 :=
  let c_m128_i32_458 : BitVec 32 := 4294967168#32
  let v819 : BitVec 32 := Scalar.andi v816 c_m128_i32_458
  v819

def k0_off48 (i : grid0.Coords) (v816 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_455 : BitVec 32 := 16#32
  let v813 : BitVec 32 := Scalar.addi v2 c16_i32_455
  let c15_i32_456 : BitVec 32 := 15#32
  let v814 : BitVec 32 := Scalar.addi v813 c15_i32_456
  let c_m8_i32_457 : BitVec 32 := 4294967288#32
  let v817 : BitVec 32 := Scalar.andi v814 c_m8_i32_457
  let v818 : BitVec 32 := v817
  let c_m128_i32_458 : BitVec 32 := 4294967168#32
  let v819 : BitVec 32 := Scalar.andi v816 c_m128_i32_458
  let v820 : BitVec 32 := v819
  ![v818.toNat, v820.toNat]

def k0_chk48 (i : grid0.Coords) (v816 : BitVec 32) : Prop :=
  (128 ∣ (k0_mult64 v816).toNat) ∧
  (∀ a, (k0_off48 i v816) a + S8x128.size a ≤ S1024x100096.size a)
theorem k0_mult64_dvd : ∀ (i : grid0.Coords) (v816 : BitVec 32) (k0_hw48 : k0_chk48 i v816), 128 ∣ (k0_mult64 v816).toNat := fun i v816 k0_hw48 => k0_hw48.1
theorem k0_off48_inb : ∀ (i : grid0.Coords) (v816 : BitVec 32) (k0_hw48 : k0_chk48 i v816), ∀ a, (k0_off48 i v816) a + S8x128.size a ≤ S1024x100096.size a := fun i v816 k0_hw48 => k0_hw48.2

def k0_off49 (i : grid0.Coords) (v606 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v603 : BitVec 32 := Scalar.addi v2 c16_i32
  let c0_i32_321 : BitVec 32 := 0#32
  let v604 : BitVec 32 := Scalar.addi v603 c0_i32_321
  let c_m8_i32_322 : BitVec 32 := 4294967288#32
  let v607 : BitVec 32 := Scalar.andi v604 c_m8_i32_322
  let v608 : BitVec 32 := v607
  let c_m128_i32_323 : BitVec 32 := 4294967168#32
  let v609 : BitVec 32 := Scalar.andi v606 c_m128_i32_323
  let v610 : BitVec 32 := v609
  ![v608.toNat, v610.toNat]

def k0_chk33 (i : grid0.Coords) (v606 : BitVec 32) : Prop :=
  (128 ∣ (k0_mult34 v606).toNat) ∧
  (∀ a, (k0_off33 i v606) a + S8x128.size a ≤ S1024x100096.size a) ∧
  (∀ a, (k0_off49 i v606) a + S8x128.size a ≤ S1024x100096.size a)
theorem k0_mult34_dvd : ∀ (i : grid0.Coords) (v606 : BitVec 32) (k0_hw33 : k0_chk33 i v606), 128 ∣ (k0_mult34 v606).toNat := fun i v606 k0_hw33 => k0_hw33.1
theorem k0_off33_inb : ∀ (i : grid0.Coords) (v606 : BitVec 32) (k0_hw33 : k0_chk33 i v606), ∀ a, (k0_off33 i v606) a + S8x128.size a ≤ S1024x100096.size a := fun i v606 k0_hw33 => k0_hw33.2.1
theorem k0_off49_inb : ∀ (i : grid0.Coords) (v606 : BitVec 32) (k0_hw33 : k0_chk33 i v606), ∀ a, (k0_off49 i v606) a + S8x128.size a ≤ S1024x100096.size a := fun i v606 k0_hw33 => k0_hw33.2.2

def k0_off50 (i : grid0.Coords) (v620 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_329 : BitVec 32 := 16#32
  let v617 : BitVec 32 := Scalar.addi v2 c16_i32_329
  let c1_i32_330 : BitVec 32 := 1#32
  let v618 : BitVec 32 := Scalar.addi v617 c1_i32_330
  let c_m8_i32_331 : BitVec 32 := 4294967288#32
  let v621 : BitVec 32 := Scalar.andi v618 c_m8_i32_331
  let v622 : BitVec 32 := v621
  let c_m128_i32_332 : BitVec 32 := 4294967168#32
  let v623 : BitVec 32 := Scalar.andi v620 c_m128_i32_332
  let v624 : BitVec 32 := v623
  ![v622.toNat, v624.toNat]

def k0_chk34 (i : grid0.Coords) (v620 : BitVec 32) : Prop :=
  (128 ∣ (k0_mult36 v620).toNat) ∧
  (∀ a, (k0_off34 i v620) a + S8x128.size a ≤ S1024x100096.size a) ∧
  (∀ a, (k0_off50 i v620) a + S8x128.size a ≤ S1024x100096.size a)
theorem k0_mult36_dvd : ∀ (i : grid0.Coords) (v620 : BitVec 32) (k0_hw34 : k0_chk34 i v620), 128 ∣ (k0_mult36 v620).toNat := fun i v620 k0_hw34 => k0_hw34.1
theorem k0_off34_inb : ∀ (i : grid0.Coords) (v620 : BitVec 32) (k0_hw34 : k0_chk34 i v620), ∀ a, (k0_off34 i v620) a + S8x128.size a ≤ S1024x100096.size a := fun i v620 k0_hw34 => k0_hw34.2.1
theorem k0_off50_inb : ∀ (i : grid0.Coords) (v620 : BitVec 32) (k0_hw34 : k0_chk34 i v620), ∀ a, (k0_off50 i v620) a + S8x128.size a ≤ S1024x100096.size a := fun i v620 k0_hw34 => k0_hw34.2.2

def k0_off51 (i : grid0.Coords) (v634 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_338 : BitVec 32 := 16#32
  let v631 : BitVec 32 := Scalar.addi v2 c16_i32_338
  let c2_i32_339 : BitVec 32 := 2#32
  let v632 : BitVec 32 := Scalar.addi v631 c2_i32_339
  let c_m8_i32_340 : BitVec 32 := 4294967288#32
  let v635 : BitVec 32 := Scalar.andi v632 c_m8_i32_340
  let v636 : BitVec 32 := v635
  let c_m128_i32_341 : BitVec 32 := 4294967168#32
  let v637 : BitVec 32 := Scalar.andi v634 c_m128_i32_341
  let v638 : BitVec 32 := v637
  ![v636.toNat, v638.toNat]

def k0_chk35 (i : grid0.Coords) (v634 : BitVec 32) : Prop :=
  (128 ∣ (k0_mult38 v634).toNat) ∧
  (∀ a, (k0_off35 i v634) a + S8x128.size a ≤ S1024x100096.size a) ∧
  (∀ a, (k0_off51 i v634) a + S8x128.size a ≤ S1024x100096.size a)
theorem k0_mult38_dvd : ∀ (i : grid0.Coords) (v634 : BitVec 32) (k0_hw35 : k0_chk35 i v634), 128 ∣ (k0_mult38 v634).toNat := fun i v634 k0_hw35 => k0_hw35.1
theorem k0_off35_inb : ∀ (i : grid0.Coords) (v634 : BitVec 32) (k0_hw35 : k0_chk35 i v634), ∀ a, (k0_off35 i v634) a + S8x128.size a ≤ S1024x100096.size a := fun i v634 k0_hw35 => k0_hw35.2.1
theorem k0_off51_inb : ∀ (i : grid0.Coords) (v634 : BitVec 32) (k0_hw35 : k0_chk35 i v634), ∀ a, (k0_off51 i v634) a + S8x128.size a ≤ S1024x100096.size a := fun i v634 k0_hw35 => k0_hw35.2.2

def k0_off52 (i : grid0.Coords) (v648 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_347 : BitVec 32 := 16#32
  let v645 : BitVec 32 := Scalar.addi v2 c16_i32_347
  let c3_i32_348 : BitVec 32 := 3#32
  let v646 : BitVec 32 := Scalar.addi v645 c3_i32_348
  let c_m8_i32_349 : BitVec 32 := 4294967288#32
  let v649 : BitVec 32 := Scalar.andi v646 c_m8_i32_349
  let v650 : BitVec 32 := v649
  let c_m128_i32_350 : BitVec 32 := 4294967168#32
  let v651 : BitVec 32 := Scalar.andi v648 c_m128_i32_350
  let v652 : BitVec 32 := v651
  ![v650.toNat, v652.toNat]

def k0_chk36 (i : grid0.Coords) (v648 : BitVec 32) : Prop :=
  (128 ∣ (k0_mult40 v648).toNat) ∧
  (∀ a, (k0_off36 i v648) a + S8x128.size a ≤ S1024x100096.size a) ∧
  (∀ a, (k0_off52 i v648) a + S8x128.size a ≤ S1024x100096.size a)
theorem k0_mult40_dvd : ∀ (i : grid0.Coords) (v648 : BitVec 32) (k0_hw36 : k0_chk36 i v648), 128 ∣ (k0_mult40 v648).toNat := fun i v648 k0_hw36 => k0_hw36.1
theorem k0_off36_inb : ∀ (i : grid0.Coords) (v648 : BitVec 32) (k0_hw36 : k0_chk36 i v648), ∀ a, (k0_off36 i v648) a + S8x128.size a ≤ S1024x100096.size a := fun i v648 k0_hw36 => k0_hw36.2.1
theorem k0_off52_inb : ∀ (i : grid0.Coords) (v648 : BitVec 32) (k0_hw36 : k0_chk36 i v648), ∀ a, (k0_off52 i v648) a + S8x128.size a ≤ S1024x100096.size a := fun i v648 k0_hw36 => k0_hw36.2.2

def k0_off53 (i : grid0.Coords) (v662 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_356 : BitVec 32 := 16#32
  let v659 : BitVec 32 := Scalar.addi v2 c16_i32_356
  let c4_i32_357 : BitVec 32 := 4#32
  let v660 : BitVec 32 := Scalar.addi v659 c4_i32_357
  let c_m8_i32_358 : BitVec 32 := 4294967288#32
  let v663 : BitVec 32 := Scalar.andi v660 c_m8_i32_358
  let v664 : BitVec 32 := v663
  let c_m128_i32_359 : BitVec 32 := 4294967168#32
  let v665 : BitVec 32 := Scalar.andi v662 c_m128_i32_359
  let v666 : BitVec 32 := v665
  ![v664.toNat, v666.toNat]

def k0_chk37 (i : grid0.Coords) (v662 : BitVec 32) : Prop :=
  (128 ∣ (k0_mult42 v662).toNat) ∧
  (∀ a, (k0_off37 i v662) a + S8x128.size a ≤ S1024x100096.size a) ∧
  (∀ a, (k0_off53 i v662) a + S8x128.size a ≤ S1024x100096.size a)
theorem k0_mult42_dvd : ∀ (i : grid0.Coords) (v662 : BitVec 32) (k0_hw37 : k0_chk37 i v662), 128 ∣ (k0_mult42 v662).toNat := fun i v662 k0_hw37 => k0_hw37.1
theorem k0_off37_inb : ∀ (i : grid0.Coords) (v662 : BitVec 32) (k0_hw37 : k0_chk37 i v662), ∀ a, (k0_off37 i v662) a + S8x128.size a ≤ S1024x100096.size a := fun i v662 k0_hw37 => k0_hw37.2.1
theorem k0_off53_inb : ∀ (i : grid0.Coords) (v662 : BitVec 32) (k0_hw37 : k0_chk37 i v662), ∀ a, (k0_off53 i v662) a + S8x128.size a ≤ S1024x100096.size a := fun i v662 k0_hw37 => k0_hw37.2.2

def k0_off54 (i : grid0.Coords) (v676 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_365 : BitVec 32 := 16#32
  let v673 : BitVec 32 := Scalar.addi v2 c16_i32_365
  let c5_i32_366 : BitVec 32 := 5#32
  let v674 : BitVec 32 := Scalar.addi v673 c5_i32_366
  let c_m8_i32_367 : BitVec 32 := 4294967288#32
  let v677 : BitVec 32 := Scalar.andi v674 c_m8_i32_367
  let v678 : BitVec 32 := v677
  let c_m128_i32_368 : BitVec 32 := 4294967168#32
  let v679 : BitVec 32 := Scalar.andi v676 c_m128_i32_368
  let v680 : BitVec 32 := v679
  ![v678.toNat, v680.toNat]

def k0_chk38 (i : grid0.Coords) (v676 : BitVec 32) : Prop :=
  (128 ∣ (k0_mult44 v676).toNat) ∧
  (∀ a, (k0_off38 i v676) a + S8x128.size a ≤ S1024x100096.size a) ∧
  (∀ a, (k0_off54 i v676) a + S8x128.size a ≤ S1024x100096.size a)
theorem k0_mult44_dvd : ∀ (i : grid0.Coords) (v676 : BitVec 32) (k0_hw38 : k0_chk38 i v676), 128 ∣ (k0_mult44 v676).toNat := fun i v676 k0_hw38 => k0_hw38.1
theorem k0_off38_inb : ∀ (i : grid0.Coords) (v676 : BitVec 32) (k0_hw38 : k0_chk38 i v676), ∀ a, (k0_off38 i v676) a + S8x128.size a ≤ S1024x100096.size a := fun i v676 k0_hw38 => k0_hw38.2.1
theorem k0_off54_inb : ∀ (i : grid0.Coords) (v676 : BitVec 32) (k0_hw38 : k0_chk38 i v676), ∀ a, (k0_off54 i v676) a + S8x128.size a ≤ S1024x100096.size a := fun i v676 k0_hw38 => k0_hw38.2.2

def k0_off55 (i : grid0.Coords) (v690 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_374 : BitVec 32 := 16#32
  let v687 : BitVec 32 := Scalar.addi v2 c16_i32_374
  let c6_i32_375 : BitVec 32 := 6#32
  let v688 : BitVec 32 := Scalar.addi v687 c6_i32_375
  let c_m8_i32_376 : BitVec 32 := 4294967288#32
  let v691 : BitVec 32 := Scalar.andi v688 c_m8_i32_376
  let v692 : BitVec 32 := v691
  let c_m128_i32_377 : BitVec 32 := 4294967168#32
  let v693 : BitVec 32 := Scalar.andi v690 c_m128_i32_377
  let v694 : BitVec 32 := v693
  ![v692.toNat, v694.toNat]

def k0_chk39 (i : grid0.Coords) (v690 : BitVec 32) : Prop :=
  (128 ∣ (k0_mult46 v690).toNat) ∧
  (∀ a, (k0_off39 i v690) a + S8x128.size a ≤ S1024x100096.size a) ∧
  (∀ a, (k0_off55 i v690) a + S8x128.size a ≤ S1024x100096.size a)
theorem k0_mult46_dvd : ∀ (i : grid0.Coords) (v690 : BitVec 32) (k0_hw39 : k0_chk39 i v690), 128 ∣ (k0_mult46 v690).toNat := fun i v690 k0_hw39 => k0_hw39.1
theorem k0_off39_inb : ∀ (i : grid0.Coords) (v690 : BitVec 32) (k0_hw39 : k0_chk39 i v690), ∀ a, (k0_off39 i v690) a + S8x128.size a ≤ S1024x100096.size a := fun i v690 k0_hw39 => k0_hw39.2.1
theorem k0_off55_inb : ∀ (i : grid0.Coords) (v690 : BitVec 32) (k0_hw39 : k0_chk39 i v690), ∀ a, (k0_off55 i v690) a + S8x128.size a ≤ S1024x100096.size a := fun i v690 k0_hw39 => k0_hw39.2.2

def k0_off56 (i : grid0.Coords) (v704 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_383 : BitVec 32 := 16#32
  let v701 : BitVec 32 := Scalar.addi v2 c16_i32_383
  let c7_i32_384 : BitVec 32 := 7#32
  let v702 : BitVec 32 := Scalar.addi v701 c7_i32_384
  let c_m8_i32_385 : BitVec 32 := 4294967288#32
  let v705 : BitVec 32 := Scalar.andi v702 c_m8_i32_385
  let v706 : BitVec 32 := v705
  let c_m128_i32_386 : BitVec 32 := 4294967168#32
  let v707 : BitVec 32 := Scalar.andi v704 c_m128_i32_386
  let v708 : BitVec 32 := v707
  ![v706.toNat, v708.toNat]

def k0_chk40 (i : grid0.Coords) (v704 : BitVec 32) : Prop :=
  (128 ∣ (k0_mult48 v704).toNat) ∧
  (∀ a, (k0_off40 i v704) a + S8x128.size a ≤ S1024x100096.size a) ∧
  (∀ a, (k0_off56 i v704) a + S8x128.size a ≤ S1024x100096.size a)
theorem k0_mult48_dvd : ∀ (i : grid0.Coords) (v704 : BitVec 32) (k0_hw40 : k0_chk40 i v704), 128 ∣ (k0_mult48 v704).toNat := fun i v704 k0_hw40 => k0_hw40.1
theorem k0_off40_inb : ∀ (i : grid0.Coords) (v704 : BitVec 32) (k0_hw40 : k0_chk40 i v704), ∀ a, (k0_off40 i v704) a + S8x128.size a ≤ S1024x100096.size a := fun i v704 k0_hw40 => k0_hw40.2.1
theorem k0_off56_inb : ∀ (i : grid0.Coords) (v704 : BitVec 32) (k0_hw40 : k0_chk40 i v704), ∀ a, (k0_off56 i v704) a + S8x128.size a ≤ S1024x100096.size a := fun i v704 k0_hw40 => k0_hw40.2.2

def k0_off57 (i : grid0.Coords) (v718 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_392 : BitVec 32 := 16#32
  let v715 : BitVec 32 := Scalar.addi v2 c16_i32_392
  let c8_i32_393 : BitVec 32 := 8#32
  let v716 : BitVec 32 := Scalar.addi v715 c8_i32_393
  let c_m8_i32_394 : BitVec 32 := 4294967288#32
  let v719 : BitVec 32 := Scalar.andi v716 c_m8_i32_394
  let v720 : BitVec 32 := v719
  let c_m128_i32_395 : BitVec 32 := 4294967168#32
  let v721 : BitVec 32 := Scalar.andi v718 c_m128_i32_395
  let v722 : BitVec 32 := v721
  ![v720.toNat, v722.toNat]

def k0_chk41 (i : grid0.Coords) (v718 : BitVec 32) : Prop :=
  (128 ∣ (k0_mult50 v718).toNat) ∧
  (∀ a, (k0_off41 i v718) a + S8x128.size a ≤ S1024x100096.size a) ∧
  (∀ a, (k0_off57 i v718) a + S8x128.size a ≤ S1024x100096.size a)
theorem k0_mult50_dvd : ∀ (i : grid0.Coords) (v718 : BitVec 32) (k0_hw41 : k0_chk41 i v718), 128 ∣ (k0_mult50 v718).toNat := fun i v718 k0_hw41 => k0_hw41.1
theorem k0_off41_inb : ∀ (i : grid0.Coords) (v718 : BitVec 32) (k0_hw41 : k0_chk41 i v718), ∀ a, (k0_off41 i v718) a + S8x128.size a ≤ S1024x100096.size a := fun i v718 k0_hw41 => k0_hw41.2.1
theorem k0_off57_inb : ∀ (i : grid0.Coords) (v718 : BitVec 32) (k0_hw41 : k0_chk41 i v718), ∀ a, (k0_off57 i v718) a + S8x128.size a ≤ S1024x100096.size a := fun i v718 k0_hw41 => k0_hw41.2.2

def k0_off58 (i : grid0.Coords) (v732 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_401 : BitVec 32 := 16#32
  let v729 : BitVec 32 := Scalar.addi v2 c16_i32_401
  let c9_i32_402 : BitVec 32 := 9#32
  let v730 : BitVec 32 := Scalar.addi v729 c9_i32_402
  let c_m8_i32_403 : BitVec 32 := 4294967288#32
  let v733 : BitVec 32 := Scalar.andi v730 c_m8_i32_403
  let v734 : BitVec 32 := v733
  let c_m128_i32_404 : BitVec 32 := 4294967168#32
  let v735 : BitVec 32 := Scalar.andi v732 c_m128_i32_404
  let v736 : BitVec 32 := v735
  ![v734.toNat, v736.toNat]

def k0_chk42 (i : grid0.Coords) (v732 : BitVec 32) : Prop :=
  (128 ∣ (k0_mult52 v732).toNat) ∧
  (∀ a, (k0_off42 i v732) a + S8x128.size a ≤ S1024x100096.size a) ∧
  (∀ a, (k0_off58 i v732) a + S8x128.size a ≤ S1024x100096.size a)
theorem k0_mult52_dvd : ∀ (i : grid0.Coords) (v732 : BitVec 32) (k0_hw42 : k0_chk42 i v732), 128 ∣ (k0_mult52 v732).toNat := fun i v732 k0_hw42 => k0_hw42.1
theorem k0_off42_inb : ∀ (i : grid0.Coords) (v732 : BitVec 32) (k0_hw42 : k0_chk42 i v732), ∀ a, (k0_off42 i v732) a + S8x128.size a ≤ S1024x100096.size a := fun i v732 k0_hw42 => k0_hw42.2.1
theorem k0_off58_inb : ∀ (i : grid0.Coords) (v732 : BitVec 32) (k0_hw42 : k0_chk42 i v732), ∀ a, (k0_off58 i v732) a + S8x128.size a ≤ S1024x100096.size a := fun i v732 k0_hw42 => k0_hw42.2.2

def k0_off59 (i : grid0.Coords) (v746 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_410 : BitVec 32 := 16#32
  let v743 : BitVec 32 := Scalar.addi v2 c16_i32_410
  let c10_i32_411 : BitVec 32 := 10#32
  let v744 : BitVec 32 := Scalar.addi v743 c10_i32_411
  let c_m8_i32_412 : BitVec 32 := 4294967288#32
  let v747 : BitVec 32 := Scalar.andi v744 c_m8_i32_412
  let v748 : BitVec 32 := v747
  let c_m128_i32_413 : BitVec 32 := 4294967168#32
  let v749 : BitVec 32 := Scalar.andi v746 c_m128_i32_413
  let v750 : BitVec 32 := v749
  ![v748.toNat, v750.toNat]

def k0_chk43 (i : grid0.Coords) (v746 : BitVec 32) : Prop :=
  (128 ∣ (k0_mult54 v746).toNat) ∧
  (∀ a, (k0_off43 i v746) a + S8x128.size a ≤ S1024x100096.size a) ∧
  (∀ a, (k0_off59 i v746) a + S8x128.size a ≤ S1024x100096.size a)
theorem k0_mult54_dvd : ∀ (i : grid0.Coords) (v746 : BitVec 32) (k0_hw43 : k0_chk43 i v746), 128 ∣ (k0_mult54 v746).toNat := fun i v746 k0_hw43 => k0_hw43.1
theorem k0_off43_inb : ∀ (i : grid0.Coords) (v746 : BitVec 32) (k0_hw43 : k0_chk43 i v746), ∀ a, (k0_off43 i v746) a + S8x128.size a ≤ S1024x100096.size a := fun i v746 k0_hw43 => k0_hw43.2.1
theorem k0_off59_inb : ∀ (i : grid0.Coords) (v746 : BitVec 32) (k0_hw43 : k0_chk43 i v746), ∀ a, (k0_off59 i v746) a + S8x128.size a ≤ S1024x100096.size a := fun i v746 k0_hw43 => k0_hw43.2.2

def k0_off60 (i : grid0.Coords) (v760 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_419 : BitVec 32 := 16#32
  let v757 : BitVec 32 := Scalar.addi v2 c16_i32_419
  let c11_i32_420 : BitVec 32 := 11#32
  let v758 : BitVec 32 := Scalar.addi v757 c11_i32_420
  let c_m8_i32_421 : BitVec 32 := 4294967288#32
  let v761 : BitVec 32 := Scalar.andi v758 c_m8_i32_421
  let v762 : BitVec 32 := v761
  let c_m128_i32_422 : BitVec 32 := 4294967168#32
  let v763 : BitVec 32 := Scalar.andi v760 c_m128_i32_422
  let v764 : BitVec 32 := v763
  ![v762.toNat, v764.toNat]

def k0_chk44 (i : grid0.Coords) (v760 : BitVec 32) : Prop :=
  (128 ∣ (k0_mult56 v760).toNat) ∧
  (∀ a, (k0_off44 i v760) a + S8x128.size a ≤ S1024x100096.size a) ∧
  (∀ a, (k0_off60 i v760) a + S8x128.size a ≤ S1024x100096.size a)
theorem k0_mult56_dvd : ∀ (i : grid0.Coords) (v760 : BitVec 32) (k0_hw44 : k0_chk44 i v760), 128 ∣ (k0_mult56 v760).toNat := fun i v760 k0_hw44 => k0_hw44.1
theorem k0_off44_inb : ∀ (i : grid0.Coords) (v760 : BitVec 32) (k0_hw44 : k0_chk44 i v760), ∀ a, (k0_off44 i v760) a + S8x128.size a ≤ S1024x100096.size a := fun i v760 k0_hw44 => k0_hw44.2.1
theorem k0_off60_inb : ∀ (i : grid0.Coords) (v760 : BitVec 32) (k0_hw44 : k0_chk44 i v760), ∀ a, (k0_off60 i v760) a + S8x128.size a ≤ S1024x100096.size a := fun i v760 k0_hw44 => k0_hw44.2.2

def k0_off61 (i : grid0.Coords) (v774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_428 : BitVec 32 := 16#32
  let v771 : BitVec 32 := Scalar.addi v2 c16_i32_428
  let c12_i32_429 : BitVec 32 := 12#32
  let v772 : BitVec 32 := Scalar.addi v771 c12_i32_429
  let c_m8_i32_430 : BitVec 32 := 4294967288#32
  let v775 : BitVec 32 := Scalar.andi v772 c_m8_i32_430
  let v776 : BitVec 32 := v775
  let c_m128_i32_431 : BitVec 32 := 4294967168#32
  let v777 : BitVec 32 := Scalar.andi v774 c_m128_i32_431
  let v778 : BitVec 32 := v777
  ![v776.toNat, v778.toNat]

def k0_chk45 (i : grid0.Coords) (v774 : BitVec 32) : Prop :=
  (128 ∣ (k0_mult58 v774).toNat) ∧
  (∀ a, (k0_off45 i v774) a + S8x128.size a ≤ S1024x100096.size a) ∧
  (∀ a, (k0_off61 i v774) a + S8x128.size a ≤ S1024x100096.size a)
theorem k0_mult58_dvd : ∀ (i : grid0.Coords) (v774 : BitVec 32) (k0_hw45 : k0_chk45 i v774), 128 ∣ (k0_mult58 v774).toNat := fun i v774 k0_hw45 => k0_hw45.1
theorem k0_off45_inb : ∀ (i : grid0.Coords) (v774 : BitVec 32) (k0_hw45 : k0_chk45 i v774), ∀ a, (k0_off45 i v774) a + S8x128.size a ≤ S1024x100096.size a := fun i v774 k0_hw45 => k0_hw45.2.1
theorem k0_off61_inb : ∀ (i : grid0.Coords) (v774 : BitVec 32) (k0_hw45 : k0_chk45 i v774), ∀ a, (k0_off61 i v774) a + S8x128.size a ≤ S1024x100096.size a := fun i v774 k0_hw45 => k0_hw45.2.2

def k0_off62 (i : grid0.Coords) (v788 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_437 : BitVec 32 := 16#32
  let v785 : BitVec 32 := Scalar.addi v2 c16_i32_437
  let c13_i32_438 : BitVec 32 := 13#32
  let v786 : BitVec 32 := Scalar.addi v785 c13_i32_438
  let c_m8_i32_439 : BitVec 32 := 4294967288#32
  let v789 : BitVec 32 := Scalar.andi v786 c_m8_i32_439
  let v790 : BitVec 32 := v789
  let c_m128_i32_440 : BitVec 32 := 4294967168#32
  let v791 : BitVec 32 := Scalar.andi v788 c_m128_i32_440
  let v792 : BitVec 32 := v791
  ![v790.toNat, v792.toNat]

def k0_chk46 (i : grid0.Coords) (v788 : BitVec 32) : Prop :=
  (128 ∣ (k0_mult60 v788).toNat) ∧
  (∀ a, (k0_off46 i v788) a + S8x128.size a ≤ S1024x100096.size a) ∧
  (∀ a, (k0_off62 i v788) a + S8x128.size a ≤ S1024x100096.size a)
theorem k0_mult60_dvd : ∀ (i : grid0.Coords) (v788 : BitVec 32) (k0_hw46 : k0_chk46 i v788), 128 ∣ (k0_mult60 v788).toNat := fun i v788 k0_hw46 => k0_hw46.1
theorem k0_off46_inb : ∀ (i : grid0.Coords) (v788 : BitVec 32) (k0_hw46 : k0_chk46 i v788), ∀ a, (k0_off46 i v788) a + S8x128.size a ≤ S1024x100096.size a := fun i v788 k0_hw46 => k0_hw46.2.1
theorem k0_off62_inb : ∀ (i : grid0.Coords) (v788 : BitVec 32) (k0_hw46 : k0_chk46 i v788), ∀ a, (k0_off62 i v788) a + S8x128.size a ≤ S1024x100096.size a := fun i v788 k0_hw46 => k0_hw46.2.2

def k0_off63 (i : grid0.Coords) (v802 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_446 : BitVec 32 := 16#32
  let v799 : BitVec 32 := Scalar.addi v2 c16_i32_446
  let c14_i32_447 : BitVec 32 := 14#32
  let v800 : BitVec 32 := Scalar.addi v799 c14_i32_447
  let c_m8_i32_448 : BitVec 32 := 4294967288#32
  let v803 : BitVec 32 := Scalar.andi v800 c_m8_i32_448
  let v804 : BitVec 32 := v803
  let c_m128_i32_449 : BitVec 32 := 4294967168#32
  let v805 : BitVec 32 := Scalar.andi v802 c_m128_i32_449
  let v806 : BitVec 32 := v805
  ![v804.toNat, v806.toNat]

def k0_chk47 (i : grid0.Coords) (v802 : BitVec 32) : Prop :=
  (128 ∣ (k0_mult62 v802).toNat) ∧
  (∀ a, (k0_off47 i v802) a + S8x128.size a ≤ S1024x100096.size a) ∧
  (∀ a, (k0_off63 i v802) a + S8x128.size a ≤ S1024x100096.size a)
theorem k0_mult62_dvd : ∀ (i : grid0.Coords) (v802 : BitVec 32) (k0_hw47 : k0_chk47 i v802), 128 ∣ (k0_mult62 v802).toNat := fun i v802 k0_hw47 => k0_hw47.1
theorem k0_off47_inb : ∀ (i : grid0.Coords) (v802 : BitVec 32) (k0_hw47 : k0_chk47 i v802), ∀ a, (k0_off47 i v802) a + S8x128.size a ≤ S1024x100096.size a := fun i v802 k0_hw47 => k0_hw47.2.1
theorem k0_off63_inb : ∀ (i : grid0.Coords) (v802 : BitVec 32) (k0_hw47 : k0_chk47 i v802), ∀ a, (k0_off63 i v802) a + S8x128.size a ≤ S1024x100096.size a := fun i v802 k0_hw47 => k0_hw47.2.2

def k0_chk49 (v924 : IVec S16 32) (v925 : IVec S16 32) (v927 : IVec S16 32) : Prop :=
  (∀ a x, ((![v924, v925, v927] : Fin 3 → IVec S16 32) a x).toNat < S16x8x128.size a)
theorem k0_idx17_inb : ∀ (v924 : IVec S16 32) (v925 : IVec S16 32) (v927 : IVec S16 32) (k0_hw49 : k0_chk49 v924 v925 v927), ∀ a x, ((![v924, v925, v927] : Fin 3 → IVec S16 32) a x).toNat < S16x8x128.size a := fun v924 v925 v927 k0_hw49 => k0_hw49

def k0_chk50 (v932 : IVec S16 32) (v933 : IVec S16 32) (v935 : IVec S16 32) : Prop :=
  (∀ a x, ((![v932, v933, v935] : Fin 3 → IVec S16 32) a x).toNat < S16x8x128.size a)
theorem k0_idx18_inb : ∀ (v932 : IVec S16 32) (v933 : IVec S16 32) (v935 : IVec S16 32) (k0_hw50 : k0_chk50 v932 v933 v935), ∀ a x, ((![v932, v933, v935] : Fin 3 → IVec S16 32) a x).toNat < S16x8x128.size a := fun v932 v933 v935 k0_hw50 => k0_hw50

def k0_chk51 (v940 : IVec S16 32) (v941 : IVec S16 32) (v943 : IVec S16 32) : Prop :=
  (∀ a x, ((![v940, v941, v943] : Fin 3 → IVec S16 32) a x).toNat < S16x8x128.size a)
theorem k0_idx19_inb : ∀ (v940 : IVec S16 32) (v941 : IVec S16 32) (v943 : IVec S16 32) (k0_hw51 : k0_chk51 v940 v941 v943), ∀ a x, ((![v940, v941, v943] : Fin 3 → IVec S16 32) a x).toNat < S16x8x128.size a := fun v940 v941 v943 k0_hw51 => k0_hw51

def k0_chk52 (v948 : IVec S16 32) (v949 : IVec S16 32) (v951 : IVec S16 32) : Prop :=
  (∀ a x, ((![v948, v949, v951] : Fin 3 → IVec S16 32) a x).toNat < S16x8x128.size a)
theorem k0_idx20_inb : ∀ (v948 : IVec S16 32) (v949 : IVec S16 32) (v951 : IVec S16 32) (k0_hw52 : k0_chk52 v948 v949 v951), ∀ a x, ((![v948, v949, v951] : Fin 3 → IVec S16 32) a x).toNat < S16x8x128.size a := fun v948 v949 v951 k0_hw52 => k0_hw52

def k0_chk53 (v956 : IVec S16 32) (v957 : IVec S16 32) (v959 : IVec S16 32) : Prop :=
  (∀ a x, ((![v956, v957, v959] : Fin 3 → IVec S16 32) a x).toNat < S16x8x128.size a)
theorem k0_idx21_inb : ∀ (v956 : IVec S16 32) (v957 : IVec S16 32) (v959 : IVec S16 32) (k0_hw53 : k0_chk53 v956 v957 v959), ∀ a x, ((![v956, v957, v959] : Fin 3 → IVec S16 32) a x).toNat < S16x8x128.size a := fun v956 v957 v959 k0_hw53 => k0_hw53

def k0_chk54 (v964 : IVec S16 32) (v965 : IVec S16 32) (v967 : IVec S16 32) : Prop :=
  (∀ a x, ((![v964, v965, v967] : Fin 3 → IVec S16 32) a x).toNat < S16x8x128.size a)
theorem k0_idx22_inb : ∀ (v964 : IVec S16 32) (v965 : IVec S16 32) (v967 : IVec S16 32) (k0_hw54 : k0_chk54 v964 v965 v967), ∀ a x, ((![v964, v965, v967] : Fin 3 → IVec S16 32) a x).toNat < S16x8x128.size a := fun v964 v965 v967 k0_hw54 => k0_hw54

def k0_chk55 (v972 : IVec S16 32) (v973 : IVec S16 32) (v975 : IVec S16 32) : Prop :=
  (∀ a x, ((![v972, v973, v975] : Fin 3 → IVec S16 32) a x).toNat < S16x8x128.size a)
theorem k0_idx23_inb : ∀ (v972 : IVec S16 32) (v973 : IVec S16 32) (v975 : IVec S16 32) (k0_hw55 : k0_chk55 v972 v973 v975), ∀ a x, ((![v972, v973, v975] : Fin 3 → IVec S16 32) a x).toNat < S16x8x128.size a := fun v972 v973 v975 k0_hw55 => k0_hw55

def k0_chk56 (v980 : IVec S16 32) (v981 : IVec S16 32) (v983 : IVec S16 32) : Prop :=
  (∀ a x, ((![v980, v981, v983] : Fin 3 → IVec S16 32) a x).toNat < S16x8x128.size a)
theorem k0_idx24_inb : ∀ (v980 : IVec S16 32) (v981 : IVec S16 32) (v983 : IVec S16 32) (k0_hw56 : k0_chk56 v980 v981 v983), ∀ a x, ((![v980, v981, v983] : Fin 3 → IVec S16 32) a x).toNat < S16x8x128.size a := fun v980 v981 v983 k0_hw56 => k0_hw56

def k0_chk57 (v988 : IVec S16 32) (v989 : IVec S16 32) (v991 : IVec S16 32) : Prop :=
  (∀ a x, ((![v988, v989, v991] : Fin 3 → IVec S16 32) a x).toNat < S16x8x128.size a)
theorem k0_idx25_inb : ∀ (v988 : IVec S16 32) (v989 : IVec S16 32) (v991 : IVec S16 32) (k0_hw57 : k0_chk57 v988 v989 v991), ∀ a x, ((![v988, v989, v991] : Fin 3 → IVec S16 32) a x).toNat < S16x8x128.size a := fun v988 v989 v991 k0_hw57 => k0_hw57

def k0_chk58 (v996 : IVec S16 32) (v997 : IVec S16 32) (v999 : IVec S16 32) : Prop :=
  (∀ a x, ((![v996, v997, v999] : Fin 3 → IVec S16 32) a x).toNat < S16x8x128.size a)
theorem k0_idx26_inb : ∀ (v996 : IVec S16 32) (v997 : IVec S16 32) (v999 : IVec S16 32) (k0_hw58 : k0_chk58 v996 v997 v999), ∀ a x, ((![v996, v997, v999] : Fin 3 → IVec S16 32) a x).toNat < S16x8x128.size a := fun v996 v997 v999 k0_hw58 => k0_hw58

def k0_chk59 (v1004 : IVec S16 32) (v1005 : IVec S16 32) (v1007 : IVec S16 32) : Prop :=
  (∀ a x, ((![v1004, v1005, v1007] : Fin 3 → IVec S16 32) a x).toNat < S16x8x128.size a)
theorem k0_idx27_inb : ∀ (v1004 : IVec S16 32) (v1005 : IVec S16 32) (v1007 : IVec S16 32) (k0_hw59 : k0_chk59 v1004 v1005 v1007), ∀ a x, ((![v1004, v1005, v1007] : Fin 3 → IVec S16 32) a x).toNat < S16x8x128.size a := fun v1004 v1005 v1007 k0_hw59 => k0_hw59

def k0_chk60 (v1012 : IVec S16 32) (v1013 : IVec S16 32) (v1015 : IVec S16 32) : Prop :=
  (∀ a x, ((![v1012, v1013, v1015] : Fin 3 → IVec S16 32) a x).toNat < S16x8x128.size a)
theorem k0_idx28_inb : ∀ (v1012 : IVec S16 32) (v1013 : IVec S16 32) (v1015 : IVec S16 32) (k0_hw60 : k0_chk60 v1012 v1013 v1015), ∀ a x, ((![v1012, v1013, v1015] : Fin 3 → IVec S16 32) a x).toNat < S16x8x128.size a := fun v1012 v1013 v1015 k0_hw60 => k0_hw60

def k0_chk61 (v1020 : IVec S16 32) (v1021 : IVec S16 32) (v1023 : IVec S16 32) : Prop :=
  (∀ a x, ((![v1020, v1021, v1023] : Fin 3 → IVec S16 32) a x).toNat < S16x8x128.size a)
theorem k0_idx29_inb : ∀ (v1020 : IVec S16 32) (v1021 : IVec S16 32) (v1023 : IVec S16 32) (k0_hw61 : k0_chk61 v1020 v1021 v1023), ∀ a x, ((![v1020, v1021, v1023] : Fin 3 → IVec S16 32) a x).toNat < S16x8x128.size a := fun v1020 v1021 v1023 k0_hw61 => k0_hw61

def k0_chk62 (v1028 : IVec S16 32) (v1029 : IVec S16 32) (v1031 : IVec S16 32) : Prop :=
  (∀ a x, ((![v1028, v1029, v1031] : Fin 3 → IVec S16 32) a x).toNat < S16x8x128.size a)
theorem k0_idx30_inb : ∀ (v1028 : IVec S16 32) (v1029 : IVec S16 32) (v1031 : IVec S16 32) (k0_hw62 : k0_chk62 v1028 v1029 v1031), ∀ a x, ((![v1028, v1029, v1031] : Fin 3 → IVec S16 32) a x).toNat < S16x8x128.size a := fun v1028 v1029 v1031 k0_hw62 => k0_hw62

def k0_chk63 (v1036 : IVec S16 32) (v1037 : IVec S16 32) (v1039 : IVec S16 32) : Prop :=
  (∀ a x, ((![v1036, v1037, v1039] : Fin 3 → IVec S16 32) a x).toNat < S16x8x128.size a)
theorem k0_idx31_inb : ∀ (v1036 : IVec S16 32) (v1037 : IVec S16 32) (v1039 : IVec S16 32) (k0_hw63 : k0_chk63 v1036 v1037 v1039), ∀ a x, ((![v1036, v1037, v1039] : Fin 3 → IVec S16 32) a x).toNat < S16x8x128.size a := fun v1036 v1037 v1039 k0_hw63 => k0_hw63

def k0_chk64 (v1044 : IVec S16 32) (v1045 : IVec S16 32) (v1047 : IVec S16 32) : Prop :=
  (∀ a x, ((![v1044, v1045, v1047] : Fin 3 → IVec S16 32) a x).toNat < S16x8x128.size a)
theorem k0_idx32_inb : ∀ (v1044 : IVec S16 32) (v1045 : IVec S16 32) (v1047 : IVec S16 32) (k0_hw64 : k0_chk64 v1044 v1045 v1047), ∀ a x, ((![v1044, v1045, v1047] : Fin 3 → IVec S16 32) a x).toNat < S16x8x128.size a := fun v1044 v1045 v1047 k0_hw64 => k0_hw64
def k0_off64 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨2, ![64, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S16x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x100000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "cos_m" => some ((Real.sqrt (54194568723295 / 70368744177664) : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 56
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x100000, .f32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024x1, .i32⟩
  | .hbm, ⟨29, _⟩ => ⟨S1024x2, .i32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x1, .i32⟩
  | .hbm, ⟨50, _⟩ => ⟨S1024x2, .i32⟩
  | .hbm, ⟨51, _⟩ => ⟨S1024x100000, .f32⟩
  | .hbm, ⟨52, _⟩ => ⟨S1024x100000, .f32⟩
  | .hbm, ⟨53, _⟩ => ⟨S_, .f32⟩
  | .hbm, ⟨54, _⟩ => ⟨S1024x100000, .f32⟩
  | .hbm, ⟨55, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Preds.lean ====
/-
  The preconditions read back: what each array's being all ones says of the labels and of the cosines.
-/
module

public import proofs.«01_k».proof.Defs
public import Idealize.ShloMosaic.Lib.ReduceAll
public import Idealize.ShloMosaic.Lib.Affine

@[expose] public section

noncomputable section

namespace Cert.Proof.Preds

open Idealize.ShloMosaic

instance : Subsingleton (Cert.Pre_labels_in_range.S_).Idx := ⟨fun _ _ => funext fun i => i.elim0⟩
instance : Subsingleton (Cert.Pre_cosines.S_).Idx := ⟨fun _ _ => funext fun i => i.elim0⟩

/-- A label: −1 or a column. -/
def InRange (w : BitVec 32) : Prop := -1 ≤ w.toInt ∧ w.toInt < 100000

theorem inRange_of {w : BitVec 32} (h : IntOp.andi (IntOp.cmpi .sge w 4294967295#32) (IntOp.cmpi .slt w 100000#32) = 1#1) : InRange w := by
  obtain ⟨h1, h2⟩ := IntOp.andi_eq_one.1 h
  exact ⟨IntOp.cmpi_sge.1 h1, IntOp.cmpi_slt.1 h2⟩

/-- `labels_in_range`. -/
theorem labels [Cert.Pre_labels_in_range.Facts] {F : FTy → Type} [FloatOps F] (x : FVec F Cert.Pre_labels_in_range.S1024x100000 .f32)
    (L : IVec Cert.Pre_labels_in_range.S1024 32) (h : Cert.Pre_labels_in_range.fn x L = fun _ => 1#1) (i : Cert.Pre_labels_in_range.S1024.Idx) :
    InRange (L i) :=
  inRange_of (Host.reduce_andi_all _ _ _ _ (fun a => a.elim0) (congrFun h _) i)

/-- `cosines`, of the labels. -/
theorem cosines_labels [Cert.Pre_cosines.Facts] {F : FTy → Type} [FloatOps F] (x : FVec F Cert.Pre_cosines.S1024x100000 .f32)
    (L : IVec Cert.Pre_cosines.S1024 32) (h : Cert.Pre_cosines.fn x L = fun _ => 1#1) (i : Cert.Pre_cosines.S1024.Idx) : InRange (L i) :=
  inRange_of (Host.reduce_andi_all _ _ _ _ (fun a => a.elim0) (IntOp.andi_eq_one.1 (congrFun h (fun a => a.elim0))).1 i)

/-- `cosines`, of the logits, at the extended reals. -/
theorem cosines_logits [Cert.Pre_cosines.Facts] (x : FVec Ideal Cert.Pre_cosines.S1024x100000 .f32)
    (L : IVec Cert.Pre_cosines.S1024 32) (h : Cert.Pre_cosines.fn x L = fun _ => 1#1) (i : Cert.Pre_cosines.S1024x100000.Idx) :
    max (x i : EReal) (-(x i : EReal)) ≤ Ideal.ofBits .f32 0x3F7FFFFF#32 ∨ max (x i : EReal) (-(x i : EReal)) = Ideal.ofBits .f32 0x3F800000#32 := by
  have e := Host.reduce_andi_all _ _ _ _ (fun a => a.elim0) (IntOp.andi_eq_one.1 (congrFun h (fun a => a.elim0))).2 i
  have e' : IntOp.ori (Ideal.cmp .ole (max (x i : EReal) (-(x i : EReal))) (Ideal.ofBits .f32 0x3F7FFFFF#32))
      (Ideal.cmp .oeq (max (x i : EReal) (-(x i : EReal))) (Ideal.ofBits .f32 0x3F800000#32)) = 1#1 := e
  have ofBool : ∀ b : Bool, BitVec.ofBool b = 1#1 → b = true := by decide
  rcases IntOp.ori_eq_one.1 e' with h | h
  · exact Or.inl (of_decide_eq_true (ofBool _ h))
  · exact Or.inr (of_decide_eq_true (ofBool _ h))

end Cert.Proof.Preds

end
-- ==== Proof.Ki.Base.lean ====
/-
  The SparseCore call of `KernelIdeal`, what it is about: the program as the launch theorem sees it, the buffers a tile
  reads and writes, the words of `labels` its lanes look up, the blocks of the padded cosines its copies fetch, and the
  value each lane ends with.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Batch
public import Idealize.ShloMosaic.Lib.ShareLeaves
public import Idealize.ShloMosaic.Lib.ValueLayout
public import Idealize.ShloMosaic.Lib.Pointwise
public import Idealize.ShloMosaic.Lib.Tactic
public import proofs.«01_k».proof.Proof.Gen.KernelIdeal
public import proofs.«01_k».proof.Proof.Gen.KernelIdeal.Skeleton

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The TensorCore pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev xLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1

/-- The padded cosines, the labels and the call's result as a tile names them; the tile's labels, its sixteen fetched
    blocks, its thirty-two results. -/
abbrev xV : Memref sig .scVector .hbm S1024x100096 .f32 := Memref.whole main_v0_scv
abbrev lV : Memref sig .scVector .hbm S1024 .i32 := Memref.whole main_arg1_scv
abbrev oV : Memref sig .scVector .hbm S1024 .f32 := Memref.whole main_v1_scv
abbrev labV : Memref sig .scVector .vmem S32 .i32 := Memref.whole cc0_scratch0
abbrev gatV : Memref sig .scVector .vmem S16x8x128 .f32 := Memref.whole cc0_scratch1
abbrev corV : Memref sig .scVector .vmem S32 .f32 := Memref.whole cc0_scratch2

abbrev cV (L : grid0.Coords) : Fin τ.nSC := (L 0).castLE hcore0
abbrev jV (L : grid0.Coords) : Fin τ.nSub := (L 1).castLE hsub0
/-- The thread of tile `(L 0, L 1)`. -/
abbrev thr (d : Dev nD) (L : grid0.Coords) : Thread nD τ := V d (cV L) (jV L)

/-! ## The rows of a tile -/

theorem core_lt (L : grid0.Coords) : (L 0).val < 2 := (L 0).isLt
theorem sub_lt (L : grid0.Coords) : (L 1).val < 16 := (L 1).isLt

/-- The tile's number: subcore times two plus core. -/
def wid (L : grid0.Coords) : Fin 32 := ⟨(L 1).val * 2 + (L 0).val, by have := core_lt L; have := sub_lt L; omega⟩

/-- Row `16 w + l` of the tile's thirty-two. -/
def row (L : grid0.Coords) (w : Fin 2) (l : Fin 16) : Fin 1024 :=
  ⟨32 * (wid L).val + 16 * w.val + l.val, by have := (wid L).isLt; omega⟩

/-- The label a lane works with: `0` for a negative one. -/
def safe (v : BitVec 32) : BitVec 32 := Scalar.select (IntOp.cmpi .slt v 0#32) 0#32 v

/-- Every label is `-1` or a column. -/
def LabelsOK (Lb : S1024.Idx → BitVec 32) : Prop := ∀ j, (safe (Lb j)).toNat < 100000

/-- Lane `l`'s word in half `w`. -/
def lane (Lb : S1024.Idx → BitVec 32) (L : grid0.Coords) (w : Fin 2) (l : Fin 16) : BitVec 32 := safe (Lb (ix1 (row L w l)))

/-- The sixteen labels of half `w`, as the tile loads them. -/
def labs (Lb : S1024.Idx → BitVec 32) (L : grid0.Coords) (w : Fin 2) : S16.Idx → BitVec 32 := fun x => Lb (ix1 (row L w (x 0)))

/-- The cosine of lane `l` in half `w`. -/
def pick (X : S1024x100096.Idx → F .f32) (Lb : S1024.Idx → BitVec 32) (L : grid0.Coords) (w : Fin 2) (l : Fin 16) : F .f32 :=
  X (ix2 (row L w l) (Fin.ofNat 100096 (lane Lb L w l).toNat))

/-- The block lane `l`'s copy fetches holds, at `(a, b)`, element `(8 ⌊r/8⌋ + a, 128 ⌊c/128⌋ + b)` of the padded cosines. -/
def blockAt (X : S1024x100096.Idx → F .f32) (Lb : S1024.Idx → BitVec 32) (L : grid0.Coords) (w : Fin 2) (l : Fin 16)
    (a : Fin 8) (b : Fin 128) : F .f32 :=
  X (ix2 (Fin.ofNat 1024 (8 * ((row L w l).val / 8) + a.val)) (Fin.ofNat 100096 (128 * ((lane Lb L w l).toNat / 128) + b.val)))

/-! ## Words -/

theorem andi_mask (v : BitVec 32) : (Scalar.andi v 4294967168#32).toNat = 128 * (v.toNat / 128) := by
  show (v &&& 4294967168#32).toNat = _
  rw [BitVec.toNat_and]
  apply Nat.eq_of_testBit_eq
  intro i
  have h128 : (128 : ℕ) = 2 ^ 7 := rfl
  rw [Nat.testBit_and, h128, Nat.testBit_two_pow_mul, Nat.testBit_div_two_pow]
  by_cases hi : i < 32
  · have key : ∀ i : Fin 32, (4294967168#32 : BitVec 32).toNat.testBit i.val = decide (i.val ≥ 7) := by decide
    rw [key ⟨i, hi⟩]
    by_cases h7 : i ≥ 7
    · rw [Nat.sub_add_cancel h7]; simp [h7]
    · simp [h7]
  · have hv : v.toNat.testBit i = false := Nat.testBit_lt_two_pow (lt_of_lt_of_le v.isLt (Nat.pow_le_pow_right (by decide) (by omega)))
    have h7 : i ≥ 7 := by omega
    rw [Nat.sub_add_cancel h7, hv]; simp

theorem andi_low (v : BitVec 32) : (Scalar.andi v 127#32).toNat = v.toNat % 128 := by
  show (v &&& 127#32).toNat = _
  rw [BitVec.toNat_and]
  exact Nat.and_two_pow_sub_one_eq_mod v.toNat 7

/-- The first row of a lane's block, as the program computes it. -/
def rowW (i : grid0.Coords) (a b : BitVec 32) : BitVec 32 :=
  Scalar.andi (Scalar.addi (Scalar.addi (Scalar.muli (Scalar.addi (Scalar.muli (BitVec.ofNat 32 (i 1).val) 2#32) (BitVec.ofNat 32 (i 0).val)) 32#32) a) b) 4294967288#32

theorem rowW_eq : ∀ (i : grid0.Coords) (w : Fin 2) (l : Fin 16),
    (rowW i (BitVec.ofNat 32 (16 * w.val)) (BitVec.ofNat 32 l.val)).toNat = 8 * ((row i w l).val / 8) := by decide +kernel

/-- The offsets of a lane's block. -/
abbrev blockOff (i : grid0.Coords) (w : Fin 2) (l : Fin 16) (v : BitVec 32) : Fin 2 → ℕ :=
  ![(rowW i (BitVec.ofNat 32 (16 * w.val)) (BitVec.ofNat 32 l.val)).toNat, (Scalar.andi v 4294967168#32).toNat]

theorem blockOff_inb (i : grid0.Coords) (w : Fin 2) (l : Fin 16) {v : BitVec 32} (hv : v.toNat < 100000) :
    ∀ a, blockOff i w l v a + S8x128.size a ≤ S1024x100096.size a := by
  intro a
  match a with
  | 0 =>
    show (rowW i _ _).toNat + 8 ≤ 1024
    rw [rowW_eq]; have := (row i w l).isLt; omega
  | 1 =>
    show (Scalar.andi v _).toNat + 128 ≤ 100096
    rw [andi_mask]; omega

theorem mask_dvd (v : BitVec 32) : 128 ∣ (Scalar.andi v 4294967168#32).toNat := ⟨_, andi_mask v⟩

/-- What the program checks of a lane's word before its copy. -/
theorem chk_of (i : grid0.Coords) (w : Fin 2) (l : Fin 16) {v : BitVec 32} (hv : v.toNat < 100000) :
    128 ∣ (Scalar.andi v 4294967168#32).toNat ∧ (∀ a, blockOff i w l v a + S8x128.size a ≤ S1024x100096.size a)
      ∧ (∀ a, blockOff i w l v a + S8x128.size a ≤ S1024x100096.size a) :=
  ⟨mask_dvd v, blockOff_inb i w l hv, blockOff_inb i w l hv⟩

theorem chk_of' (i : grid0.Coords) (w : Fin 2) (l : Fin 16) {v : BitVec 32} (hv : v.toNat < 100000) :
    128 ∣ (Scalar.andi v 4294967168#32).toNat ∧ (∀ a, blockOff i w l v a + S8x128.size a ≤ S1024x100096.size a) :=
  ⟨mask_dvd v, blockOff_inb i w l hv⟩

theorem lane_lt {Lb : S1024.Idx → BitVec 32} (h : LabelsOK Lb) (L : grid0.Coords) (w : Fin 2) (l : Fin 16) : (lane Lb L w l).toNat < 100000 := h _

/-! ## The pieces of `labels` and of the result -/

theorem rdiv : 32 ∣ S1024.size 0 := ⟨32, rfl⟩
abbrev rpart (j : Fin 32) : Rect S1024 := Rect.part (s := S1024) (a₀ := 0) rdiv j
abbrev lSet (j : Fin 32) : Finset S1024.Idx := ((lV).view.slice (rpart j)).set
abbrev oSet (j : Fin 32) : Finset S1024.Idx := ((oV).view.slice (rpart j)).set
/-- The tile's piece, as the program addresses it. -/
abbrev lrow (L : grid0.Coords) : Rect S1024 := Rect.unit (s := S1024) (k0_off1 L) S32.size (k0_off1_inb L)
abbrev orow (L : grid0.Coords) : Rect S1024 := Rect.unit (s := S1024) (k0_off64 L) S32.size (k0_off64_inb L)
abbrev lRow (L : grid0.Coords) : Memref sig .scVector .hbm S32 .i32 := (lV).slice (lrow L) (fun _ => rfl)
abbrev oRow (L : grid0.Coords) : Memref sig .scVector .hbm S32 .f32 := (oV).slice (orow L) (fun _ => rfl)

theorem off1_eq : ∀ L : grid0.Coords, k0_off1 L 0 = 32 * (wid L).val := by decide +kernel
theorem off64_eq : ∀ L : grid0.Coords, k0_off64 L 0 = 32 * (wid L).val := by decide +kernel

theorem lrow_eq (L : grid0.Coords) : lrow L = rpart (wid L) := by
  unfold lrow rpart Rect.part Rect.block
  congr 1 <;> funext a
  · match a with
    | 0 => rw [off1_eq]; simp [Shape.partIx, Shape.partSize]; omega
  · match a with
    | 0 => simp [Shape.partSize]
theorem orow_eq (L : grid0.Coords) : orow L = rpart (wid L) := by
  unfold orow rpart Rect.part Rect.block
  congr 1 <;> funext a
  · match a with
    | 0 => rw [off64_eq]; simp [Shape.partIx, Shape.partSize]; omega
  · match a with
    | 0 => simp [Shape.partSize]
theorem set_lRow (L : grid0.Coords) : (lRow L).view.set = lSet (wid L) := by
  show ((lV).view.slice (lrow L)).set = _
  rw [lrow_eq]
theorem set_oRow (L : grid0.Coords) : (oRow L).view.set = oSet (wid L) := by
  show ((oV).view.slice (orow L)).set = _
  rw [orow_eq]

/-! ## The blocks of the fetch buffer -/

theorem slot_inb (t : ℕ) (ht : t < 16) : ∀ a, (![t, 0, 0] : Fin 3 → ℕ) a + S1x8x128.size a ≤ S16x8x128.size a := by
  intro a
  match a with
  | 0 => show t + 1 ≤ 16; omega
  | 1 => show 0 + 8 ≤ 8; omega
  | 2 => show 0 + 128 ≤ 128; omega
abbrev slotR (t : ℕ) (ht : t < 16) : Rect S16x8x128 := Rect.unit (s := S16x8x128) ![t, 0, 0] S1x8x128.size (slot_inb t ht)
/-- Block `t` of the tile's fetch buffer. -/
abbrev slot (t : ℕ) (ht : t < 16) : Memref sig .scVector .vmem S8x128 .f32 :=
  ((gatV).slice (slotR t ht) (fun _ => rfl)).squeeze S8x128 squeezes_S1x8x128_S8x128

theorem gdiv : 16 ∣ S16x8x128.size 0 := ⟨1, rfl⟩
theorem slotR_eq (t : ℕ) (ht : t < 16) : slotR t ht = Rect.part (s := S16x8x128) (a₀ := 0) gdiv ⟨t, ht⟩ := by
  unfold slotR Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem set_slot (t : ℕ) (ht : t < 16) : (slot t ht).view.set = (Rect.part (s := S16x8x128) (a₀ := 0) gdiv ⟨t, ht⟩).set := by
  show (((gatV).view.slice (slotR t ht)).reshape S8x128 squeezes_S1x8x128_S8x128.numel_eq).set = _
  rw [View.set_reshape]
  have h : ((gatV).view.slice (slotR t ht)).set = (slotR t ht).set := by rw [View.set_slice]; exact Finset.map_refl
  exact h.trans (congrArg (fun r : Rect S16x8x128 => r.set) (slotR_eq t ht))

theorem slots_disjoint : ∀ i ∈ (Finset.univ : Finset (Fin 16)), ∀ j ∈ (Finset.univ : Finset (Fin 16)), i ≠ j →
    Disjoint (slot i.val i.isLt).view.set (slot j.val j.isLt).view.set :=
  fun i _ j _ h => by rw [set_slot, set_slot]; exact Rect.part_disjoint gdiv h
theorem slots_cover : (Finset.univ : Finset (Fin 16)).biUnion (fun i => (show Finset S16x8x128.Idx from (slot i.val i.isLt).view.set)) = Finset.univ :=
  (Finset.biUnion_congr rfl fun i _ => set_slot i.val i.isLt).trans (Rect.biUnion_part gdiv)

/-- Element `(a, b)` of block `t` is element `(t, a, b)` of the buffer. -/
theorem slot_emb (t : ℕ) (ht : t < 16) (a : Fin 8) (b : Fin 128) : (slot t ht).view.emb (ix2 a b) = ix3 (⟨t, ht⟩ : Fin 16) a b := by
  show (slotR t ht).emb (Shape.reshapeEquiv _ (ix2 a b)) = _
  rw [show (ix2 a b : S8x128.Idx) = ValueIdx.ix2 a b from funext fun k => match k with | 0 => rfl | 1 => rfl,
    ValueIdx.reshapeEquiv_ix2_1ab]
  funext k
  match k with
  | 0 => apply Fin.ext; show t + 1 * 0 = t; omega
  | 1 => apply Fin.ext; show 0 + 1 * a.val = a.val; omega
  | 2 => apply Fin.ext; show 0 + 1 * b.val = b.val; omega

end Cert.Proof.Ki

end
-- ==== Proof.Ki.Pay.lean ====
/-
  What a tile computes: the sixteen lanes' cosines collected one by one, and the margin's value of each.
-/
module

public import proofs.«01_k».proof.Proof.Ki.Base

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The lanes collected -/

/-- The first `n` lanes' cosines, `0` in the others. -/
def accTo (X : S1024x100096.Idx → F .f32) (Lb : S1024.Idx → BitVec 32) (L : grid0.Coords) (w : Fin 2) (n : ℕ) : FVec F S16 .f32 :=
  fun x => if (x 0).val < n then pick X Lb L w (x 0) else Scalar.ofBits .f32 0x00000000#32

/-- The lanes' numbers. -/
abbrev lanes : IVec S16 32 := iota .scVector S16 32 [0] iota_S16_d0_w32_scVector

theorem lanes_eq (l : Fin 16) (x : S16.Idx) : cmpi .eq lanes (broadcast S16 (BitVec.ofNat 32 l.val)) x = if (x 0).val = l.val then 1#1 else 0#1 := by
  have h : ∀ (l a : Fin 16), IntOp.cmpi .eq (BitVec.ofNat 32 a.val) (BitVec.ofNat 32 l.val) = if a.val = l.val then 1#1 else 0#1 := by decide +kernel
  have hl : (lanes : IVec S16 32) x = BitVec.ofNat 32 (x 0 : Fin 16).val := by
    simp [lanes, iota]
  show IntOp.cmpi .eq (lanes x) (BitVec.ofNat 32 l.val) = _
  rw [hl]
  exact h l (x 0 : Fin 16)

theorem acc_zero (X : S1024x100096.Idx → F .f32) (Lb : S1024.Idx → BitVec 32) (L : grid0.Coords) (w : Fin 2) :
    broadcast S16 (Scalar.ofBits .f32 0x00000000#32 : F .f32) = accTo X Lb L w 0 := by
  funext x
  simp [accTo, broadcast]

/-- One more lane. -/
theorem acc_succ (X : S1024x100096.Idx → F .f32) (Lb : S1024.Idx → BitVec 32) (L : grid0.Coords) (w : Fin 2) (l : Fin 16) :
    select (cmpi .eq lanes (broadcast S16 (BitVec.ofNat 32 l.val))) (fun _ => pick X Lb L w l) (accTo X Lb L w l.val) = accTo X Lb L w (l.val + 1) := by
  funext x
  show Scalar.select (cmpi .eq lanes (broadcast S16 (BitVec.ofNat 32 l.val)) x) _ _ = _
  rw [lanes_eq]
  unfold accTo Scalar.select
  by_cases h : (x 0).val = l.val
  · have e : (x 0 : Fin 16) = l := Fin.ext h
    rw [if_pos h]
    refine (if_pos rfl).trans (Eq.trans ?_ (if_pos (by omega)).symm)
    exact congrArg (pick X Lb L w) e.symm
  · rw [if_neg h]
    refine (if_neg (by decide)).trans ?_
    by_cases h2 : (x 0).val < l.val
    · rw [if_pos h2, if_pos (by omega)]
    · rw [if_neg h2, if_neg (by omega)]

theorem acc_all (X : S1024x100096.Idx → F .f32) (Lb : S1024.Idx → BitVec 32) (L : grid0.Coords) (w : Fin 2) :
    accTo X Lb L w 16 = fun x => pick X Lb L w (x 0) := by
  funext x
  have : (x 0).val < 16 := (x 0).isLt
  unfold accTo
  rw [if_pos this]

theorem pay18_eq (X : S1024x100096.Idx → F .f32) (Lb : S1024.Idx → BitVec 32) (L : grid0.Coords) (w : Fin 2) :
    k0_pay18 lanes (fun _ => pick X Lb L w 0) (fun _ => pick X Lb L w 1) (fun _ => pick X Lb L w 2) = accTo X Lb L w 3 := by
  show select (cmpi .eq lanes (broadcast S16 2#32)) (fun _ => pick X Lb L w 2) (select (cmpi .eq lanes (broadcast S16 1#32)) (fun _ => pick X Lb L w 1) (select (cmpi .eq lanes (broadcast S16 0#32)) (fun _ => pick X Lb L w 0) (broadcast S16 (Scalar.ofBits .f32 0x00000000#32 : F .f32)))) = _
  rw [acc_zero X Lb L w]
  rw [show select (cmpi .eq lanes (broadcast S16 0#32)) (fun _ => pick X Lb L w 0) (accTo X Lb L w 0) = accTo X Lb L w 1 from acc_succ X Lb L w 0]
  rw [show select (cmpi .eq lanes (broadcast S16 1#32)) (fun _ => pick X Lb L w 1) (accTo X Lb L w 1) = accTo X Lb L w 2 from acc_succ X Lb L w 1]
  rw [show select (cmpi .eq lanes (broadcast S16 2#32)) (fun _ => pick X Lb L w 2) (accTo X Lb L w 2) = accTo X Lb L w 3 from acc_succ X Lb L w 2]

theorem pay21_eq (X : S1024x100096.Idx → F .f32) (Lb : S1024.Idx → BitVec 32) (L : grid0.Coords) (w : Fin 2) :
    k0_pay21 lanes (accTo X Lb L w 3) (fun _ => pick X Lb L w 3) (fun _ => pick X Lb L w 4) (fun _ => pick X Lb L w 5) (fun _ => pick X Lb L w 6) = accTo X Lb L w 7 := by
  show select (cmpi .eq lanes (broadcast S16 6#32)) (fun _ => pick X Lb L w 6) (select (cmpi .eq lanes (broadcast S16 5#32)) (fun _ => pick X Lb L w 5) (select (cmpi .eq lanes (broadcast S16 4#32)) (fun _ => pick X Lb L w 4) (select (cmpi .eq lanes (broadcast S16 3#32)) (fun _ => pick X Lb L w 3) (accTo X Lb L w 3)))) = _
  rw [show select (cmpi .eq lanes (broadcast S16 3#32)) (fun _ => pick X Lb L w 3) (accTo X Lb L w 3) = accTo X Lb L w 4 from acc_succ X Lb L w 3]
  rw [show select (cmpi .eq lanes (broadcast S16 4#32)) (fun _ => pick X Lb L w 4) (accTo X Lb L w 4) = accTo X Lb L w 5 from acc_succ X Lb L w 4]
  rw [show select (cmpi .eq lanes (broadcast S16 5#32)) (fun _ => pick X Lb L w 5) (accTo X Lb L w 5) = accTo X Lb L w 6 from acc_succ X Lb L w 5]
  rw [show select (cmpi .eq lanes (broadcast S16 6#32)) (fun _ => pick X Lb L w 6) (accTo X Lb L w 6) = accTo X Lb L w 7 from acc_succ X Lb L w 6]

theorem pay23_eq (X : S1024x100096.Idx → F .f32) (Lb : S1024.Idx → BitVec 32) (L : grid0.Coords) (w : Fin 2) :
    k0_pay23 lanes (accTo X Lb L w 7) (fun _ => pick X Lb L w 7) (k0_pay22 lanes) (fun _ => pick X Lb L w 8) (fun _ => pick X Lb L w 9) (fun _ => pick X Lb L w 10) (fun _ => pick X Lb L w 11) = accTo X Lb L w 12 := by
  show select (cmpi .eq lanes (broadcast S16 11#32)) (fun _ => pick X Lb L w 11) (select (cmpi .eq lanes (broadcast S16 10#32)) (fun _ => pick X Lb L w 10) (select (cmpi .eq lanes (broadcast S16 9#32)) (fun _ => pick X Lb L w 9) (select (cmpi .eq lanes (broadcast S16 8#32)) (fun _ => pick X Lb L w 8) (select (cmpi .eq lanes (broadcast S16 7#32)) (fun _ => pick X Lb L w 7) (accTo X Lb L w 7))))) = _
  rw [show select (cmpi .eq lanes (broadcast S16 7#32)) (fun _ => pick X Lb L w 7) (accTo X Lb L w 7) = accTo X Lb L w 8 from acc_succ X Lb L w 7]
  rw [show select (cmpi .eq lanes (broadcast S16 8#32)) (fun _ => pick X Lb L w 8) (accTo X Lb L w 8) = accTo X Lb L w 9 from acc_succ X Lb L w 8]
  rw [show select (cmpi .eq lanes (broadcast S16 9#32)) (fun _ => pick X Lb L w 9) (accTo X Lb L w 9) = accTo X Lb L w 10 from acc_succ X Lb L w 9]
  rw [show select (cmpi .eq lanes (broadcast S16 10#32)) (fun _ => pick X Lb L w 10) (accTo X Lb L w 10) = accTo X Lb L w 11 from acc_succ X Lb L w 10]
  rw [show select (cmpi .eq lanes (broadcast S16 11#32)) (fun _ => pick X Lb L w 11) (accTo X Lb L w 11) = accTo X Lb L w 12 from acc_succ X Lb L w 11]

theorem pay27_eq (X : S1024x100096.Idx → F .f32) (Lb : S1024.Idx → BitVec 32) (L : grid0.Coords) (w : Fin 2) :
    k0_pay27 lanes (accTo X Lb L w 12) (fun _ => pick X Lb L w 12) (fun _ => pick X Lb L w 13) (fun _ => pick X Lb L w 14) (fun _ => pick X Lb L w 15) = accTo X Lb L w 16 := by
  show select (cmpi .eq lanes (broadcast S16 15#32)) (fun _ => pick X Lb L w 15) (select (cmpi .eq lanes (broadcast S16 14#32)) (fun _ => pick X Lb L w 14) (select (cmpi .eq lanes (broadcast S16 13#32)) (fun _ => pick X Lb L w 13) (select (cmpi .eq lanes (broadcast S16 12#32)) (fun _ => pick X Lb L w 12) (accTo X Lb L w 12)))) = _
  rw [show select (cmpi .eq lanes (broadcast S16 12#32)) (fun _ => pick X Lb L w 12) (accTo X Lb L w 12) = accTo X Lb L w 13 from acc_succ X Lb L w 12]
  rw [show select (cmpi .eq lanes (broadcast S16 13#32)) (fun _ => pick X Lb L w 13) (accTo X Lb L w 13) = accTo X Lb L w 14 from acc_succ X Lb L w 13]
  rw [show select (cmpi .eq lanes (broadcast S16 14#32)) (fun _ => pick X Lb L w 14) (accTo X Lb L w 14) = accTo X Lb L w 15 from acc_succ X Lb L w 14]
  rw [show select (cmpi .eq lanes (broadcast S16 15#32)) (fun _ => pick X Lb L w 15) (accTo X Lb L w 15) = accTo X Lb L w 16 from acc_succ X Lb L w 15]

theorem pay55_eq (X : S1024x100096.Idx → F .f32) (Lb : S1024.Idx → BitVec 32) (L : grid0.Coords) (w : Fin 2) :
    k0_pay55 lanes (k0_pay52 (F := F)) (fun _ => pick X Lb L w 0) (fun _ => pick X Lb L w 1) (fun _ => pick X Lb L w 2) (fun _ => pick X Lb L w 3) (fun _ => pick X Lb L w 4) = accTo X Lb L w 5 := by
  show select (cmpi .eq lanes (broadcast S16 4#32)) (fun _ => pick X Lb L w 4) (select (cmpi .eq lanes (broadcast S16 3#32)) (fun _ => pick X Lb L w 3) (select (cmpi .eq lanes (broadcast S16 2#32)) (fun _ => pick X Lb L w 2) (select (cmpi .eq lanes (broadcast S16 1#32)) (fun _ => pick X Lb L w 1) (select (cmpi .eq lanes (broadcast S16 0#32)) (fun _ => pick X Lb L w 0) (broadcast S16 (Scalar.ofBits .f32 0x00000000#32 : F .f32)))))) = _
  rw [acc_zero X Lb L w]
  rw [show select (cmpi .eq lanes (broadcast S16 0#32)) (fun _ => pick X Lb L w 0) (accTo X Lb L w 0) = accTo X Lb L w 1 from acc_succ X Lb L w 0]
  rw [show select (cmpi .eq lanes (broadcast S16 1#32)) (fun _ => pick X Lb L w 1) (accTo X Lb L w 1) = accTo X Lb L w 2 from acc_succ X Lb L w 1]
  rw [show select (cmpi .eq lanes (broadcast S16 2#32)) (fun _ => pick X Lb L w 2) (accTo X Lb L w 2) = accTo X Lb L w 3 from acc_succ X Lb L w 2]
  rw [show select (cmpi .eq lanes (broadcast S16 3#32)) (fun _ => pick X Lb L w 3) (accTo X Lb L w 3) = accTo X Lb L w 4 from acc_succ X Lb L w 3]
  rw [show select (cmpi .eq lanes (broadcast S16 4#32)) (fun _ => pick X Lb L w 4) (accTo X Lb L w 4) = accTo X Lb L w 5 from acc_succ X Lb L w 4]

theorem pay56_eq (X : S1024x100096.Idx → F .f32) (Lb : S1024.Idx → BitVec 32) (L : grid0.Coords) (w : Fin 2) :
    k0_pay56 lanes (accTo X Lb L w 5) (fun _ => pick X Lb L w 5) (fun _ => pick X Lb L w 6) (fun _ => pick X Lb L w 7) (fun _ => pick X Lb L w 8) = accTo X Lb L w 9 := by
  show select (cmpi .eq lanes (broadcast S16 8#32)) (fun _ => pick X Lb L w 8) (select (cmpi .eq lanes (broadcast S16 7#32)) (fun _ => pick X Lb L w 7) (select (cmpi .eq lanes (broadcast S16 6#32)) (fun _ => pick X Lb L w 6) (select (cmpi .eq lanes (broadcast S16 5#32)) (fun _ => pick X Lb L w 5) (accTo X Lb L w 5)))) = _
  rw [show select (cmpi .eq lanes (broadcast S16 5#32)) (fun _ => pick X Lb L w 5) (accTo X Lb L w 5) = accTo X Lb L w 6 from acc_succ X Lb L w 5]
  rw [show select (cmpi .eq lanes (broadcast S16 6#32)) (fun _ => pick X Lb L w 6) (accTo X Lb L w 6) = accTo X Lb L w 7 from acc_succ X Lb L w 6]
  rw [show select (cmpi .eq lanes (broadcast S16 7#32)) (fun _ => pick X Lb L w 7) (accTo X Lb L w 7) = accTo X Lb L w 8 from acc_succ X Lb L w 7]
  rw [show select (cmpi .eq lanes (broadcast S16 8#32)) (fun _ => pick X Lb L w 8) (accTo X Lb L w 8) = accTo X Lb L w 9 from acc_succ X Lb L w 8]

theorem pay57_eq (X : S1024x100096.Idx → F .f32) (Lb : S1024.Idx → BitVec 32) (L : grid0.Coords) (w : Fin 2) :
    k0_pay57 lanes (accTo X Lb L w 9) (fun _ => pick X Lb L w 9) (fun _ => pick X Lb L w 10) (fun _ => pick X Lb L w 11) (fun _ => pick X Lb L w 12) (fun _ => pick X Lb L w 13) = accTo X Lb L w 14 := by
  show select (cmpi .eq lanes (broadcast S16 13#32)) (fun _ => pick X Lb L w 13) (select (cmpi .eq lanes (broadcast S16 12#32)) (fun _ => pick X Lb L w 12) (select (cmpi .eq lanes (broadcast S16 11#32)) (fun _ => pick X Lb L w 11) (select (cmpi .eq lanes (broadcast S16 10#32)) (fun _ => pick X Lb L w 10) (select (cmpi .eq lanes (broadcast S16 9#32)) (fun _ => pick X Lb L w 9) (accTo X Lb L w 9))))) = _
  rw [show select (cmpi .eq lanes (broadcast S16 9#32)) (fun _ => pick X Lb L w 9) (accTo X Lb L w 9) = accTo X Lb L w 10 from acc_succ X Lb L w 9]
  rw [show select (cmpi .eq lanes (broadcast S16 10#32)) (fun _ => pick X Lb L w 10) (accTo X Lb L w 10) = accTo X Lb L w 11 from acc_succ X Lb L w 10]
  rw [show select (cmpi .eq lanes (broadcast S16 11#32)) (fun _ => pick X Lb L w 11) (accTo X Lb L w 11) = accTo X Lb L w 12 from acc_succ X Lb L w 11]
  rw [show select (cmpi .eq lanes (broadcast S16 12#32)) (fun _ => pick X Lb L w 12) (accTo X Lb L w 12) = accTo X Lb L w 13 from acc_succ X Lb L w 12]
  rw [show select (cmpi .eq lanes (broadcast S16 13#32)) (fun _ => pick X Lb L w 13) (accTo X Lb L w 13) = accTo X Lb L w 14 from acc_succ X Lb L w 13]

theorem pay60_eq (X : S1024x100096.Idx → F .f32) (Lb : S1024.Idx → BitVec 32) (L : grid0.Coords) (w : Fin 2) :
    k0_pay60 lanes (accTo X Lb L w 14) (fun _ => pick X Lb L w 14) (fun _ => pick X Lb L w 15) = accTo X Lb L w 16 := by
  show select (cmpi .eq lanes (broadcast S16 15#32)) (fun _ => pick X Lb L w 15) (select (cmpi .eq lanes (broadcast S16 14#32)) (fun _ => pick X Lb L w 14) (accTo X Lb L w 14)) = _
  rw [show select (cmpi .eq lanes (broadcast S16 14#32)) (fun _ => pick X Lb L w 14) (accTo X Lb L w 14) = accTo X Lb L w 15 from acc_succ X Lb L w 14]
  rw [show select (cmpi .eq lanes (broadcast S16 15#32)) (fun _ => pick X Lb L w 15) (accTo X Lb L w 15) = accTo X Lb L w 16 from acc_succ X Lb L w 15]

/-! ## The margin -/

/-- `max ((1 - x) (1 + x)) 0`. -/
def aV (acc : FVec F S16 .f32) : FVec F S16 .f32 :=
  maximumf (mulf (subf (broadcast S16 (Scalar.ofBits .f32 0x3F800000#32)) acc) (addf (broadcast S16 (Scalar.ofBits .f32 0x3F800000#32)) acc))
    (broadcast S16 (Scalar.ofBits .f32 0x00000000#32))

/-- One step of Newton's iteration for the root of `a`. -/
def nV (a s : FVec F S16 .f32) : FVec F S16 .f32 :=
  mulf (broadcast S16 (Scalar.ofBits .f32 0x3F000000#32)) (addf s (divf a (maximumf s (broadcast S16 (Scalar.ofBits .f32 0x0DA24260#32)))))

/-- The margin's value from the cosines, `max ((1 - x) (1 + x)) 0` and its root. -/
def mV (acc s : FVec F S16 .f32) : FVec F S16 .f32 :=
  mulf (subf (mulf (broadcast S16 (Named.named κ "cos_m" 0x3F60A940#32)) acc) (mulf (broadcast S16 (Scalar.ofBits .f32 0x3EF57744#32)) s))
    (broadcast S16 (Scalar.ofBits .f32 0x42800000#32))

/-- The margin's value of sixteen cosines. -/
def corV16 (acc : FVec F S16 .f32) : FVec F S16 .f32 := mV acc ((nV (aV acc))^[20] (sqrt (aV acc)))

theorem iter_add (a : FVec F S16 .f32) (m n : ℕ) (s : FVec F S16 .f32) : (nV a)^[m] ((nV a)^[n] s) = (nV a)^[m + n] s :=
  (Function.iterate_add_apply _ _ _ _).symm

/-- The quotient a step adds. -/
abbrev qV (a s : FVec F S16 .f32) : FVec F S16 .f32 := divf a (maximumf s (broadcast S16 (Scalar.ofBits .f32 0x0DA24260#32)))

theorem pay31_eq (a s : FVec F S16 .f32) : k0_pay31 a s (qV a s) = (nV a)^[8] s := rfl
theorem pay32_eq (a s : FVec F S16 .f32) : k0_pay32 a s = (nV a)^[7] s := rfl
theorem pay33_eq (a s : FVec F S16 .f32) : k0_pay33 a s = qV a ((nV a)^[7] s) := rfl
theorem pay34_eq (acc a s : FVec F S16 .f32) : k0_pay34 acc a s (qV a s) = mV acc ((nV a)^[5] s) := shapeCast_id _ _

theorem pay61_eq (v3 : IVec S16 32) (u v w : FVec F S16 .f32) : k0_pay61 v3 u v w = aV (k0_pay60 v3 u v w) := rfl
theorem pay62_eq (v3 : IVec S16 32) (u v w : FVec F S16 .f32) :
    k0_pay62 v3 u v w = (nV (k0_pay61 v3 u v w))^[3] (sqrt (k0_pay61 v3 u v w)) := rfl
theorem pay63_eq (v3 : IVec S16 32) (u v w : FVec F S16 .f32) :
    k0_pay63 v3 u v w = maximumf (k0_pay62 v3 u v w) (broadcast S16 (Scalar.ofBits .f32 0x0DA24260#32)) := rfl
/-- A step is the half times this sum. -/
abbrev hV (a s : FVec F S16 .f32) : FVec F S16 .f32 := addf s (qV a s)
theorem pay64_eq (a s : FVec F S16 .f32) :
    k0_pay64 a s (maximumf s (broadcast S16 (Scalar.ofBits .f32 0x0DA24260#32))) = hV a ((nV a)^[7] s) := rfl
theorem pay66_eq (a s : FVec F S16 .f32) : k0_pay66 a (hV a s) k0_pay65 = (nV a)^[8] s := rfl
theorem pay67_eq (a s : FVec F S16 .f32) :
    k0_pay67 a (hV a s) k0_pay65 = maximumf ((nV a)^[8] s) (broadcast S16 (Scalar.ofBits .f32 0x0DA24260#32)) := rfl
theorem pay68_eq (acc a s : FVec F S16 .f32) :
    k0_pay68 acc a s (maximumf s (broadcast S16 (Scalar.ofBits .f32 0x0DA24260#32))) = mV acc ((nV a)^[2] s) := shapeCast_id _ _

/-! ## One lane -/

/-- One step of Newton's iteration for the root of `a`, of one number. -/
def nS (a s : F .f32) : F .f32 :=
  FloatOps.mulf (Scalar.ofBits .f32 0x3F000000#32) (FloatOps.addf s (FloatOps.divf a (FloatOps.maximumf s (Scalar.ofBits .f32 0x0DA24260#32))))
def aS (x : F .f32) : F .f32 :=
  FloatOps.maximumf (FloatOps.mulf (FloatOps.subf (Scalar.ofBits .f32 0x3F800000#32) x) (FloatOps.addf (Scalar.ofBits .f32 0x3F800000#32) x))
    (Scalar.ofBits .f32 0x00000000#32)
/-- The margin's value of one cosine. -/
def corS (x : F .f32) : F .f32 :=
  FloatOps.mulf (FloatOps.subf (FloatOps.mulf (Named.named κ "cos_m" 0x3F60A940#32) x)
    (FloatOps.mulf (Scalar.ofBits .f32 0x3EF57744#32) ((nS (aS x))^[20] (FloatOps.sqrt (aS x))))) (Scalar.ofBits .f32 0x42800000#32)

theorem iter_apply (a : FVec F S16 .f32) (x : S16.Idx) : ∀ (n : ℕ) (s : FVec F S16 .f32), ((nV a)^[n] s) x = (nS (a x))^[n] (s x)
  | 0, _ => rfl
  | n + 1, s => by
    rw [Function.iterate_succ_apply, Function.iterate_succ_apply, iter_apply a x n]
    rfl

theorem corV16_apply (acc : FVec F S16 .f32) (x : S16.Idx) : corV16 acc x = corS (acc x) := by
  show FloatOps.mulf (FloatOps.subf _ (FloatOps.mulf _ (((nV (aV acc))^[20] (sqrt (aV acc))) x))) _ = _
  rw [iter_apply]
  rfl

end Cert.Proof.Ki

end
-- ==== Proof.Ref.lean ====
/-
  The reference read at an entry: the gather and the scatter take the pairs (row, safe label), so that each row's angle
  at its safe label is replaced and every other angle is kept.
-/
module

public import proofs.«01_k».proof.Proof.Gen.ReferenceIdeal.Run
public import Idealize.ShloMosaic.Lib.Routing.OpsSet
public import Idealize.ShloMosaic.Lib.Pipeline.Value

@[expose] public section

noncomputable section

namespace Cert.Proof.Ref

open Cert.ReferenceIdeal Cert.ReferenceIdeal.Gen Idealize.ShloMosaic Idealize.ShloMosaic.TcCoe Idealize.ShloMosaic.ValueIdx

variable {F : FTy → Type} [FloatOps F]

/-! ## The index pairs -/

/-- A word on every row. -/
abbrev row32 (w : BitVec 32) : IVec S1024 32 := broadcastInDim S1024 ![] bcast_S_S1024 (constantI S_ 32 w)

/-- Which rows have a target; each row's label, 0 where it has none. -/
abbrev hasT (L : IVec S1024 32) : IVec S1024 1 := cmpi .ne L (row32 4294967295#32)
abbrev safeV (L : IVec S1024 32) : IVec S1024 32 :=
  select (hasT L) L (broadcastInDim S1024 ![] bcast_S_S1024 (id (constantI S_ 32 0#32)))

/-- Indexing's wrap of a negative index. -/
abbrev wrap (x : IVec S1024 32) (n : BitVec 32) : IVec S1024 32 := select (cmpi .slt x (row32 0#32)) (addi x (row32 n)) x

/-- The index pairs of the gather and of the scatter. -/
def pairs (L : IVec S1024 32) : IVec S1024x2 32 :=
  concatenate S1024x2 1 [⟨S1024x1, broadcastInDim S1024x1 ![0] bcast_S1024_S1024x1_0 (wrap (iotaInDim S1024 32 0) 1024#32)⟩,
    ⟨S1024x1, broadcastInDim S1024x1 ![0] bcast_S1024_S1024x1_0 (wrap (safeV L) 100000#32)⟩] concatenates_S1024x1_S1024x1_S1024x2_d1

/-- The angles, and each row's angle at its safe label, the margin added where the row has a target. -/
abbrev ang (X : FVec F S1024x100000 .f32) : FVec F S1024x100000 .f32 := Host.acos X
abbrev got (X : FVec F S1024x100000 .f32) (L : IVec S1024 32) : FVec F S1024 .f32 :=
  Host.gather gather_S1024x100000_S1024x2_S1024_n_01_n_n_01_1_11 (ang X) (pairs L)
abbrev put (X : FVec F S1024x100000 .f32) (L : IVec S1024 32) : FVec F S1024 .f32 :=
  select (hasT L) (addf (got X L) (broadcastInDim S1024 ![] bcast_S_S1024 (Host.asin (constant S_ .f32 0x3EF57744#32)))) (got X L)

/-- The reference's result of its arguments. -/
def refOut (X : FVec F S1024x100000 .f32) (L : IVec S1024 32) : FVec F S1024x100000 .f32 :=
  mulf (Host.cos (Host.scatter scatter_S1024x100000_S1024x2_S1024_n_01_01_1 (fun _ b => b) (ang X) (pairs L) (put X L)))
    (broadcastInDim S1024x100000 ![] bcast_S_S1024x100000 (constant S_ .f32 0x42800000#32))

set_option maxRecDepth 8192 in
theorem res_eq (m : (ℓ : Loc nD τ sig) → Buf (Elt F) ℓ) (c : Dev nD) :
    Cert.ReferenceIdeal.Value.res_main_v39 m c
      = refOut (m ((c.tc : Thread nD τ).loc main_arg0)) (m ((c.tc : Thread nD τ).loc main_arg1)) := rfl

/-! ## Their words -/

/-- The safe label of a row, as a word. -/
def safeL (w : BitVec 32) : BitVec 32 := if w = 4294967295#32 then 0#32 else w

theorem safeV_at (L : IVec S1024 32) (r : Fin 1024) : safeV L (ix1 r) = safeL (L (ix1 r)) := by
  show Scalar.select (IntOp.cmpi .ne (L (ix1 r)) 4294967295#32) (L (ix1 r)) 0#32 = _
  unfold safeL
  rw [WordCmp.cmpi_ne_eq, WordCmp.select_decide]
  by_cases h : L (ix1 r) = 4294967295#32
  · rw [if_neg (not_not.2 h), if_pos h]
  · rw [if_pos h, if_neg h]

theorem wrap_at (x : IVec S1024 32) (n : BitVec 32) (r : Fin 1024) (h : (x (ix1 r)).toNat < 2 ^ 31) : wrap x n (ix1 r) = x (ix1 r) :=
  Routing.wrap_of_lt (x (ix1 r)) _ h

theorem pairs_row (L : IVec S1024 32) (r : Fin 1024) : pairs L (ix2 r 0) = BitVec.ofNat 32 r.val := by
  unfold pairs
  rw [concatenate_pair_apply_left (1 : Fin S1024x2.rank) (s₁ := S1024x1) (s₂ := S1024x1) _ _ _ (ix2 r 0) rfl (ix2 r 0) (by intro b; fin_cases b <;> rfl)]
  rw [broadcastInDim_apply _ _ _ _ (ix1 r) (by intro a; fin_cases a; rfl)]
  refine (wrap_at _ _ r ?_).trans rfl
  show (BitVec.ofNat 32 r.val).toNat < 2 ^ 31
  have := r.isLt
  rw [BitVec.toNat_ofNat]; omega

theorem pairs_col (L : IVec S1024 32) (r : Fin 1024) (h : (safeL (L (ix1 r))).toNat < 100000) : pairs L (ix2 r 1) = safeL (L (ix1 r)) := by
  unfold pairs
  rw [concatenate_pair_apply_right (1 : Fin S1024x2.rank) (s₁ := S1024x1) (s₂ := S1024x1) _ _ _ (ix2 r 1) rfl rfl (ix2 r 0)
    (by intro b hb; fin_cases b; · rfl
        · exact absurd rfl hb) rfl]
  rw [broadcastInDim_apply _ _ _ _ (ix1 r) (by intro a; fin_cases a; rfl)]
  refine (wrap_at _ _ r ?_).trans (safeV_at L r)
  rw [safeV_at]; omega

/-! ## The gather and the scatter -/

/-- The gather's and the scatter's dimension numbers. -/
abbrev gd := gather_S1024x100000_S1024x2_S1024_n_01_n_n_01_1_11
abbrev sd := scatter_S1024x100000_S1024x2_S1024_n_01_01_1

theorem toInt_word (w : BitVec 32) (h : w.toNat < 2 ^ 31) : w.toInt = (w.toNat : Int) := by
  rw [BitVec.toInt_eq_toNat_cond, if_pos (by omega)]

theorem toInt_row (r : Fin 1024) : (BitVec.ofNat 32 r.val).toInt = (r.val : Int) := by
  have := r.isLt
  rw [toInt_word _ (by rw [BitVec.toNat_ofNat]; omega), BitVec.toNat_ofNat]; omega

theorem gather_start {w : Nat} (idx : IVec S1024x2 w) (r : Fin 1024) :
    GatherDims.start gd (ix1 r) idx 0 = min (idx (ix2 r 0)).toInt.toNat 1023
      ∧ GatherDims.start gd (ix1 r) idx 1 = min (idx (ix2 r 1)).toInt.toNat 99999 := by
  constructor <;> unfold GatherDims.start <;> rw [dif_pos (by decide)]
  all_goals
    refine congrArg (fun i => min (idx i).toInt.toNat _) (funext fun b => ?_)
    fin_cases b <;> rfl

theorem gather_at {α : Type} (X : S1024x100000.Idx → α) (idx : IVec S1024x2 32) (r : Fin 1024) (c : Fin 100000)
    (h0 : (idx (ix2 r 0)).toInt = r.val) (h1 : (idx (ix2 r 1)).toInt = c.val) : Host.gather gd X idx (ix1 r) = X (ix2 r c) := by
  unfold Host.gather
  refine congrArg X (funext fun a => Fin.ext ?_)
  have hr := r.isLt
  have hc := c.isLt
  show GatherDims.start gd (ix1 r) idx a + GatherDims.batchCoord gd (ix1 r) a + GatherDims.offCoord gd (ix1 r) a = _
  rw [GatherDims.batchCoord_eq_zero _ _ _ (by fin_cases a <;> decide), GatherDims.offCoord_eq_zero _ _ _ (by fin_cases a <;> decide)]
  match a with
  | ⟨0, _⟩ =>
    refine (congrArg (· + 0 + 0) (gather_start idx r).1).trans ?_
    rw [h0]; show min r.val 1023 + 0 + 0 = r.val; omega
  | ⟨1, _⟩ =>
    refine (congrArg (· + 0 + 0) (gather_start idx r).2).trans ?_
    rw [h1]; show min c.val 99999 + 0 + 0 = c.val; omega

theorem lands {w : Nat} (idx : IVec S1024x2 w) (k r : Fin 1024) (c : Fin 100000) :
    ScatterDims.resultIdx? sd (ix1 k) idx = some (ix2 r c) ↔ (idx (ix2 k 0)).toInt = r.val ∧ (idx (ix2 k 1)).toInt = c.val := by
  have hwin : ∀ q, ScatterDims.window sd (ix1 k) q = 0 := fun q => by fin_cases q <;> rfl
  have h0 : ScatterDims.start sd (ix1 k) idx 0 = (idx (ix2 k 0)).toInt := by
    unfold ScatterDims.start
    rw [dif_pos (by decide)]
    refine congrArg (fun i => (idx i).toInt) (funext fun b => ?_)
    fin_cases b <;> rfl
  have h1 : ScatterDims.start sd (ix1 k) idx 1 = (idx (ix2 k 1)).toInt := by
    unfold ScatterDims.start
    rw [dif_pos (by decide)]
    refine congrArg (fun i => (idx i).toInt) (funext fun b => ?_)
    fin_cases b <;> rfl
  rw [Routing.resultIdx?_ix2, h0, h1, hwin, hwin]
  omega

/-! ## The result at an entry -/

/-- Every label is −1 or a column. -/
def LabOK (L : IVec S1024 32) : Prop := ∀ r, (safeL (L (ix1 r))).toNat < 100000

theorem pairs_toInt {L : IVec S1024 32} (h : LabOK L) (k : Fin 1024) :
    (pairs L (ix2 k 0)).toInt = k.val ∧ (pairs L (ix2 k 1)).toInt = (safeL (L (ix1 k))).toNat := by
  have hk := h k
  exact ⟨by rw [pairs_row, toInt_row], by rw [pairs_col L k hk, toInt_word _ (by omega)]⟩

/-- The angle written at a row's safe label. -/
def newAng (x : F .f32) (w : BitVec 32) : F .f32 :=
  if w = 4294967295#32 then FloatOps.hostUnary .acos x
  else FloatOps.addf (FloatOps.hostUnary .acos x) (FloatOps.hostUnary .asin (Scalar.ofBits .f32 0x3EF57744#32))

theorem put_at (X : FVec F S1024x100000 .f32) {L : IVec S1024 32} (h : LabOK L) (r : Fin 1024) :
    put X L (ix1 r) = newAng (X (ix2 r ⟨_, h r⟩)) (L (ix1 r)) := by
  have hg : got X L (ix1 r) = FloatOps.hostUnary .acos (X (ix2 r ⟨_, h r⟩)) :=
    gather_at (ang X) (pairs L) r ⟨_, h r⟩ (pairs_toInt h r).1 (pairs_toInt h r).2
  show Scalar.select (IntOp.cmpi .ne (L (ix1 r)) 4294967295#32) (FloatOps.addf (got X L (ix1 r))
    (FloatOps.hostUnary .asin (Scalar.ofBits .f32 0x3EF57744#32))) (got X L (ix1 r)) = _
  rw [hg, WordCmp.cmpi_ne_eq, WordCmp.select_decide]
  unfold newAng
  by_cases e : L (ix1 r) = 4294967295#32
  · rw [if_neg (not_not.2 e), if_pos e]
  · rw [if_pos e, if_neg e]

/-- The reference's result at row `r` and column `c`. -/
theorem refOut_at (X : FVec F S1024x100000 .f32) {L : IVec S1024 32} (h : LabOK L) (r : Fin 1024) (c : Fin 100000) :
    refOut X L (ix2 r c) = FloatOps.mulf (FloatOps.hostUnary .cos
      (if c.val = (safeL (L (ix1 r))).toNat then newAng (X (ix2 r c)) (L (ix1 r)) else FloatOps.hostUnary .acos (X (ix2 r c))))
      (Scalar.ofBits .f32 0x42800000#32) := by
  show FloatOps.mulf (FloatOps.hostUnary .cos (Host.scatter sd (fun _ b => b) (ang X) (pairs L) (put X L) (ix2 r c)))
    (Scalar.ofBits .f32 0x42800000#32) = _
  suffices key : Host.scatter sd (fun _ b => b) (ang X) (pairs L) (put X L) (ix2 r c)
      = if c.val = (safeL (L (ix1 r))).toNat then newAng (X (ix2 r c)) (L (ix1 r)) else FloatOps.hostUnary .acos (X (ix2 r c)) by
    rw [key]
  have hl : ∀ k : Fin 1024, ScatterDims.resultIdx? sd (ix1 k) (pairs L) = some (ix2 r c) ↔ k = r ∧ c.val = (safeL (L (ix1 k))).toNat := by
    intro k
    rw [lands, (pairs_toInt h k).1, (pairs_toInt h k).2]
    constructor
    · rintro ⟨a, b⟩; exact ⟨Fin.ext (by omega), by omega⟩
    · rintro ⟨rfl, b⟩; exact ⟨rfl, by omega⟩
  have hk : ∀ k : S1024.Idx, ∃ k' : Fin 1024, k = ix1 k' := fun k => ⟨k 0, eq_ix1 k⟩
  by_cases e : c.val = (safeL (L (ix1 r))).toNat
  · rw [if_pos e]
    have ec : (⟨_, h r⟩ : Fin 100000) = c := Fin.ext e.symm
    refine Routing.scatter_set_hit sd (ang X) (pairs L) (put X L) (ix2 r c) _ ?_ (ix1 r) ((hl r).2 ⟨rfl, e⟩)
    intro k hk'
    obtain ⟨k', rfl⟩ := hk k
    obtain ⟨rfl, -⟩ := (hl k').1 hk'
    rw [put_at X h, ec]
  · rw [if_neg e]
    refine Routing.scatter_set_miss sd (ang X) (pairs L) (put X L) (ix2 r c) ?_
    intro k hk'
    obtain ⟨k', rfl⟩ := hk k
    obtain ⟨rfl, e'⟩ := (hl k').1 hk'
    exact e e'

end Cert.Proof.Ref

end
-- ==== Proof.Trig.lean ====
/-
  The margin's arithmetic at the extended reals: the cosine of an angle with the margin added is
  `x·cos m − √(1 − x²)·sin m`, and Newton's step for the root of `a` keeps `√a` where `√a` is 0 or not tiny.
-/
module

public import proofs.«01_k».proof.Proof.Ki.Pay
public import proofs.«01_k».proof.Proof.Ref
public import Idealize.ShloMosaic.Lib.IdealHost

@[expose] public section

noncomputable section

namespace Cert.Proof.Trig

open Idealize.ShloMosaic Cert.Proof.Ki

/-! ## The constants -/

/-- The margin's sine, and what the programs' words denote. -/
def sm : ℝ := 4021713 / 8388608
def tiny : ℝ := 10633824 / 2 ^ 123

theorem w_one : Ideal.ofBits .f32 0x3F800000#32 = ((1 : ℝ) : EReal) := by simp
theorem w_zero : Ideal.ofBits .f32 0x00000000#32 = ((0 : ℝ) : EReal) := by simp
theorem w_half : Ideal.ofBits .f32 0x3F000000#32 = ((1 / 2 : ℝ) : EReal) := by simp [Ideal.ofBits, Ideal.ieee, -EReal.coe_mul]; norm_num
theorem w_64 : Ideal.ofBits .f32 0x42800000#32 = ((64 : ℝ) : EReal) := by simp [Ideal.ofBits, Ideal.ieee, -EReal.coe_mul]; norm_num
theorem w_sm : Ideal.ofBits .f32 0x3EF57744#32 = (sm : EReal) := by
  unfold sm; simp [Ideal.ofBits, Ideal.ieee, -EReal.coe_mul]; norm_num
theorem w_tiny : Ideal.ofBits .f32 0x0DA24260#32 = (tiny : EReal) := by
  unfold tiny; simp [Ideal.ofBits, Ideal.ieee, -EReal.coe_mul]; norm_num
theorem w_top : Ideal.ofBits .f32 0x3F7FFFFF#32 = ((16777215 / 16777216 : ℝ) : EReal) := by
  simp [Ideal.ofBits, Ideal.ieee, -EReal.coe_mul]; norm_num

theorem sm_sq : 1 - sm ^ 2 = 54194568723295 / 70368744177664 := by unfold sm; norm_num
theorem cos_m : (Named.named Cert.KernelIdeal.κ "cos_m" 0x3F60A940#32 : Ideal .f32) = ((Real.sqrt (1 - sm ^ 2) : ℝ) : EReal) := by
  rw [sm_sq]
  exact IdealRules.named_const.ideal_named_scalar _ _ _ _ rfl

/-! ## A cosine -/

theorem coe_max (a b : ℝ) : ((max a b : ℝ) : EReal) = max (a : EReal) b := EReal.coe_strictMono.monotone.map_max

/-- A cosine: 1, −1, or at least `2⁻²⁴` away from both. -/
def Cosine (r : ℝ) : Prop := |r| ≤ 16777215 / 16777216 ∨ |r| = 1

theorem Cosine.le {r : ℝ} (h : Cosine r) : -1 ≤ r ∧ r ≤ 1 := by
  refine abs_le.1 ?_
  rcases h with h | h
  · refine h.trans ?_; norm_num
  · exact h.le

theorem cosine_of {x : EReal} (h : max x (-x) ≤ Ideal.ofBits .f32 0x3F7FFFFF#32 ∨ max x (-x) = Ideal.ofBits .f32 0x3F800000#32) :
    ∃ r : ℝ, x = (r : EReal) ∧ Cosine r := by
  rw [w_top, w_one] at h
  induction x using EReal.rec with
  | bot =>
    rw [EReal.neg_bot, max_eq_right bot_le] at h
    rcases h with h | h
    · exact absurd (top_le_iff.1 h) (EReal.coe_ne_top _)
    · exact absurd h.symm (EReal.coe_ne_top _)
  | top =>
    rw [max_eq_left le_top] at h
    rcases h with h | h
    · exact absurd (top_le_iff.1 h) (EReal.coe_ne_top _)
    · exact absurd h.symm (EReal.coe_ne_top _)
  | coe r =>
    refine ⟨r, rfl, ?_⟩
    have e : max (r : EReal) (-(r : EReal)) = ((|r| : ℝ) : EReal) := by
      rw [← EReal.coe_neg, ← coe_max]; rfl
    rw [e, EReal.coe_le_coe_iff, EReal.coe_eq_coe_iff] at h
    exact h

/-! ## The root -/

theorem aS_coe {r : ℝ} (h : Cosine r) : aS (F := Ideal) (r : EReal) = ((1 - r ^ 2 : ℝ) : EReal) := by
  show max ((Ideal.ofBits .f32 0x3F800000#32 - (r : EReal)) * (Ideal.ofBits .f32 0x3F800000#32 + (r : EReal))) (Ideal.ofBits .f32 0x00000000#32) = _
  obtain ⟨h1, h2⟩ := h.le
  rw [w_one, w_zero, ← EReal.coe_sub, ← EReal.coe_add, ← EReal.coe_mul, ← coe_max, EReal.coe_eq_coe_iff, max_eq_left]
  · ring
  · nlinarith

/-- Newton's step at the root. -/
theorem nS_root {a : ℝ} (h : a = 0 ∨ 1 / 2 ^ 24 ≤ a) :
    nS (F := Ideal) (a : EReal) ((Real.sqrt a : ℝ) : EReal) = ((Real.sqrt a : ℝ) : EReal) := by
  show Ideal.ofBits .f32 0x3F000000#32 * (((Real.sqrt a : ℝ) : EReal)
    + Ideal.div (a : EReal) (max ((Real.sqrt a : ℝ) : EReal) (Ideal.ofBits .f32 0x0DA24260#32))) = _
  have ht : (0 : ℝ) < tiny := by unfold tiny; norm_num
  rw [w_half, w_tiny, ← coe_max]
  have hne : max (Real.sqrt a) tiny ≠ 0 := (lt_max_of_lt_right ht).ne'
  rw [Ideal.div_coe hne, ← EReal.coe_mul, ← EReal.coe_add, ← EReal.coe_mul, EReal.coe_eq_coe_iff]
  rcases h with rfl | h
  · rw [Real.sqrt_zero]; ring
  · have hs : 1 / 2 ^ 12 ≤ Real.sqrt a := Real.le_sqrt_of_sq_le (by refine le_trans (le_of_eq ?_) h; norm_num)
    have hle : tiny ≤ Real.sqrt a := by refine le_trans ?_ hs; unfold tiny; norm_num
    have hpos : 0 < Real.sqrt a := lt_of_lt_of_le ht hle
    have hsq : Real.sqrt a * Real.sqrt a = a := Real.mul_self_sqrt (le_trans (by norm_num) h)
    rw [max_eq_left hle]
    have hd : a * (1 / Real.sqrt a) = Real.sqrt a := by
      rw [mul_one_div, div_eq_iff hpos.ne', hsq]
    rw [hd]; ring

theorem root_cases {r : ℝ} (h : Cosine r) : 1 - r ^ 2 = 0 ∨ 1 / 2 ^ 24 ≤ 1 - r ^ 2 := by
  rcases h with h | h
  · right
    have h2 : r ^ 2 ≤ (16777215 / 16777216) ^ 2 := by
      rw [← sq_abs]; exact pow_le_pow_left₀ (abs_nonneg r) h 2
    refine le_trans ?_ (sub_le_sub_left h2 1); norm_num
  · left; rw [← sq_abs, h]; norm_num

theorem newton {r : ℝ} (h : Cosine r) (n : ℕ) :
    ((nS (F := Ideal) (aS (F := Ideal) (r : EReal)))^[n] (FloatOps.sqrt (aS (F := Ideal) (r : EReal)))) = ((Real.sqrt (1 - r ^ 2) : ℝ) : EReal) := by
  have e : FloatOps.sqrt (aS (F := Ideal) (r : EReal)) = ((Real.sqrt (1 - r ^ 2) : ℝ) : EReal) := by
    show Ideal.sqrt (aS (F := Ideal) (r : EReal)) = _
    rw [aS_coe h, Ideal.sqrt_coe, if_neg]
    rcases root_cases h with h | h
    · rw [h]; exact lt_irrefl _
    · exact not_lt.2 (le_trans (by norm_num) h)
  rw [e]
  refine Function.iterate_fixed ?_ n
  rw [aS_coe h]
  exact nS_root (root_cases h)

/-! ## The margin's value -/

/-- What the kernel stores for a target of cosine `r`. -/
theorem corS_coe {r : ℝ} (h : Cosine r) :
    corS (F := Ideal) (r : EReal) = (((r * Real.sqrt (1 - sm ^ 2) - Real.sqrt (1 - r ^ 2) * sm) * 64 : ℝ) : EReal) := by
  show ((Named.named Cert.KernelIdeal.κ "cos_m" 0x3F60A940#32 : Ideal .f32) * (r : EReal)
    - Ideal.ofBits .f32 0x3EF57744#32 * ((nS (F := Ideal) (aS (F := Ideal) (r : EReal)))^[20] (FloatOps.sqrt (aS (F := Ideal) (r : EReal)))))
      * Ideal.ofBits .f32 0x42800000#32 = _
  rw [newton h, cos_m, w_sm, w_64, ← EReal.coe_mul, ← EReal.coe_mul, ← EReal.coe_sub, ← EReal.coe_mul, EReal.coe_eq_coe_iff]
  ring

theorem sm_le : -1 ≤ sm ∧ sm ≤ 1 := by unfold sm; norm_num

/-- The reference's scaled cosine of an angle. -/
abbrev scaled (θ : Ideal .f32) : Ideal .f32 := FloatOps.mulf (FloatOps.hostUnary .cos θ) (Scalar.ofBits .f32 0x42800000#32)

/-- The reference, where the angle is kept. -/
theorem keep {r : ℝ} (h : Cosine r) :
    scaled (FloatOps.hostUnary .acos ((r : EReal) : Ideal .f32)) = FloatOps.mulf ((r : EReal) : Ideal .f32) (Scalar.ofBits .f32 0x42800000#32) := by
  show Ideal.cos (Ideal.acos (r : EReal)) * Ideal.ofBits .f32 0x42800000#32 = (r : EReal) * Ideal.ofBits .f32 0x42800000#32
  rw [Ideal.acos_coe, if_pos h.le, Ideal.cos_coe, Real.cos_arccos h.le.1 h.le.2]

/-- The reference, where the margin is added. -/
theorem margin {r : ℝ} (h : Cosine r) :
    scaled (FloatOps.addf (FloatOps.hostUnary .acos ((r : EReal) : Ideal .f32)) (FloatOps.hostUnary .asin (Scalar.ofBits .f32 0x3EF57744#32)))
      = corS (F := Ideal) (r : EReal) := by
  rw [corS_coe h]
  show Ideal.cos (Ideal.acos (r : EReal) + Ideal.asin (Ideal.ofBits .f32 0x3EF57744#32)) * Ideal.ofBits .f32 0x42800000#32 = _
  rw [w_sm, w_64, Ideal.acos_coe, if_pos h.le, Ideal.asin_coe, if_pos sm_le, ← EReal.coe_add, Ideal.cos_coe, ← EReal.coe_mul, EReal.coe_eq_coe_iff,
    Real.cos_add, Real.cos_arccos h.le.1 h.le.2, Real.sin_arccos, Real.cos_arcsin, Real.sin_arcsin sm_le.1 sm_le.2]

end Cert.Proof.Trig

end
-- ==== Proof.Ki.Steps.lean ====
/-
  The steps of a tile's program: a lane's copy started, waited for, the blocks joined, a lane's cosine gathered. Each
  is stated as what is left to prove after it.
-/
module

public import proofs.«01_k».proof.Proof.Ki.Base

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a tile holds while its copies fly -/

section Tile

variable (d : Dev nD) (L : grid0.Coords) (X : S1024x100096.Idx → F .f32) (Lb : S1024.Idx → BitVec 32)
variable (O : CellTallies nD τ sig (HIx 1)) (W : Waits sig (HIx 1))

/-- The share of the padded cosines that the copy of lane `l` in half `w` reads through. -/
abbrev xq (w : Fin 2) (l : Fin 16) : PosShare TreeShare := ShareLeaves.leaf 10 fullShare (row L w l)

abbrev xSh (w : Fin 2) (l : Fin 16) : sProp 𝕄 := (xV).view.loc (thr d L) ↦{xq L w l} X

/-- Block `t` of the fetch buffer, at contents `h`. -/
abbrev slotPts (t : Fin 16) (h : Buf (Elt F) ((gatV).view.loc (thr d L))) : sProp 𝕄 :=
  (slot t.val t.isLt).view.loc (thr d L) ↦[(slot t.val t.isLt).view.set]{fullShare} h

/-- The fetch buffer once every copy of half `w` has landed. -/
def fetched (w : Fin 2) : Buf (Elt F) ((gatV).view.loc (thr d L)) := fun i : S16x8x128.Idx => blockAt X Lb L w (i 0) (i 1) (i 2)

/-- What the copy of lane `t` in half `w` delivers: block `t` of the fetch buffer, holding the lane's block. -/
abbrev Dv (w : Fin 2) (t : Fin 16) : sProp 𝕄 := slotPts d L t (fetched d L X Lb w)

/-- The units one copy pays. -/
abbrev NN : ℕ := (slot 0 (by decide)).view.dmaCredit

theorem credit_slot (t : ℕ) (ht : t < 16) : (slot t ht).view.dmaCredit = NN := rfl
theorem amount_slot (t : ℕ) (ht : t < 16) : (slot t ht).view.amount (.dma cc0_scratch3.sem : SemLoc sig) = NN := rfl
theorem NN_pos : 0 < NN := by decide
theorem wait_lt {u : ℕ} (hu : u < 15) : u * NN + NN < NN * 16 := by have := NN_pos; nlinarith
theorem wait_last : 15 * NN + NN = NN * 16 := by omega

abbrev cell : SemLoc sig := .dma cc0_scratch3.sem

/-- The batch of half `w`'s copies, `j` of them started, `u` units waited for. -/
abbrev Bt (w : Fin 2) (j u : ℕ) : sProp 𝕄 :=
  Transfers.Batch (n := 16) countersEmb (thr d L) cell (default : HIx 1) NN (Dv d L X Lb w) j u

/-- Before the copy of lane `j`: the batch at `j`, and of each later lane its block at any contents and its share. -/
abbrev PreIss (w : Fin 2) (j : ℕ) : sProp 𝕄 :=
  iprop(Bt d L X Lb w j 0 ∗ bigSep (Transfers.pending (n := 16) j) fun t => iprop((∃ h, slotPts d L t h) ∗ xSh d L X w t))

/-- What the thread owes, and the evidence its waits present. -/
abbrev Ow : sProp 𝕄 :=
  iprop(levAts (K (F := F)).L (K (F := F)).lev ∗ ∃ W', ⌜∀ p ∈ W', p ∈ W ∨ p.2 = none⌝ ∗ owes (thr d L) O W')

/-- What a copy leaves in its block. -/
theorem block_written' (w : Fin 2) (t : Fin 16) (hL : LabelsOK Lb) (h : Buf (Elt F) ((gatV).view.loc (thr d L)))
    (hoff : ∀ a, blockOff L w t (lane Lb L w t) a + S8x128.size a ≤ S1024x100096.size a) (a : Fin 8) (b : Fin 128) :
    (View.write (Elt F) (slot t.val t.isLt).view h
      (((xV).slice (Rect.unit (s := S1024x100096) (blockOff L w t (lane Lb L w t)) S8x128.size hoff) (fun _ => rfl)).view.read (Elt F) X) Finset.univ)
      (ix3 t a b) = blockAt X Lb L w t a b := by
  have e : (ix3 t a b : S16x8x128.Idx) = (slot t.val t.isLt).view.emb (ix2 a b) := (slot_emb t.val t.isLt a b).symm
  rw [e]
  refine (View.write_emb_of_mem _ _ (Finset.mem_univ _)).trans ?_
  unfold blockAt
  show X _ = X _
  congr 1
  have hr := (row L w t).isLt
  have hc := lane_lt hL L w t
  funext k
  match k with
  | 0 =>
    apply Fin.ext
    show (rowW L _ _).toNat + 1 * a.val = (8 * ((row L w t).val / 8) + a.val) % 1024
    rw [rowW_eq, Nat.mod_eq_of_lt (by have := a.isLt; omega)]; omega
  | 1 =>
    apply Fin.ext
    show (Scalar.andi _ _).toNat + 1 * b.val = (128 * ((lane Lb L w t).toNat / 128) + b.val) % 100096
    rw [andi_mask, Nat.mod_eq_of_lt (by have := b.isLt; omega)]; omega

theorem block_written (w : Fin 2) (t : Fin 16) (hL : LabelsOK Lb) (h : Buf (Elt F) ((gatV).view.loc (thr d L)))
    (hoff : ∀ a, blockOff L w t (lane Lb L w t) a + S8x128.size a ≤ S1024x100096.size a) (i : S16x8x128.Idx) (hi : i ∈ (slot t.val t.isLt).view.set) :
    (View.write (Elt F) (slot t.val t.isLt).view h
      (((xV).slice (Rect.unit (s := S1024x100096) (blockOff L w t (lane Lb L w t)) S8x128.size hoff) (fun _ => rfl)).view.read (Elt F) X) Finset.univ)
      i = fetched d L X Lb w i := by
  obtain ⟨j, -, hj⟩ := Finset.mem_map.mp hi
  have e : i = ix3 t (j 0) (j 1) := by
    refine hj.symm.trans (Eq.trans ?_ (slot_emb t.val t.isLt (j 0) (j 1)))
    congr 1
    funext k
    match k with
    | 0 => rfl
    | 1 => rfl
  rw [e]
  exact block_written' d L X Lb w t hL h hoff _ _

variable {α : Type} {Q : α → sProp (MT nD τ sig (HIx 1) (Elt F) ℕ UU ℕ)} {R : sProp (MT nD τ sig (HIx 1) (Elt F) ℕ UU ℕ)}

/-- The wp of a piece of a tile's program. -/
abbrev tw (p : Prog (TpuEff nD τ sig (Elt F) Λ₀ (thr d L).2) α) (Q : α → sProp 𝕄) : sProp 𝕄 :=
  wp frame (wpE (defs₀ (F := F)) 𝒱₀ (thr d L) none) Set.univ p Q

set_option maxHeartbeats 1000000 in
/-- The copy of lane `j` starts. -/
theorem step_issue (hL : LabelsOK Lb) (w : Fin 2) (t : Fin 16)
    {hoff : ∀ a, blockOff L w t (lane Lb L w t) a + S8x128.size a ≤ S1024x100096.size a}
    {hsrc : ((xV).slice (Rect.unit (s := S1024x100096) (blockOff L w t (lane Lb L w t)) S8x128.size hoff) (fun _ => rfl)).view.WordExact}
    {hdst : (slot t.val t.isLt).view.WordExact}
    {hsem : DmaTarget.Typed (nD := nD) (τ := τ) (p := (thr d L).2) .hbm (.dma cc0_scratch3.sem : SemLoc sig) (.here (slot t.val t.isLt))}
    {k : PUnit → Prog (TpuEff nD τ sig (Elt F) Λ₀ (thr d L).2) α}
    (h : iprop(PreIss d L X Lb w (t.val + 1) ∗ R) ⊢ tw d L (k ⟨⟩) Q) :
    iprop(PreIss d L X Lb w t.val ∗ R)
      ⊢ tw d L (.op (.enqueueDma ((xV).slice (Rect.unit (s := S1024x100096) (blockOff L w t (lane Lb L w t)) S8x128.size hoff) (fun _ => rfl))
          (.here (slot t.val t.isLt)) (.dma cc0_scratch3.sem) hsrc hdst hsem) k) Q := by
  iintro ⟨⟨HB, Hp⟩, HR⟩
  ihave Hp' := (Entails.of_eq (Transfers.bigSep_pending_step (fun t => iprop((∃ h, slotPts d L t h) ∗ xSh d L X w t)) t.val t.isLt)) $$ Hp
  icases Hp' with ⟨⟨⟨%g, Hs⟩, Hx⟩, Hp⟩
  ihave Hx' := (pointsTo_split_subset (q := xq L w t) (f := X) (S := Finset.univ)
    (Finset.subset_univ ((xV).slice (Rect.unit (s := S1024x100096) (blockOff L w t (lane Lb L w t)) S8x128.size hoff) (fun _ => rfl)).view.set)).1 $$ Hx
  icases Hx' with ⟨Hx, -⟩
  iapply (Transfers.wp_dmaBatch countersEmb 𝒱₀ (thr d L) none (src := (xV).slice (Rect.unit (s := S1024x100096) (blockOff L w t (lane Lb L w t)) S8x128.size hoff) (fun _ => rfl)) (dst := slot t.val t.isLt)
    (sm := .dma cc0_scratch3.sem) (D := Dv d L X Lb w) (j := t.val) (u := 0) (default : HIx 1) NN (amount_slot t.val t.isLt)
    (Finset.Subset.refl _) t.isLt (Nat.zero_le _) (fs := X) (fd := g) (q := xq L w t) (by
      iintro ⟨Hd, -⟩
      iapply (Entails.of_eq (pointsTo_congr fun i hi => block_written d L X Lb w t hL g hoff i hi))
      iexact Hd)) $$ [Hx Hs HB]
  · isplitl [Hx]; · iexact Hx
    isplitl [Hs]; · iexact Hs
    iexact HB
  iintro HB
  iapply h
  isplitr [HR]
  · isplitl [HB]; · iexact HB
    iexact Hp
  iexact HR

/-- The evidence for a wait. -/
theorem mayWait (hO : ∀ g, O g none = 0) (sm : SemLoc sig) :
    levAts (K (F := F)).L (K (F := F)).lev ⊢ (MayWait (thr d L) sm (default : HIx 1) O : sProp 𝕄) := by
  iintro Hlv
  iapply ((K (F := F)).mayWait_none (thr := thr d L) sm hO)
  iexact Hlv

theorem ow_insert (sm : SemLoc sig) {W' : Waits sig (HIx 1)} (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- One of the first fifteen waits of a half. -/
theorem step_wait (hO : ∀ g, O g none = 0) (w : Fin 2) (u : ℕ) (hu : u < 15) {s' : Shape} {e' : EltTy}
    {srcw : Memref sig (thr d L).2.kind .hbm s' e'} {t : ℕ} {ht : t < 16} {hsrc : srcw.view.WordExact} {hdst : (slot t ht).view.WordExact}
    {k : PUnit → Prog (TpuEff nD τ sig (Elt F) Λ₀ (thr d L).2) α}
    (h : iprop(Bt d L X Lb w 16 ((u + 1) * NN) ∗ Ow d L O W ∗ R) ⊢ tw d L (k ⟨⟩) Q) :
    iprop(Bt d L X Lb w 16 (u * NN) ∗ Ow d L O W ∗ R)
      ⊢ tw d L (.op (.waitDma2 cc0_scratch3.sem srcw (slot t ht) hsrc hdst) k) Q := by
  iintro ⟨HB, ⟨#Hlv, %W', %hW', HO⟩, HR⟩
  ihave Hmw := (mayWait d L O hO cell) $$ Hlv
  iapply (Transfers.wp_waitBatchO countersEmb 𝒱₀ (thr d L) none (srcw := srcw) (dstw := slot t ht) (sem := cc0_scratch3.sem) (default : HIx 1) (N := NN) (credit_slot t ht) (D := Dv d L X Lb w) (u := u * NN)
    (wait_lt hu)) $$ [HB HO Hmw]
  · isplitl [HB]; · iexact HB
    isplitl [HO]; · iexact HO
    iexact Hmw
  iintro ⟨HB, HO⟩
  iapply h
  isplitl [HB]
  · rw [Nat.succ_mul]; iexact HB
  isplitl [HO]
  · isplitr; · iexact Hlv
    iexists _
    isplitr
    swap; · iexact HO
    ipureintro
    exact ow_insert W cell hW'
  iexact HR

/-- The blocks delivered are the fetch buffer whole. -/
theorem join_slots (f : Buf (Elt F) ((gatV).view.loc (thr d L))) :
    bigSep Finset.univ (fun t => slotPts d L t f) = ((gatV).view.loc (thr d L) ↦{fullShare} f : sProp 𝕄) := by
  refine (pointsTo_biUnion Finset.univ (ℓ := (gatV).view.loc (thr d L)) (fun t : Fin 16 => (slot t.val t.isLt).view.set) slots_disjoint).symm.trans ?_
  exact congrArg (fun S => ((gatV).view.loc (thr d L) ↦[S]{fullShare} f : sProp 𝕄)) slots_cover

/-- The last wait of a half: the fetch buffer comes back whole, the cell at zero. -/
theorem step_waitLast (hO : ∀ g, O g none = 0) (w : Fin 2) {s' : Shape} {e' : EltTy}
    {srcw : Memref sig (thr d L).2.kind .hbm s' e'} {t : ℕ} {ht : t < 16} {hsrc : srcw.view.WordExact} {hdst : (slot t ht).view.WordExact}
    {k : PUnit → Prog (TpuEff nD τ sig (Elt F) Λ₀ (thr d L).2) α}
    (h : iprop(((gatV).view.loc (thr d L) ↦{fullShare} fetched d L X Lb w) ∗ semVal (thr d L, cell) 0 ∗ Ow d L O W ∗ R) ⊢ tw d L (k ⟨⟩) Q) :
    iprop(Bt d L X Lb w 16 (15 * NN) ∗ Ow d L O W ∗ R)
      ⊢ tw d L (.op (.waitDma2 cc0_scratch3.sem srcw (slot t ht) hsrc hdst) k) Q := by
  iintro ⟨HB, ⟨#Hlv, %W', %hW', HO⟩, HR⟩
  ihave Hmw := (mayWait d L O hO cell) $$ Hlv
  iapply (Transfers.wp_waitBatchLastO countersEmb 𝒱₀ (thr d L) none (srcw := srcw) (dstw := slot t ht) (sem := cc0_scratch3.sem) (default : HIx 1) (N := NN) (credit_slot t ht) NN_pos (D := Dv d L X Lb w) (u := 15 * NN)
    wait_last) $$ [HB HO Hmw]
  · isplitl [HB]; · iexact HB
    isplitl [HO]; · iexact HO
    iexact Hmw
  iintro ⟨HD, Hv, HO⟩
  iapply h
  isplitl [HD]
  · iapply (Entails.of_eq (join_slots d L (fetched d L X Lb w))); iexact HD
  isplitl [Hv]; · iexact Hv
  isplitl [HO]
  · isplitr; · iexact Hlv
    iexists _
    isplitr
    swap; · iexact HO
    ipureintro
    exact ow_insert W cell hW'
  iexact HR

/-- Each block at known contents is each block at some contents. -/
theorem slots_any (g : Buf (Elt F) ((gatV).view.loc (thr d L))) :
    (bigSep Finset.univ (fun t : Fin 16 => slotPts d L t g) : sProp 𝕄) ⊢ bigSep Finset.univ (fun t : Fin 16 => iprop(∃ h, slotPts d L t h)) := by
  have h1 : ∀ t : Fin 16, (slotPts d L t g : sProp 𝕄) ⊢ iprop(∃ h, slotPts d L t h) := fun t => by
    iintro H
    iexists g
    iexact H
  exact bigSep_mono fun t _ => h1 t

/-- A half begins: the fetch buffer at any contents, the cell at zero, the half's shares. -/
theorem step_begin (w : Fin 2) {g : Buf (Elt F) ((gatV).view.loc (thr d L))} {p : Prog (TpuEff nD τ sig (Elt F) Λ₀ (thr d L).2) α}
    (h : iprop(PreIss d L X Lb w 0 ∗ R) ⊢ tw d L p Q) :
    iprop((((gatV).view.loc (thr d L) ↦{fullShare} g) ∗ semVal (thr d L, cell) 0 ∗ bigSep Finset.univ (xSh d L X w)) ∗ R) ⊢ tw d L p Q := by
  iintro ⟨⟨Hg, Hv, Hx⟩, HR⟩
  imod (Transfers.batch_alloc' countersEmb (c := thr d L) (sm := cell) (default : HIx 1) NN (Dv d L X Lb w) (E := Set.univ)) $$ Hv with HB
  iapply h
  isplitr [HR]
  · isplitl [HB]; · iexact HB
    ihave Hs := (Entails.of_eq (join_slots d L g).symm) $$ Hg
    iapply (Entails.of_eq (Transfers.bigSep_pending_zero (fun t : Fin 16 => (iprop((∃ h, slotPts d L t h) ∗ xSh d L X w t) : sProp 𝕄))).symm)
    iapply (Entails.of_eq (bigSep_sep' Finset.univ (fun t : Fin 16 => (iprop(∃ h, slotPts d L t h) : sProp 𝕄)) (fun t => xSh d L X w t)).symm)
    isplitr [Hx]
    · iapply (slots_any d L g)
      iexact Hs
    iexact Hx
  iexact HR

/-- After the sixteenth copy: the batch alone. -/
theorem preIss_done (w : Fin 2) : PreIss d L X Lb w 16 ⊢ (Bt d L X Lb w 16 (0 * NN) : sProp 𝕄) := by
  iintro ⟨HB, -⟩
  rw [Nat.zero_mul]
  iexact HB

/-- A check the program makes, which holds. -/
theorem step_assume {P : Prop} {dec : Decidable P} (hP : P) {k : PLift P → Prog (TpuEff nD τ sig (Elt F) Λ₀ (thr d L).2) α}
    (h : R ⊢ tw d L (k ⟨hP⟩) Q) : R ⊢ tw d L (.op (.assume P dec) k) Q := by
  exact h.trans (Entails.of_eq (wp_assume_of 𝒱₀ (thr d L) none Set.univ hP).symm)

end Tile

end Cert.Proof.Ki

end
-- ==== Proof.Ki.Gather.lean ====
/-
  The gathers of a tile: the word a lane looks up in its fetched block is its cosine.
-/
module

public import proofs.«01_k».proof.Proof.Ki.Steps
public import proofs.«01_k».proof.Proof.Ki.Pay

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid0.Coords) (X : S1024x100096.Idx → F .f32) (Lb : S1024.Idx → BitVec 32)
variable {α : Type} {Q : α → sProp (MT nD τ sig (HIx 1) (Elt F) ℕ UU ℕ)} {R : sProp (MT nD τ sig (HIx 1) (Elt F) ℕ UU ℕ)}

/-- The lane's word in its own block is its cosine. -/
theorem fetched_pick (hL : LabelsOK Lb) (w : Fin 2) (l : Fin 16) (i : S16x8x128.Idx) (h0 : (i 0).val = l.val) (h1 : (i 1).val = l.val % 8)
    (h2 : (i 2).val = (lane Lb L w l).toNat % 128) : fetched d L X Lb w i = pick X Lb L w l := by
  have e0 : (i 0 : Fin 16) = l := Fin.ext h0
  have hr := (row L w l).isLt
  have hc := lane_lt hL L w l
  show blockAt X Lb L w (i 0 : Fin 16) (i 1) (i 2) = _
  rw [e0]
  unfold blockAt pick
  congr 1
  funext k
  match k with
  | 0 =>
    apply Fin.ext
    show (8 * ((row L w l).val / 8) + (i 1).val) % 1024 = (row L w l).val
    rw [h1]
    have : (row L w l).val = 32 * (wid L).val + 16 * w.val + l.val := rfl
    omega
  | 1 =>
    apply Fin.ext
    show (128 * ((lane Lb L w l).toNat / 128) + (i 2).val) % 100096 = (lane Lb L w l).toNat % 100096
    rw [h2]
    congr 1
    omega

theorem gather_ok {va vb vc : IVec S16 32} {l n c : ℕ} (hl : l < 16) (ha : ∀ x, (va x).toNat = l) (hb : ∀ x, (vb x).toNat = n % 8)
    (hc : ∀ x, (vc x).toNat = c % 128) : ∀ a x, ((![va, vb, vc] : Fin 3 → IVec S16 32) a x).toNat < S16x8x128.size a := by
  intro a x
  match a with
  | 0 => show (va x).toNat < 16; rw [ha]; exact hl
  | 1 => show (vb x).toNat < 8; rw [hb]; omega
  | 2 => show (vc x).toNat < 128; rw [hc]; omega

/-- A gather of lane `l`'s word. -/
theorem step_gather (hL : LabelsOK Lb) (w : Fin 2) (l : Fin 16) {va vb vc : IVec S16 32}
    (ha : ∀ x, (va x).toNat = l.val) (hb : ∀ x, (vb x).toNat = l.val % 8) (hc : ∀ x, (vc x).toNat = (lane Lb L w l).toNat % 128)
    {hi : ∀ a x, ((![va, vb, vc] : Fin 3 → IVec S16 32) a x).toNat < S16x8x128.size a} {hld : (gatV).view.Loads}
    {k : Vec F S16 .f32 → Prog (TpuEff nD τ sig (Elt F) Λ₀ (thr d L).2) α}
    (h : iprop(((gatV).view.loc (thr d L) ↦{fullShare} fetched d L X Lb w) ∗ R) ⊢ tw d L (k fun _ => pick X Lb L w l) Q) :
    iprop(((gatV).view.loc (thr d L) ↦{fullShare} fetched d L X Lb w) ∗ R)
      ⊢ tw d L (SparseCore.vectorLoadIdx gatV ![va, vb, vc] hi hld >>= k) Q := by
  have hv : Idealize.ShloMosaic.loadIdx (((gatV).access (.whole S16x8x128)).read (Elt F) (fetched d L X Lb w)) ![va, vb, vc] hi = fun _ => pick X Lb L w l := by
    funext x
    have h1 : ∀ n : ℕ, 0 + 1 * n = n := fun n => by omega
    exact fetched_pick d L X Lb hL w l _ ((h1 _).trans (ha x)) ((h1 _).trans (hb x)) ((h1 _).trans (hc x))
  iintro ⟨Hg, HR⟩
  iapply (SparseCore.wp_vectorLoadIdx 𝒱₀ (thr d L) none Set.univ (base := gatV) (S := Finset.univ) (q := fullShare) (Finset.subset_univ _)) $$ Hg
  rw [hv]
  iintro Hg
  iapply h
  isplitl [Hg]; · iexact Hg
  iexact HR

end Tile

end Cert.Proof.Ki

end
-- ==== Proof.Ki.Local.lean ====
/-
  A tile's other steps: its labels fetched and read, its results stored and copied out.
-/
module

public import proofs.«01_k».proof.Proof.Ki.Gather

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The tile's row `i` of thirty-two. -/
def row32 (L : grid0.Coords) (i : Fin 32) : Fin 1024 := ⟨32 * (wid L).val + i.val, by have := (wid L).isLt; omega⟩

/-- The tile's labels. -/
def labs32 (Lb : S1024.Idx → BitVec 32) (L : grid0.Coords) : S32.Idx → BitVec 32 := fun i => Lb (ix1 (row32 L (i 0)))

/-- The margin's value of row `r`. -/
def corAt (X : S1024x100096.Idx → F .f32) (Lb : S1024.Idx → BitVec 32) (r : Fin 1024) : F .f32 :=
  corS (X (ix2 r (Fin.ofNat 100096 (safe (Lb (ix1 r))).toNat)))

/-- The tile's results. -/
def cor32 (X : S1024x100096.Idx → F .f32) (Lb : S1024.Idx → BitVec 32) (L : grid0.Coords) : S32.Idx → F .f32 := fun i => corAt X Lb (row32 L (i 0))

/-- The results of half `w`. -/
def cor16 (X : S1024x100096.Idx → F .f32) (Lb : S1024.Idx → BitVec 32) (L : grid0.Coords) (w : Fin 2) : FVec F S16 .f32 :=
  corV16 (fun x => pick X Lb L w (x 0))

theorem cor16_apply (X : S1024x100096.Idx → F .f32) (Lb : S1024.Idx → BitVec 32) (L : grid0.Coords) (w : Fin 2) (x : S16.Idx) :
    cor16 X Lb L w x = corAt X Lb (row L w (x 0)) := corV16_apply _ x

theorem half_inb (w : Fin 2) : ∀ a, (![16 * w.val] : Fin 1 → ℕ) a + S16.size a ≤ S32.size a := by
  intro a
  match a with
  | 0 => show 16 * w.val + 16 ≤ 32; omega
/-- Half `w` of thirty-two. -/
abbrev halfR (w : Fin 2) : Rect S32 := Rect.unit (s := S32) ![16 * w.val] S16.size (half_inb w)

theorem row_half (L : grid0.Coords) (w : Fin 2) (l : Fin 16) (h : 16 * w.val + 1 * l.val < 32) : row32 L ⟨16 * w.val + 1 * l.val, h⟩ = row L w l := by
  apply Fin.ext
  show 32 * (wid L).val + (16 * w.val + 1 * l.val) = 32 * (wid L).val + 16 * w.val + l.val
  omega

section Tile

variable (d : Dev nD) (L : grid0.Coords) (X : S1024x100096.Idx → F .f32) (Lb : S1024.Idx → BitVec 32)
variable (O : CellTallies nD τ sig (HIx 1)) (W : Waits sig (HIx 1))
variable {α : Type} {Q : α → sProp (MT nD τ sig (HIx 1) (Elt F) ℕ UU ℕ)} {R : sProp (MT nD τ sig (HIx 1) (Elt F) ℕ UU ℕ)}

abbrev lPts : sProp 𝕄 := (lV).view.loc (thr d L) ↦[lSet (wid L)]{fullShare} Lb
abbrev labPts (f : Buf (Elt F) ((labV).view.loc (thr d L))) : sProp 𝕄 := (labV).view.loc (thr d L) ↦{fullShare} f
abbrev corPts (f : Buf (Elt F) ((corV).view.loc (thr d L))) : sProp 𝕄 := (corV).view.loc (thr d L) ↦{fullShare} f
abbrev oPts (f : Buf (Elt F) ((oV).view.loc (thr d L))) : sProp 𝕄 := (oV).view.loc (thr d L) ↦[oSet (wid L)]{fullShare} f

theorem labs_read : (lRow L).view.read (Elt F) Lb = labs32 Lb L := by
  funext i
  refine (View.read_apply _ _).trans ?_
  show Lb _ = Lb _
  congr 1
  funext k
  match k with
  | 0 =>
    apply Fin.ext
    show k0_off1 L 0 + 1 * (i 0).val = 32 * (wid L).val + (i 0).val
    rw [off1_eq]; omega

set_option maxHeartbeats 1000000 in
/-- The labels fetched: the copy started and waited for. -/
theorem step_labs (hO : ∀ g, O g none = 0) {g : Buf (Elt F) ((labV).view.loc (thr d L))} {h1 : (lRow L).view.WordExact} {h2 : (labV).view.WordExact}
    {h3 : DmaTarget.Typed (nD := nD) (τ := τ) (p := (thr d L).2) .hbm (.dma cc0_scoped0.sem : SemLoc sig) (.here labV)} {h4 : (lRow L).view.WordExact}
    {h5 : (labV).view.WordExact} {k : PUnit → Prog (TpuEff nD τ sig (Elt F) Λ₀ (thr d L).2) α}
    (h : iprop(lPts d L Lb ∗ labPts d L (labs32 Lb L) ∗ semVal (thr d L, .dma cc0_scoped0.sem) 0 ∗ Ow d L O W ∗ R) ⊢ tw d L (k ⟨⟩) Q) :
    iprop(lPts d L Lb ∗ labPts d L g ∗ semVal (thr d L, .dma cc0_scoped0.sem) 0 ∗ Ow d L O W ∗ R)
      ⊢ tw d L (.op (.enqueueDma (lRow L) (.here labV) (.dma cc0_scoped0.sem) h1 h2 h3)
          fun _ => .op (.waitDma2 cc0_scoped0.sem (lRow L) labV h4 h5) k) Q := by
  iintro ⟨Hl, Hb, Hv, ⟨#Hlv, %W', %hW', HO⟩, HR⟩
  iapply (Transfers.wp_dmaLocal countersEmb 𝒱₀ (thr d L) none (src := lRow L) (dst := labV) (sm := .dma cc0_scoped0.sem) (default : HIx 1)
    ((labV).view.dmaCredit) rfl (by decide) (Sd := Finset.univ) (Finset.subset_univ _) (fs := Lb) (fd := g) (q := fullShare)) $$ [Hl Hb Hv]
  · isplitl [Hl]
    · rw [set_lRow]; iexact Hl
    isplitl [Hb]; · iexact Hb
    iexact Hv
  iintro HF
  ihave Hmw := (mayWait d L O hO (.dma cc0_scoped0.sem)) $$ Hlv
  iapply (Transfers.wp_waitLocalO countersEmb 𝒱₀ (thr d L) none (srcw := lRow L) (dstw := labV) (sem := cc0_scoped0.sem) (default : HIx 1) rfl) $$ [HF HO Hmw]
  · isplitl [HF]; · iexact HF
    isplitl [HO]; · iexact HO
    iexact Hmw
  iintro ⟨⟨Hb, Hl⟩, Hv, HO⟩
  iapply h
  isplitl [Hl]
  · rw [set_lRow]; iexact Hl
  isplitl [Hb]
  · iapply (Entails.of_eq (congrArg (labPts d L) ((View.write_whole_univ cc0_scratch0 g _).trans (labs_read L Lb)))); iexact Hb
  isplitl [Hv]; · iexact Hv
  isplitl [HO]
  · isplitr; · iexact Hlv
    iexists _
    isplitr
    swap; · iexact HO
    ipureintro
    exact ow_insert W _ hW'
  iexact HR

/-- Half `w`'s labels loaded. -/
theorem step_loadLab (w : Fin 2) {inb : ∀ a, (![16 * w.val] : Fin 1 → ℕ) a + S16.size a ≤ S32.size a}
    {hl : (labV).view.LoadsAt (Rect.unit (s := S32) ![16 * w.val] S16.size inb).toLoadRect}
    {k : (S16.Idx → BitVec 32) → Prog (TpuEff nD τ sig (Elt F) Λ₀ (thr d L).2) α}
    (h : iprop(labPts d L (labs32 Lb L) ∗ R) ⊢ tw d L (k (labs Lb L w)) Q) :
    iprop(labPts d L (labs32 Lb L) ∗ R)
      ⊢ tw d L (.op (.load labV (Rect.unit (s := S32) ![16 * w.val] S16.size inb).toLoadRect hl) k) Q := by
  have hv : (labV).view.readAt (Elt F) (Rect.unit (s := S32) ![16 * w.val] S16.size inb).toLoadRect (labs32 Lb L) = labs Lb L w := by
    funext x
    show Lb (ix1 (row32 L _)) = Lb (ix1 (row L w (x 0)))
    exact congrArg (fun r => Lb (ix1 r)) (row_half L w (x 0) _)
  iintro ⟨Hb, HR⟩
  iapply (wp_load 𝒱₀ (thr d L) none Set.univ (m := labV) (S := Finset.univ) (Finset.subset_univ _)) $$ Hb
  rw [hv]
  iintro Hb
  iapply h
  isplitl [Hb]; · iexact Hb
  iexact HR

/-- A load of the results, its value unused. -/
theorem step_loadCor {r : LoadRect S32} {hl : (corV).view.LoadsAt r} {f : Buf (Elt F) ((corV).view.loc (thr d L))}
    {k : (r.shape.Idx → F .f32) → Prog (TpuEff nD τ sig (Elt F) Λ₀ (thr d L).2) α}
    (h : ∀ v, iprop(corPts d L f ∗ R) ⊢ tw d L (k v) Q) :
    iprop(corPts d L f ∗ R) ⊢ tw d L (.op (.load corV r hl) k) Q := by
  iintro ⟨Hb, HR⟩
  iapply (wp_load 𝒱₀ (thr d L) none Set.univ (m := corV) (S := Finset.univ) (Finset.subset_univ _)) $$ Hb
  iintro Hb
  iapply (h _)
  isplitl [Hb]; · iexact Hb
  iexact HR

/-- The element of half `w`, among thirty-two. -/
theorem half_write (w : Fin 2) {inb : ∀ a, (![16 * w.val] : Fin 1 → ℕ) a + S16.size a ≤ S32.size a} (f : S32.Idx → F .f32) (i : S32.Idx) :
    ((corV).access (Rect.unit (s := S32) ![16 * w.val] S16.size inb)).write (Elt F) f (cor16 X Lb L w) Finset.univ i
      = if 16 * w.val ≤ (i 0).val ∧ (i 0).val < 16 * w.val + 16 then cor32 X Lb L i else f i := by
  have hi : (i 0).val < 32 := (i 0).isLt
  by_cases hc : 16 * w.val ≤ (i 0).val ∧ (i 0).val < 16 * w.val + 16
  · rw [if_pos hc]
    have e : i = ((corV).access (Rect.unit (s := S32) ![16 * w.val] S16.size inb)).emb (ix1 (⟨(i 0).val - 16 * w.val, by omega⟩ : Fin 16) : S16.Idx) := by
      funext k
      match k with
      | 0 =>
        apply Fin.ext
        show (i 0).val = 16 * w.val + 1 * ((i 0).val - 16 * w.val)
        omega
    have hv : cor16 X Lb L w (ix1 (⟨(i 0).val - 16 * w.val, by omega⟩ : Fin 16)) = cor32 X Lb L i := by
      rw [cor16_apply]
      unfold cor32
      congr 1
      apply Fin.ext
      show 32 * (wid L).val + 16 * w.val + ((i 0).val - 16 * w.val) = 32 * (wid L).val + (i 0).val
      omega
    rw [← hv]
    refine Eq.trans (congrArg _ e) ?_
    exact View.write_emb_of_mem _ _ (Finset.mem_univ _)
  · rw [if_neg hc]
    refine View.write_of_not_mem _ _ _ fun hm => hc ?_
    obtain ⟨j, -, hj⟩ := Finset.mem_map.mp hm
    have hj0 : (i 0).val = 16 * w.val + 1 * (j 0).val := by rw [← hj]; rfl
    have : (j 0).val < 16 := (j 0).isLt
    omega

/-- Half `w`'s results stored. -/
theorem step_store (w : Fin 2) {inb : ∀ a, (![16 * w.val] : Fin 1 → ℕ) a + S16.size a ≤ S32.size a} {f : Buf (Elt F) ((corV).view.loc (thr d L))}
    {v : S16.Idx → F .f32} (hv : v = cor16 X Lb L w)
    {hx : ((corV).access (Rect.unit (s := S32) ![16 * w.val] S16.size inb)).Stores Finset.univ}
    {hm : (Finset.univ : Finset S16.Idx) = Finset.univ ∨ ∀ a, (Rect.unit (s := S32) ![16 * w.val] S16.size inb).stride a = 1}
    {k : PUnit → Prog (TpuEff nD τ sig (Elt F) Λ₀ (thr d L).2) α}
    (h : iprop(corPts d L (fun i : S32.Idx => if 16 * w.val ≤ (i 0).val ∧ (i 0).val < 16 * w.val + 16 then cor32 X Lb L i else f i) ∗ R) ⊢ tw d L (k ⟨⟩) Q) :
    iprop(corPts d L f ∗ R)
      ⊢ tw d L (.op (.store corV (Rect.unit (s := S32) ![16 * w.val] S16.size inb) v Finset.univ hx hm) k) Q := by
  subst hv
  iintro ⟨Hb, HR⟩
  iapply (wp_store 𝒱₀ (thr d L) none Set.univ (m := corV) (r := Rect.unit (s := S32) ![16 * w.val] S16.size inb) (Mk := Finset.univ) (S := Finset.univ) (Finset.subset_univ _)) $$ Hb
  iintro Hb
  iapply h
  isplitl [Hb]
  · iapply (Entails.of_eq (congrArg (corPts d L) (funext fun i => half_write L X Lb w (inb := inb) f i))); iexact Hb
  iexact HR

theorem out_written (g : Buf (Elt F) ((oV).view.loc (thr d L))) (i : S1024.Idx) (hi : i ∈ oSet (wid L)) :
    (oRow L).view.write (Elt F) g (cor32 X Lb L) Finset.univ i = corAt X Lb (i 0) := by
  rw [← set_oRow] at hi
  obtain ⟨j, -, hj⟩ := Finset.mem_map.mp hi
  refine Eq.trans (congrArg _ hj.symm) ?_
  refine (View.write_emb_of_mem _ _ (Finset.mem_univ _)).trans ?_
  show corAt X Lb (row32 L (j 0)) = _
  congr 1
  rw [← hj]
  apply Fin.ext
  show 32 * (wid L).val + (j 0).val = k0_off64 L 0 + 1 * (j 0).val
  rw [off64_eq]; omega

set_option maxHeartbeats 1000000 in
/-- The results copied out: the copy started and waited for. -/
theorem step_out (hO : ∀ g, O g none = 0) {g : Buf (Elt F) ((oV).view.loc (thr d L))} {h1 : (corV).view.WordExact} {h2 : (oRow L).view.WordExact}
    {h3 : DmaTarget.Typed (nD := nD) (τ := τ) (p := (thr d L).2) .vmem (.dma cc0_scoped1.sem : SemLoc sig) (.here (oRow L))} {h4 : (corV).view.WordExact}
    {h5 : (oRow L).view.WordExact} {k : PUnit → Prog (TpuEff nD τ sig (Elt F) Λ₀ (thr d L).2) α}
    (h : iprop(corPts d L (cor32 X Lb L) ∗ oPts d L (fun i : S1024.Idx => corAt X Lb (i 0)) ∗ semVal (thr d L, .dma cc0_scoped1.sem) 0 ∗ Ow d L O W ∗ R) ⊢ tw d L (k ⟨⟩) Q) :
    iprop(corPts d L (cor32 X Lb L) ∗ oPts d L g ∗ semVal (thr d L, .dma cc0_scoped1.sem) 0 ∗ Ow d L O W ∗ R)
      ⊢ tw d L (.op (.enqueueDma corV (.here (oRow L)) (.dma cc0_scoped1.sem) h1 h2 h3)
          fun _ => .op (.waitDma2 cc0_scoped1.sem corV (oRow L) h4 h5) k) Q := by
  iintro ⟨Hb, Hl, Hv, ⟨#Hlv, %W', %hW', HO⟩, HR⟩
  iapply (Transfers.wp_dmaLocal countersEmb 𝒱₀ (thr d L) none (src := corV) (dst := oRow L) (sm := .dma cc0_scoped1.sem) (default : HIx 1)
    ((oRow L).view.dmaCredit) rfl (show 0 < (corV).view.dmaCredit by decide) (Sd := (oRow L).view.set) (Finset.Subset.refl _) (fs := cor32 X Lb L) (fd := g) (q := fullShare)) $$ [Hl Hb Hv]
  · isplitl [Hb]
    · rw [View.set_whole]; iexact Hb
    isplitl [Hl]
    · rw [set_oRow]; iexact Hl
    iexact Hv
  iintro HF
  ihave Hmw := (mayWait d L O hO (.dma cc0_scoped1.sem)) $$ Hlv
  iapply (Transfers.wp_waitLocalO countersEmb 𝒱₀ (thr d L) none (srcw := corV) (dstw := oRow L) (sem := cc0_scoped1.sem) (default : HIx 1) rfl) $$ [HF HO Hmw]
  · isplitl [HF]; · iexact HF
    isplitl [HO]; · iexact HO
    iexact Hmw
  iintro ⟨⟨Hl, Hb⟩, Hv, HO⟩
  iapply h
  isplitl [Hb]
  · rw [View.set_whole]; iexact Hb
  isplitl [Hl]
  · rw [set_oRow]
    iapply (Entails.of_eq (pointsTo_congr fun i hi => out_written d L X Lb g i hi)); iexact Hl
  isplitl [Hv]; · iexact Hv
  isplitl [HO]
  · isplitr; · iexact Hlv
    iexists _
    isplitr
    swap; · iexact HO
    ipureintro
    exact ow_insert W _ hW'
  iexact HR

end Tile

end Cert.Proof.Ki

end
-- ==== Proof.Ki.Words.lean ====
/-
  What the parts of a tile's program share: a lane's word, and the check made of it.
-/
module

public import proofs.«01_k».proof.Proof.Ki.Local

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The lanes' words -/

theorem ext_0_0 (Lb : S1024.Idx → BitVec 32) (L : grid0.Coords) : extractAt ![0] (k0_pay2 (F := F) (labs Lb L 0)) inpos_S1_p0 = lane Lb L 0 0 := rfl
theorem ext_0_1 (Lb : S1024.Idx → BitVec 32) (L : grid0.Coords) : extractAt ![0] (k0_pay3 (F := F) (labs Lb L 0)) inpos_S1_p0 = lane Lb L 0 1 := rfl
theorem ext_0_2 (Lb : S1024.Idx → BitVec 32) (L : grid0.Coords) : extractAt ![0] (k0_pay4 (k0_pay1 (F := F) (labs Lb L 0))) inpos_S1_p0 = lane Lb L 0 2 := rfl
theorem ext_0_3 (Lb : S1024.Idx → BitVec 32) (L : grid0.Coords) : extractAt ![0] (k0_pay5 (k0_pay1 (F := F) (labs Lb L 0))) inpos_S1_p0 = lane Lb L 0 3 := rfl
theorem ext_0_4 (Lb : S1024.Idx → BitVec 32) (L : grid0.Coords) : extractAt ![0] (k0_pay6 (k0_pay1 (F := F) (labs Lb L 0))) inpos_S1_p0 = lane Lb L 0 4 := rfl
theorem ext_0_5 (Lb : S1024.Idx → BitVec 32) (L : grid0.Coords) : extractAt ![0] (k0_pay7 (k0_pay1 (F := F) (labs Lb L 0))) inpos_S1_p0 = lane Lb L 0 5 := rfl
theorem ext_0_6 (Lb : S1024.Idx → BitVec 32) (L : grid0.Coords) : extractAt ![0] (k0_pay8 (k0_pay1 (F := F) (labs Lb L 0))) inpos_S1_p0 = lane Lb L 0 6 := rfl
theorem ext_0_7 (Lb : S1024.Idx → BitVec 32) (L : grid0.Coords) : extractAt ![0] (k0_pay9 (k0_pay1 (F := F) (labs Lb L 0))) inpos_S1_p0 = lane Lb L 0 7 := rfl
theorem ext_0_8 (Lb : S1024.Idx → BitVec 32) (L : grid0.Coords) : extractAt ![0] (k0_pay10 (k0_pay1 (F := F) (labs Lb L 0))) inpos_S1_p0 = lane Lb L 0 8 := rfl
theorem ext_0_9 (Lb : S1024.Idx → BitVec 32) (L : grid0.Coords) : extractAt ![0] (k0_pay11 (k0_pay1 (F := F) (labs Lb L 0))) inpos_S1_p0 = lane Lb L 0 9 := rfl
theorem ext_0_10 (Lb : S1024.Idx → BitVec 32) (L : grid0.Coords) : extractAt ![0] (k0_pay12 (k0_pay1 (F := F) (labs Lb L 0))) inpos_S1_p0 = lane Lb L 0 10 := rfl
theorem ext_0_11 (Lb : S1024.Idx → BitVec 32) (L : grid0.Coords) : extractAt ![0] (k0_pay13 (k0_pay1 (F := F) (labs Lb L 0))) inpos_S1_p0 = lane Lb L 0 11 := rfl
theorem ext_0_12 (Lb : S1024.Idx → BitVec 32) (L : grid0.Coords) : extractAt ![0] (k0_pay14 (k0_pay1 (F := F) (labs Lb L 0))) inpos_S1_p0 = lane Lb L 0 12 := rfl
theorem ext_0_13 (Lb : S1024.Idx → BitVec 32) (L : grid0.Coords) : extractAt ![0] (k0_pay15 (k0_pay1 (F := F) (labs Lb L 0))) inpos_S1_p0 = lane Lb L 0 13 := rfl
theorem ext_0_14 (Lb : S1024.Idx → BitVec 32) (L : grid0.Coords) : extractAt ![0] (k0_pay16 (k0_pay1 (F := F) (labs Lb L 0))) inpos_S1_p0 = lane Lb L 0 14 := rfl
theorem ext_0_15 (Lb : S1024.Idx → BitVec 32) (L : grid0.Coords) : extractAt ![0] (k0_pay17 (k0_pay1 (F := F) (labs Lb L 0))) inpos_S1_p0 = lane Lb L 0 15 := rfl
theorem ext_1_0 (Lb : S1024.Idx → BitVec 32) (L : grid0.Coords) : extractAt ![0] (k0_pay36 (k0_pay35 (F := F) (labs Lb L 1))) inpos_S1_p0 = lane Lb L 1 0 := rfl
theorem ext_1_1 (Lb : S1024.Idx → BitVec 32) (L : grid0.Coords) : extractAt ![0] (k0_pay37 (k0_pay35 (F := F) (labs Lb L 1))) inpos_S1_p0 = lane Lb L 1 1 := rfl
theorem ext_1_2 (Lb : S1024.Idx → BitVec 32) (L : grid0.Coords) : extractAt ![0] (k0_pay38 (k0_pay35 (F := F) (labs Lb L 1))) inpos_S1_p0 = lane Lb L 1 2 := rfl
theorem ext_1_3 (Lb : S1024.Idx → BitVec 32) (L : grid0.Coords) : extractAt ![0] (k0_pay39 (k0_pay35 (F := F) (labs Lb L 1))) inpos_S1_p0 = lane Lb L 1 3 := rfl
theorem ext_1_4 (Lb : S1024.Idx → BitVec 32) (L : grid0.Coords) : extractAt ![0] (k0_pay40 (k0_pay35 (F := F) (labs Lb L 1))) inpos_S1_p0 = lane Lb L 1 4 := rfl
theorem ext_1_5 (Lb : S1024.Idx → BitVec 32) (L : grid0.Coords) : extractAt ![0] (k0_pay41 (k0_pay35 (F := F) (labs Lb L 1))) inpos_S1_p0 = lane Lb L 1 5 := rfl
theorem ext_1_6 (Lb : S1024.Idx → BitVec 32) (L : grid0.Coords) : extractAt ![0] (k0_pay42 (k0_pay35 (F := F) (labs Lb L 1))) inpos_S1_p0 = lane Lb L 1 6 := rfl
theorem ext_1_7 (Lb : S1024.Idx → BitVec 32) (L : grid0.Coords) : extractAt ![0] (k0_pay43 (k0_pay35 (F := F) (labs Lb L 1))) inpos_S1_p0 = lane Lb L 1 7 := rfl
theorem ext_1_8 (Lb : S1024.Idx → BitVec 32) (L : grid0.Coords) : extractAt ![0] (k0_pay44 (k0_pay35 (F := F) (labs Lb L 1))) inpos_S1_p0 = lane Lb L 1 8 := rfl
theorem ext_1_9 (Lb : S1024.Idx → BitVec 32) (L : grid0.Coords) : extractAt ![0] (k0_pay45 (k0_pay35 (F := F) (labs Lb L 1))) inpos_S1_p0 = lane Lb L 1 9 := rfl
theorem ext_1_10 (Lb : S1024.Idx → BitVec 32) (L : grid0.Coords) : extractAt ![0] (k0_pay46 (k0_pay35 (F := F) (labs Lb L 1))) inpos_S1_p0 = lane Lb L 1 10 := rfl
theorem ext_1_11 (Lb : S1024.Idx → BitVec 32) (L : grid0.Coords) : extractAt ![0] (k0_pay47 (k0_pay35 (F := F) (labs Lb L 1))) inpos_S1_p0 = lane Lb L 1 11 := rfl
theorem ext_1_12 (Lb : S1024.Idx → BitVec 32) (L : grid0.Coords) : extractAt ![0] (k0_pay48 (k0_pay35 (F := F) (labs Lb L 1))) inpos_S1_p0 = lane Lb L 1 12 := rfl
theorem ext_1_13 (Lb : S1024.Idx → BitVec 32) (L : grid0.Coords) : extractAt ![0] (k0_pay49 (k0_pay35 (F := F) (labs Lb L 1))) inpos_S1_p0 = lane Lb L 1 13 := rfl
theorem ext_1_14 (Lb : S1024.Idx → BitVec 32) (L : grid0.Coords) : extractAt ![0] (k0_pay50 (k0_pay35 (F := F) (labs Lb L 1))) inpos_S1_p0 = lane Lb L 1 14 := rfl
theorem ext_1_15 (Lb : S1024.Idx → BitVec 32) (L : grid0.Coords) : extractAt ![0] (k0_pay51 (k0_pay35 (F := F) (labs Lb L 1))) inpos_S1_p0 = lane Lb L 1 15 := rfl

/-! ## The checks -/

theorem ck1 {Lb : S1024.Idx → BitVec 32} (hL : LabelsOK Lb) (L : grid0.Coords) : k0_chk1 L (lane Lb L 0 0) := chk_of L 0 0 (lane_lt hL L 0 0)
theorem ck2 {Lb : S1024.Idx → BitVec 32} (hL : LabelsOK Lb) (L : grid0.Coords) : k0_chk2 L (lane Lb L 0 1) := chk_of L 0 1 (lane_lt hL L 0 1)
theorem ck3 {Lb : S1024.Idx → BitVec 32} (hL : LabelsOK Lb) (L : grid0.Coords) : k0_chk3 L (lane Lb L 0 2) := chk_of L 0 2 (lane_lt hL L 0 2)
theorem ck4 {Lb : S1024.Idx → BitVec 32} (hL : LabelsOK Lb) (L : grid0.Coords) : k0_chk4 L (lane Lb L 0 3) := chk_of L 0 3 (lane_lt hL L 0 3)
theorem ck5 {Lb : S1024.Idx → BitVec 32} (hL : LabelsOK Lb) (L : grid0.Coords) : k0_chk5 L (lane Lb L 0 4) := chk_of L 0 4 (lane_lt hL L 0 4)
theorem ck6 {Lb : S1024.Idx → BitVec 32} (hL : LabelsOK Lb) (L : grid0.Coords) : k0_chk6 L (lane Lb L 0 5) := chk_of L 0 5 (lane_lt hL L 0 5)
theorem ck7 {Lb : S1024.Idx → BitVec 32} (hL : LabelsOK Lb) (L : grid0.Coords) : k0_chk7 L (lane Lb L 0 6) := chk_of L 0 6 (lane_lt hL L 0 6)
theorem ck8 {Lb : S1024.Idx → BitVec 32} (hL : LabelsOK Lb) (L : grid0.Coords) : k0_chk8 L (lane Lb L 0 7) := chk_of L 0 7 (lane_lt hL L 0 7)
theorem ck9 {Lb : S1024.Idx → BitVec 32} (hL : LabelsOK Lb) (L : grid0.Coords) : k0_chk9 L (lane Lb L 0 8) := chk_of L 0 8 (lane_lt hL L 0 8)
theorem ck10 {Lb : S1024.Idx → BitVec 32} (hL : LabelsOK Lb) (L : grid0.Coords) : k0_chk10 L (lane Lb L 0 9) := chk_of L 0 9 (lane_lt hL L 0 9)
theorem ck11 {Lb : S1024.Idx → BitVec 32} (hL : LabelsOK Lb) (L : grid0.Coords) : k0_chk11 L (lane Lb L 0 10) := chk_of L 0 10 (lane_lt hL L 0 10)
theorem ck12 {Lb : S1024.Idx → BitVec 32} (hL : LabelsOK Lb) (L : grid0.Coords) : k0_chk12 L (lane Lb L 0 11) := chk_of L 0 11 (lane_lt hL L 0 11)
theorem ck13 {Lb : S1024.Idx → BitVec 32} (hL : LabelsOK Lb) (L : grid0.Coords) : k0_chk13 L (lane Lb L 0 12) := chk_of L 0 12 (lane_lt hL L 0 12)
theorem ck14 {Lb : S1024.Idx → BitVec 32} (hL : LabelsOK Lb) (L : grid0.Coords) : k0_chk14 L (lane Lb L 0 13) := chk_of L 0 13 (lane_lt hL L 0 13)
theorem ck15 {Lb : S1024.Idx → BitVec 32} (hL : LabelsOK Lb) (L : grid0.Coords) : k0_chk15 L (lane Lb L 0 14) := chk_of L 0 14 (lane_lt hL L 0 14)
theorem ck16 {Lb : S1024.Idx → BitVec 32} (hL : LabelsOK Lb) (L : grid0.Coords) : k0_chk16 L (lane Lb L 0 15) := chk_of' L 0 15 (lane_lt hL L 0 15)
theorem ck33 {Lb : S1024.Idx → BitVec 32} (hL : LabelsOK Lb) (L : grid0.Coords) : k0_chk33 L (lane Lb L 1 0) := chk_of L 1 0 (lane_lt hL L 1 0)
theorem ck34 {Lb : S1024.Idx → BitVec 32} (hL : LabelsOK Lb) (L : grid0.Coords) : k0_chk34 L (lane Lb L 1 1) := chk_of L 1 1 (lane_lt hL L 1 1)
theorem ck35 {Lb : S1024.Idx → BitVec 32} (hL : LabelsOK Lb) (L : grid0.Coords) : k0_chk35 L (lane Lb L 1 2) := chk_of L 1 2 (lane_lt hL L 1 2)
theorem ck36 {Lb : S1024.Idx → BitVec 32} (hL : LabelsOK Lb) (L : grid0.Coords) : k0_chk36 L (lane Lb L 1 3) := chk_of L 1 3 (lane_lt hL L 1 3)
theorem ck37 {Lb : S1024.Idx → BitVec 32} (hL : LabelsOK Lb) (L : grid0.Coords) : k0_chk37 L (lane Lb L 1 4) := chk_of L 1 4 (lane_lt hL L 1 4)
theorem ck38 {Lb : S1024.Idx → BitVec 32} (hL : LabelsOK Lb) (L : grid0.Coords) : k0_chk38 L (lane Lb L 1 5) := chk_of L 1 5 (lane_lt hL L 1 5)
theorem ck39 {Lb : S1024.Idx → BitVec 32} (hL : LabelsOK Lb) (L : grid0.Coords) : k0_chk39 L (lane Lb L 1 6) := chk_of L 1 6 (lane_lt hL L 1 6)
theorem ck40 {Lb : S1024.Idx → BitVec 32} (hL : LabelsOK Lb) (L : grid0.Coords) : k0_chk40 L (lane Lb L 1 7) := chk_of L 1 7 (lane_lt hL L 1 7)
theorem ck41 {Lb : S1024.Idx → BitVec 32} (hL : LabelsOK Lb) (L : grid0.Coords) : k0_chk41 L (lane Lb L 1 8) := chk_of L 1 8 (lane_lt hL L 1 8)
theorem ck42 {Lb : S1024.Idx → BitVec 32} (hL : LabelsOK Lb) (L : grid0.Coords) : k0_chk42 L (lane Lb L 1 9) := chk_of L 1 9 (lane_lt hL L 1 9)
theorem ck43 {Lb : S1024.Idx → BitVec 32} (hL : LabelsOK Lb) (L : grid0.Coords) : k0_chk43 L (lane Lb L 1 10) := chk_of L 1 10 (lane_lt hL L 1 10)
theorem ck44 {Lb : S1024.Idx → BitVec 32} (hL : LabelsOK Lb) (L : grid0.Coords) : k0_chk44 L (lane Lb L 1 11) := chk_of L 1 11 (lane_lt hL L 1 11)
theorem ck45 {Lb : S1024.Idx → BitVec 32} (hL : LabelsOK Lb) (L : grid0.Coords) : k0_chk45 L (lane Lb L 1 12) := chk_of L 1 12 (lane_lt hL L 1 12)
theorem ck46 {Lb : S1024.Idx → BitVec 32} (hL : LabelsOK Lb) (L : grid0.Coords) : k0_chk46 L (lane Lb L 1 13) := chk_of L 1 13 (lane_lt hL L 1 13)
theorem ck47 {Lb : S1024.Idx → BitVec 32} (hL : LabelsOK Lb) (L : grid0.Coords) : k0_chk47 L (lane Lb L 1 14) := chk_of L 1 14 (lane_lt hL L 1 14)
theorem ck48 {Lb : S1024.Idx → BitVec 32} (hL : LabelsOK Lb) (L : grid0.Coords) : k0_chk48 L (lane Lb L 1 15) := chk_of' L 1 15 (lane_lt hL L 1 15)

section Tile

variable (d : Dev nD) (L : grid0.Coords) (X : S1024x100096.Idx → F .f32) (Lb : S1024.Idx → BitVec 32)
variable {α : Type} {Q : α → sProp (MT nD τ sig (HIx 1) (Elt F) ℕ UU ℕ)} {R : sProp (MT nD τ sig (HIx 1) (Elt F) ℕ UU ℕ)}

/-- The end of a piece of the program. -/
theorem step_ret {a : α} (h : R ⊢ Q a) : R ⊢ tw d L (.ret a) Q := by
  iintro H
  rw [show tw d L (.ret a) Q = iprop(|={Set.univ}=> Q a) from rfl]
  imodintro
  iapply h
  iexact H

/-- Every copy of a half started. -/
theorem step_done (w : Fin 2) {p : Prog (TpuEff nD τ sig (Elt F) Λ₀ (thr d L).2) α}
    (h : iprop(Bt d L X Lb w 16 (0 * NN) ∗ R) ⊢ tw d L p Q) : iprop(PreIss d L X Lb w 16 ∗ R) ⊢ tw d L p Q := by
  iintro ⟨H, HR⟩
  iapply h
  isplitl [H]
  · iapply (preIss_done d L X Lb w); iexact H
  iexact HR

end Tile

theorem pay28_eq (v3 : IVec S16 32) (v426 v431 v439 v447 v455 : FVec F S16 .f32) :
    k0_pay28 v3 v426 v431 v439 v447 v455 = aV (k0_pay27 v3 v426 v431 v439 v447 v455) := rfl
theorem pay29_eq (v3 : IVec S16 32) (v426 v431 v439 v447 v455 : FVec F S16 .f32) :
    k0_pay29 v3 v426 v431 v439 v447 v455 = sqrt (k0_pay28 v3 v426 v431 v439 v447 v455) := rfl
theorem pay30_eq (v3 : IVec S16 32) (v426 v431 v439 v447 v455 : FVec F S16 .f32) :
    k0_pay30 v3 v426 v431 v439 v447 v455 = qV (k0_pay28 v3 v426 v431 v439 v447 v455) (k0_pay29 v3 v426 v431 v439 v447 v455) := rfl

end Cert.Proof.Ki

end
-- ==== Proof.Ki.PartsA.lean ====
/-
  The first half's copies: started and waited for.
-/
module

public import proofs.«01_k».proof.Proof.Ki.Words

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid0.Coords) (X : S1024x100096.Idx → F .f32) (Lb : S1024.Idx → BitVec 32)
variable (O : CellTallies nD τ sig (HIx 1)) (W : Waits sig (HIx 1))
variable {R : sProp (MT nD τ sig (HIx 1) (Elt F) ℕ UU ℕ)}
variable (hL : LabelsOK Lb) (hO : ∀ g, O g none = 0)
include hL hO

theorem part2 {h2 : (xV).IsWhole} {h3 : (lV).IsWhole} {h4 : (oV).IsWhole} {h5 : (labV).IsWhole} {h6 : (gatV).IsWhole} {h7 : (corV).IsWhole} {v2 : BitVec 32} {hw2 : k0_chk2 L (lane Lb L 0 1)} {v30 : BitVec 32}
    {Φ : (Σ' (v41 : BitVec 32) (k0_hw3 : k0_chk3 L v41) (v55 : BitVec 32), k0_chk4 L v55) → sProp (MT nD τ sig (HIx 1) (Elt F) ℕ UU ℕ)}
    (h : iprop(PreIss d L X Lb 0 3 ∗ R) ⊢ Φ ⟨(lane Lb L 0 2), ck3 hL L, (lane Lb L 0 3), ck4 hL L⟩) :
    iprop(PreIss d L X Lb 0 1 ∗ R) ⊢ tw d L (k0_part2 L xV h2 lV h3 oV h4 labV h5 gatV h6 corV h7 cc0_scratch3 cc0_scoped0 cc0_scoped1 v2 (k0_pay1 (F := F) (labs Lb L 0)) (lane Lb L 0 1) hw2 v30) Φ := by
  rw [k0_part2_eq_skeleton]
  unfold k0_part2_skel
  simp only [Prog.lift, Prog.bind_op, Prog.bind_ret, Prog.pure_eq_ret]
  refine step_issue d L X Lb hL 0 1 ?_
  refine step_assume d L (ck3 (Lb := Lb) hL L) ?_
  refine step_issue d L X Lb hL 0 2 ?_
  refine step_assume d L (ck4 (Lb := Lb) hL L) ?_
  exact step_ret d L h

theorem part3 {h2 : (xV).IsWhole} {h3 : (lV).IsWhole} {h4 : (oV).IsWhole} {h5 : (labV).IsWhole} {h6 : (gatV).IsWhole} {h7 : (corV).IsWhole} {v2 : BitVec 32} {hw4 : k0_chk4 L (lane Lb L 0 3)}
    {Φ : (Σ' (v69 : BitVec 32) (k0_hw5 : k0_chk5 L v69) (v83 : BitVec 32) (k0_hw6 : k0_chk6 L v83) (v95 : BitVec 32) (v97 : BitVec 32), k0_chk7 L v97) → sProp (MT nD τ sig (HIx 1) (Elt F) ℕ UU ℕ)}
    (h : ∀ (v95 : BitVec 32), iprop(PreIss d L X Lb 0 6 ∗ R) ⊢ Φ ⟨(lane Lb L 0 4), ck5 hL L, (lane Lb L 0 5), ck6 hL L, v95, (lane Lb L 0 6), ck7 hL L⟩) :
    iprop(PreIss d L X Lb 0 3 ∗ R) ⊢ tw d L (k0_part3 L xV h2 lV h3 oV h4 labV h5 gatV h6 corV h7 cc0_scratch3 cc0_scoped0 cc0_scoped1 v2 (k0_pay1 (F := F) (labs Lb L 0)) (lane Lb L 0 3) hw4) Φ := by
  rw [k0_part3_eq_skeleton]
  unfold k0_part3_skel
  simp only [Prog.lift, Prog.bind_op, Prog.bind_ret, Prog.pure_eq_ret]
  refine step_issue d L X Lb hL 0 3 ?_
  refine step_assume d L (ck5 (Lb := Lb) hL L) ?_
  refine step_issue d L X Lb hL 0 4 ?_
  refine step_assume d L (ck6 (Lb := Lb) hL L) ?_
  refine step_issue d L X Lb hL 0 5 ?_
  refine step_assume d L (ck7 (Lb := Lb) hL L) ?_
  exact step_ret d L (h _)

theorem part4 {h2 : (xV).IsWhole} {h3 : (lV).IsWhole} {h4 : (oV).IsWhole} {h5 : (labV).IsWhole} {h6 : (gatV).IsWhole} {h7 : (corV).IsWhole} {v2 : BitVec 32} {v95 : BitVec 32} {hw7 : k0_chk7 L (lane Lb L 0 6)}
    {Φ : (Σ' (v111 : BitVec 32) (k0_hw8 : k0_chk8 L v111) (v125 : BitVec 32), k0_chk9 L v125) → sProp (MT nD τ sig (HIx 1) (Elt F) ℕ UU ℕ)}
    (h : iprop(PreIss d L X Lb 0 8 ∗ R) ⊢ Φ ⟨(lane Lb L 0 7), ck8 hL L, (lane Lb L 0 8), ck9 hL L⟩) :
    iprop(PreIss d L X Lb 0 6 ∗ R) ⊢ tw d L (k0_part4 L xV h2 lV h3 oV h4 labV h5 gatV h6 corV h7 cc0_scratch3 cc0_scoped0 cc0_scoped1 v2 (k0_pay1 (F := F) (labs Lb L 0)) v95 (lane Lb L 0 6) hw7) Φ := by
  rw [k0_part4_eq_skeleton]
  unfold k0_part4_skel
  simp only [Prog.lift, Prog.bind_op, Prog.bind_ret, Prog.pure_eq_ret]
  refine step_issue d L X Lb hL 0 6 ?_
  refine step_assume d L (ck8 (Lb := Lb) hL L) ?_
  refine step_issue d L X Lb hL 0 7 ?_
  refine step_assume d L (ck9 (Lb := Lb) hL L) ?_
  exact step_ret d L h

theorem part5 {h2 : (xV).IsWhole} {h3 : (lV).IsWhole} {h4 : (oV).IsWhole} {h5 : (labV).IsWhole} {h6 : (gatV).IsWhole} {h7 : (corV).IsWhole} {v2 : BitVec 32} {hw9 : k0_chk9 L (lane Lb L 0 8)}
    {Φ : (Σ' (v139 : BitVec 32) (k0_hw10 : k0_chk10 L v139) (v153 : BitVec 32) (k0_hw11 : k0_chk11 L v153), BitVec 32) → sProp (MT nD τ sig (HIx 1) (Elt F) ℕ UU ℕ)}
    (h : ∀ (v164 : BitVec 32), iprop(PreIss d L X Lb 0 11 ∗ R) ⊢ Φ ⟨(lane Lb L 0 9), ck10 hL L, (lane Lb L 0 10), ck11 hL L, v164⟩) :
    iprop(PreIss d L X Lb 0 8 ∗ R) ⊢ tw d L (k0_part5 L xV h2 lV h3 oV h4 labV h5 gatV h6 corV h7 cc0_scratch3 cc0_scoped0 cc0_scoped1 v2 (k0_pay1 (F := F) (labs Lb L 0)) (lane Lb L 0 8) hw9) Φ := by
  rw [k0_part5_eq_skeleton]
  unfold k0_part5_skel
  simp only [Prog.lift, Prog.bind_op, Prog.bind_ret, Prog.pure_eq_ret]
  refine step_issue d L X Lb hL 0 8 ?_
  refine step_assume d L (ck10 (Lb := Lb) hL L) ?_
  refine step_issue d L X Lb hL 0 9 ?_
  refine step_assume d L (ck11 (Lb := Lb) hL L) ?_
  refine step_issue d L X Lb hL 0 10 ?_
  exact step_ret d L (h _)

theorem part6 {h2 : (xV).IsWhole} {h3 : (lV).IsWhole} {h4 : (oV).IsWhole} {h5 : (labV).IsWhole} {h6 : (gatV).IsWhole} {h7 : (corV).IsWhole} {v2 : BitVec 32} {v164 : BitVec 32}
    {Φ : (Σ' (v167 : BitVec 32) (k0_hw12 : k0_chk12 L v167) (v181 : BitVec 32) (k0_hw13 : k0_chk13 L v181) (v195 : BitVec 32) (k0_hw14 : k0_chk14 L v195), BitVec 32) → sProp (MT nD τ sig (HIx 1) (Elt F) ℕ UU ℕ)}
    (h : ∀ (v198 : BitVec 32), iprop(PreIss d L X Lb 0 13 ∗ R) ⊢ Φ ⟨(lane Lb L 0 11), ck12 hL L, (lane Lb L 0 12), ck13 hL L, (lane Lb L 0 13), ck14 hL L, v198⟩) :
    iprop(PreIss d L X Lb 0 11 ∗ R) ⊢ tw d L (k0_part6 L xV h2 lV h3 oV h4 labV h5 gatV h6 corV h7 cc0_scratch3 cc0_scoped0 cc0_scoped1 v2 (k0_pay1 (F := F) (labs Lb L 0)) v164) Φ := by
  rw [k0_part6_eq_skeleton]
  unfold k0_part6_skel
  simp only [Prog.lift, Prog.bind_op, Prog.bind_ret, Prog.pure_eq_ret]
  refine step_assume d L (ck12 (Lb := Lb) hL L) ?_
  refine step_issue d L X Lb hL 0 11 ?_
  refine step_assume d L (ck13 (Lb := Lb) hL L) ?_
  refine step_issue d L X Lb hL 0 12 ?_
  refine step_assume d L (ck14 (Lb := Lb) hL L) ?_
  exact step_ret d L (h _)

theorem part7 {h2 : (xV).IsWhole} {h3 : (lV).IsWhole} {h4 : (oV).IsWhole} {h5 : (labV).IsWhole} {h6 : (gatV).IsWhole} {h7 : (corV).IsWhole} {v2 : BitVec 32} {hw14 : k0_chk14 L (lane Lb L 0 13)} {v198 : BitVec 32}
    {Φ : (Σ' (v209 : BitVec 32) (k0_hw15 : k0_chk15 L v209) (v223 : BitVec 32), k0_chk16 L v223) → sProp (MT nD τ sig (HIx 1) (Elt F) ℕ UU ℕ)}
    (h : iprop(PreIss d L X Lb 0 15 ∗ R) ⊢ Φ ⟨(lane Lb L 0 14), ck15 hL L, (lane Lb L 0 15), ck16 hL L⟩) :
    iprop(PreIss d L X Lb 0 13 ∗ R) ⊢ tw d L (k0_part7 L xV h2 lV h3 oV h4 labV h5 gatV h6 corV h7 cc0_scratch3 cc0_scoped0 cc0_scoped1 v2 (k0_pay1 (F := F) (labs Lb L 0)) (lane Lb L 0 13) hw14 v198) Φ := by
  rw [k0_part7_eq_skeleton]
  unfold k0_part7_skel
  simp only [Prog.lift, Prog.bind_op, Prog.bind_ret, Prog.pure_eq_ret]
  refine step_issue d L X Lb hL 0 13 ?_
  refine step_assume d L (ck15 (Lb := Lb) hL L) ?_
  refine step_issue d L X Lb hL 0 14 ?_
  refine step_assume d L (ck16 (Lb := Lb) hL L) ?_
  exact step_ret d L h

theorem part8 {h2 : (xV).IsWhole} {h3 : (lV).IsWhole} {h4 : (oV).IsWhole} {h5 : (labV).IsWhole} {h6 : (gatV).IsWhole} {h7 : (corV).IsWhole} {hw1 : k0_chk1 L (lane Lb L 0 0)} {hw2 : k0_chk2 L (lane Lb L 0 1)} {hw3 : k0_chk3 L (lane Lb L 0 2)} {hw4 : k0_chk4 L (lane Lb L 0 3)} {hw5 : k0_chk5 L (lane Lb L 0 4)} {hw16 : k0_chk16 L (lane Lb L 0 15)}
    {Φ : (PUnit) → sProp (MT nD τ sig (HIx 1) (Elt F) ℕ UU ℕ)}
    (h : iprop(Bt d L X Lb 0 16 (4 * NN) ∗ Ow d L O W ∗ R) ⊢ Φ ⟨⟩) :
    iprop(PreIss d L X Lb 0 15 ∗ Ow d L O W ∗ R) ⊢ tw d L (k0_part8 L xV h2 lV h3 oV h4 labV h5 gatV h6 corV h7 cc0_scratch3 cc0_scoped0 cc0_scoped1 (lane Lb L 0 0) hw1 (lane Lb L 0 1) hw2 (lane Lb L 0 2) hw3 (lane Lb L 0 3) hw4 (lane Lb L 0 4) hw5 (lane Lb L 0 15) hw16) Φ := by
  rw [k0_part8_eq_skeleton]
  unfold k0_part8_skel
  simp only [Prog.lift, Prog.bind_op, Prog.bind_ret, Prog.pure_eq_ret]
  refine step_issue d L X Lb hL 0 15 ?_
  refine step_done d L X Lb 0 ?_
  refine step_wait d L X Lb O W hO 0 0 (by decide) (t := 0) (ht := (by decide : 0 < 16)) ?_
  refine step_wait d L X Lb O W hO 0 1 (by decide) (t := 1) (ht := (by decide : 1 < 16)) ?_
  refine step_wait d L X Lb O W hO 0 2 (by decide) (t := 2) (ht := (by decide : 2 < 16)) ?_
  refine step_wait d L X Lb O W hO 0 3 (by decide) (t := 3) (ht := (by decide : 3 < 16)) ?_
  exact step_ret d L h

theorem part9 {h2 : (xV).IsWhole} {h3 : (lV).IsWhole} {h4 : (oV).IsWhole} {h5 : (labV).IsWhole} {h6 : (gatV).IsWhole} {h7 : (corV).IsWhole} {hw5 : k0_chk5 L (lane Lb L 0 4)} {hw6 : k0_chk6 L (lane Lb L 0 5)} {hw7 : k0_chk7 L (lane Lb L 0 6)} {hw8 : k0_chk8 L (lane Lb L 0 7)} {hw9 : k0_chk9 L (lane Lb L 0 8)} {hw10 : k0_chk10 L (lane Lb L 0 9)}
    {Φ : (PUnit) → sProp (MT nD τ sig (HIx 1) (Elt F) ℕ UU ℕ)}
    (h : iprop(Bt d L X Lb 0 16 (9 * NN) ∗ Ow d L O W ∗ R) ⊢ Φ ⟨⟩) :
    iprop(Bt d L X Lb 0 16 (4 * NN) ∗ Ow d L O W ∗ R) ⊢ tw d L (k0_part9 L xV h2 lV h3 oV h4 labV h5 gatV h6 corV h7 cc0_scratch3 cc0_scoped0 cc0_scoped1 (lane Lb L 0 4) hw5 (lane Lb L 0 5) hw6 (lane Lb L 0 6) hw7 (lane Lb L 0 7) hw8 (lane Lb L 0 8) hw9 (lane Lb L 0 9) hw10) Φ := by
  rw [k0_part9_eq_skeleton]
  unfold k0_part9_skel
  simp only [Prog.lift, Prog.bind_op, Prog.bind_ret, Prog.pure_eq_ret]
  refine step_wait d L X Lb O W hO 0 4 (by decide) (t := 4) (ht := (by decide : 4 < 16)) ?_
  refine step_wait d L X Lb O W hO 0 5 (by decide) (t := 5) (ht := (by decide : 5 < 16)) ?_
  refine step_wait d L X Lb O W hO 0 6 (by decide) (t := 6) (ht := (by decide : 6 < 16)) ?_
  refine step_wait d L X Lb O W hO 0 7 (by decide) (t := 7) (ht := (by decide : 7 < 16)) ?_
  refine step_wait d L X Lb O W hO 0 8 (by decide) (t := 8) (ht := (by decide : 8 < 16)) ?_
  exact step_ret d L h

theorem part10 {h2 : (xV).IsWhole} {h3 : (lV).IsWhole} {h4 : (oV).IsWhole} {h5 : (labV).IsWhole} {h6 : (gatV).IsWhole} {h7 : (corV).IsWhole} {hw10 : k0_chk10 L (lane Lb L 0 9)} {hw11 : k0_chk11 L (lane Lb L 0 10)} {hw12 : k0_chk12 L (lane Lb L 0 11)} {hw13 : k0_chk13 L (lane Lb L 0 12)} {hw14 : k0_chk14 L (lane Lb L 0 13)} {hw15 : k0_chk15 L (lane Lb L 0 14)}
    {Φ : (PUnit) → sProp (MT nD τ sig (HIx 1) (Elt F) ℕ UU ℕ)}
    (h : iprop(Bt d L X Lb 0 16 (14 * NN) ∗ Ow d L O W ∗ R) ⊢ Φ ⟨⟩) :
    iprop(Bt d L X Lb 0 16 (9 * NN) ∗ Ow d L O W ∗ R) ⊢ tw d L (k0_part10 L xV h2 lV h3 oV h4 labV h5 gatV h6 corV h7 cc0_scratch3 cc0_scoped0 cc0_scoped1 (lane Lb L 0 9) hw10 (lane Lb L 0 10) hw11 (lane Lb L 0 11) hw12 (lane Lb L 0 12) hw13 (lane Lb L 0 13) hw14 (lane Lb L 0 14) hw15) Φ := by
  rw [k0_part10_eq_skeleton]
  unfold k0_part10_skel
  simp only [Prog.lift, Prog.bind_op, Prog.bind_ret, Prog.pure_eq_ret]
  refine step_wait d L X Lb O W hO 0 9 (by decide) (t := 9) (ht := (by decide : 9 < 16)) ?_
  refine step_wait d L X Lb O W hO 0 10 (by decide) (t := 10) (ht := (by decide : 10 < 16)) ?_
  refine step_wait d L X Lb O W hO 0 11 (by decide) (t := 11) (ht := (by decide : 11 < 16)) ?_
  refine step_wait d L X Lb O W hO 0 12 (by decide) (t := 12) (ht := (by decide : 12 < 16)) ?_
  refine step_wait d L X Lb O W hO 0 13 (by decide) (t := 13) (ht := (by decide : 13 < 16)) ?_
  exact step_ret d L h

end Tile

end Cert.Proof.Ki

end
-- ==== Proof.Ki.PartsB.lean ====
/-
  The first half's gathers and margin.
-/
module

public import proofs.«01_k».proof.Proof.Ki.Words

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid0.Coords) (X : S1024x100096.Idx → F .f32) (Lb : S1024.Idx → BitVec 32)
variable (O : CellTallies nD τ sig (HIx 1)) (W : Waits sig (HIx 1))
variable {R : sProp (MT nD τ sig (HIx 1) (Elt F) ℕ UU ℕ)}
variable (hL : LabelsOK Lb) (hO : ∀ g, O g none = 0)
include hL hO

theorem part11 {h2 : (xV).IsWhole} {h3 : (lV).IsWhole} {h4 : (oV).IsWhole} {h5 : (labV).IsWhole} {h6 : (gatV).IsWhole} {h7 : (corV).IsWhole} {hw15 : k0_chk15 L (lane Lb L 0 14)} {hw16 : k0_chk16 L (lane Lb L 0 15)}
    {Φ : (Σ' (v354 : Vec F S16 .f32) (v355 : IVec S16 32), IVec S16 32) → sProp (MT nD τ sig (HIx 1) (Elt F) ℕ UU ℕ)}
    (h : iprop(((gatV).view.loc (thr d L) ↦{fullShare} fetched d L X Lb 0) ∗ semVal (thr d L, cell) 0 ∗ Ow d L O W ∗ R) ⊢ Φ ⟨(accTo X Lb L 0 3), k0_pay19, k0_pay20⟩) :
    iprop(Bt d L X Lb 0 16 (14 * NN) ∗ Ow d L O W ∗ R) ⊢ tw d L (k0_part11 L xV h2 lV h3 oV h4 labV h5 gatV h6 corV h7 cc0_scratch3 cc0_scoped0 cc0_scoped1 lanes (lane Lb L 0 0) (lane Lb L 0 1) (lane Lb L 0 2) (lane Lb L 0 14) hw15 (lane Lb L 0 15) hw16) Φ := by
  rw [k0_part11_eq_skeleton]
  unfold k0_part11_skel
  simp only [Prog.lift, Prog.bind_op, Prog.bind_ret, Prog.pure_eq_ret]
  refine step_wait d L X Lb O W hO 0 14 (by decide) (t := 14) (ht := (by decide : 14 < 16)) ?_
  refine step_waitLast d L X Lb O W hO 0 (t := 15) (ht := (by decide : 15 < 16)) ?_
  refine step_assume d L (gather_ok (l := 0) (n := 0) (c := (lane Lb L 0 0).toNat) (by decide) (fun _ => rfl) (fun _ => rfl) (fun _ => andi_low _)) ?_
  refine step_gather d L X Lb hL 0 0 (by intro _; rfl) (by intro _; rfl) (by intro _; exact andi_low _) ?_
  refine step_assume d L (gather_ok (l := 1) (n := 1) (c := (lane Lb L 0 1).toNat) (by decide) (fun _ => rfl) (fun _ => rfl) (fun _ => andi_low _)) ?_
  refine step_gather d L X Lb hL 0 1 (by intro _; rfl) (by intro _; rfl) (by intro _; exact andi_low _) ?_
  refine step_assume d L (gather_ok (l := 2) (n := 2) (c := (lane Lb L 0 2).toNat) (by decide) (fun _ => rfl) (fun _ => rfl) (fun _ => andi_low _)) ?_
  refine step_gather d L X Lb hL 0 2 (by intro _; rfl) (by intro _; rfl) (by intro _; exact andi_low _) ?_
  rw [pay18_eq X Lb L 0]
  exact step_ret d L h

theorem part12 {h2 : (xV).IsWhole} {h3 : (lV).IsWhole} {h4 : (oV).IsWhole} {h5 : (labV).IsWhole} {h6 : (gatV).IsWhole} {h7 : (corV).IsWhole}
    {Φ : (Σ' (v386 : Vec F S16 .f32) (v391 : Vec F S16 .f32), IVec S16 1) → sProp (MT nD τ sig (HIx 1) (Elt F) ℕ UU ℕ)}
    (h : iprop(((gatV).view.loc (thr d L) ↦{fullShare} fetched d L X Lb 0) ∗ R) ⊢ Φ ⟨(accTo X Lb L 0 7), (fun _ => pick X Lb L 0 7), (k0_pay22 lanes)⟩) :
    iprop(((gatV).view.loc (thr d L) ↦{fullShare} fetched d L X Lb 0) ∗ R) ⊢ tw d L (k0_part12 L xV h2 lV h3 oV h4 labV h5 gatV h6 corV h7 cc0_scratch3 cc0_scoped0 cc0_scoped1 lanes (lane Lb L 0 3) (lane Lb L 0 4) (lane Lb L 0 5) (lane Lb L 0 6) (lane Lb L 0 7) (accTo X Lb L 0 3) k0_pay19 k0_pay20) Φ := by
  rw [k0_part12_eq_skeleton]
  unfold k0_part12_skel
  simp only [Prog.lift, Prog.bind_op, Prog.bind_ret, Prog.pure_eq_ret]
  refine step_assume d L (gather_ok (l := 3) (n := 3) (c := (lane Lb L 0 3).toNat) (by decide) (fun _ => rfl) (fun _ => rfl) (fun _ => andi_low _)) ?_
  refine step_gather d L X Lb hL 0 3 (by intro _; rfl) (by intro _; rfl) (by intro _; exact andi_low _) ?_
  refine step_assume d L (gather_ok (l := 4) (n := 4) (c := (lane Lb L 0 4).toNat) (by decide) (fun _ => rfl) (fun _ => rfl) (fun _ => andi_low _)) ?_
  refine step_gather d L X Lb hL 0 4 (by intro _; rfl) (by intro _; rfl) (by intro _; exact andi_low _) ?_
  refine step_assume d L (gather_ok (l := 5) (n := 5) (c := (lane Lb L 0 5).toNat) (by decide) (fun _ => rfl) (fun _ => rfl) (fun _ => andi_low _)) ?_
  refine step_gather d L X Lb hL 0 5 (by intro _; rfl) (by intro _; rfl) (by intro _; exact andi_low _) ?_
  refine step_assume d L (gather_ok (l := 6) (n := 6) (c := (lane Lb L 0 6).toNat) (by decide) (fun _ => rfl) (fun _ => rfl) (fun _ => andi_low _)) ?_
  refine step_gather d L X Lb hL 0 6 (by intro _; rfl) (by intro _; rfl) (by intro _; exact andi_low _) ?_
  refine step_assume d L (gather_ok (l := 7) (n := 7) (c := (lane Lb L 0 7).toNat) (by decide) (fun _ => rfl) (fun _ => rfl) (fun _ => andi_low _)) ?_
  refine step_gather d L X Lb hL 0 7 (by intro _; rfl) (by intro _; rfl) (by intro _; exact andi_low _) ?_
  rw [pay21_eq X Lb L 0]
  exact step_ret d L h

theorem part13 {h2 : (xV).IsWhole} {h3 : (lV).IsWhole} {h4 : (oV).IsWhole} {h5 : (labV).IsWhole} {h6 : (gatV).IsWhole} {h7 : (corV).IsWhole}
    {Φ : (Σ' (v426 : Vec F S16 .f32) (v427 : IVec S16 32) (v428 : IVec S16 32), IVec S16 32) → sProp (MT nD τ sig (HIx 1) (Elt F) ℕ UU ℕ)}
    (h : iprop(((gatV).view.loc (thr d L) ↦{fullShare} fetched d L X Lb 0) ∗ R) ⊢ Φ ⟨(accTo X Lb L 0 12), k0_pay24, k0_pay25, (k0_pay26 (lane Lb L 0 12))⟩) :
    iprop(((gatV).view.loc (thr d L) ↦{fullShare} fetched d L X Lb 0) ∗ R) ⊢ tw d L (k0_part13 L xV h2 lV h3 oV h4 labV h5 gatV h6 corV h7 cc0_scratch3 cc0_scoped0 cc0_scoped1 lanes (lane Lb L 0 8) (lane Lb L 0 9) (lane Lb L 0 10) (lane Lb L 0 11) (lane Lb L 0 12) (accTo X Lb L 0 7) (fun _ => pick X Lb L 0 7) (k0_pay22 lanes)) Φ := by
  rw [k0_part13_eq_skeleton]
  unfold k0_part13_skel
  simp only [Prog.lift, Prog.bind_op, Prog.bind_ret, Prog.pure_eq_ret]
  refine step_assume d L (gather_ok (l := 8) (n := 8) (c := (lane Lb L 0 8).toNat) (by decide) (fun _ => rfl) (fun _ => rfl) (fun _ => andi_low _)) ?_
  refine step_gather d L X Lb hL 0 8 (by intro _; rfl) (by intro _; rfl) (by intro _; exact andi_low _) ?_
  refine step_assume d L (gather_ok (l := 9) (n := 9) (c := (lane Lb L 0 9).toNat) (by decide) (fun _ => rfl) (fun _ => rfl) (fun _ => andi_low _)) ?_
  refine step_gather d L X Lb hL 0 9 (by intro _; rfl) (by intro _; rfl) (by intro _; exact andi_low _) ?_
  refine step_assume d L (gather_ok (l := 10) (n := 10) (c := (lane Lb L 0 10).toNat) (by decide) (fun _ => rfl) (fun _ => rfl) (fun _ => andi_low _)) ?_
  refine step_gather d L X Lb hL 0 10 (by intro _; rfl) (by intro _; rfl) (by intro _; exact andi_low _) ?_
  refine step_assume d L (gather_ok (l := 11) (n := 11) (c := (lane Lb L 0 11).toNat) (by decide) (fun _ => rfl) (fun _ => rfl) (fun _ => andi_low _)) ?_
  refine step_gather d L X Lb hL 0 11 (by intro _; rfl) (by intro _; rfl) (by intro _; exact andi_low _) ?_
  rw [pay23_eq X Lb L 0]
  exact step_ret d L h

theorem part14 {h2 : (xV).IsWhole} {h3 : (lV).IsWhole} {h4 : (oV).IsWhole} {h5 : (labV).IsWhole} {h6 : (gatV).IsWhole} {h7 : (corV).IsWhole}
    {Φ : (Σ' (v458 : Vec F S16 .f32) (v465 : FVec F S16 .f32) (v466 : FVec F S16 .f32), FVec F S16 .f32) → sProp (MT nD τ sig (HIx 1) (Elt F) ℕ UU ℕ)}
    (h : iprop(((gatV).view.loc (thr d L) ↦{fullShare} fetched d L X Lb 0) ∗ R) ⊢ Φ ⟨(accTo X Lb L 0 16), (aV (accTo X Lb L 0 16)), (sqrt (aV (accTo X Lb L 0 16))), (qV (aV (accTo X Lb L 0 16)) (sqrt (aV (accTo X Lb L 0 16))))⟩) :
    iprop(((gatV).view.loc (thr d L) ↦{fullShare} fetched d L X Lb 0) ∗ R) ⊢ tw d L (k0_part14 L xV h2 lV h3 oV h4 labV h5 gatV h6 corV h7 cc0_scratch3 cc0_scoped0 cc0_scoped1 lanes (lane Lb L 0 13) (lane Lb L 0 14) (lane Lb L 0 15) (accTo X Lb L 0 12) k0_pay24 k0_pay25 (k0_pay26 (lane Lb L 0 12))) Φ := by
  rw [k0_part14_eq_skeleton]
  unfold k0_part14_skel
  simp only [Prog.lift, Prog.bind_op, Prog.bind_ret, Prog.pure_eq_ret]
  refine step_assume d L (gather_ok (l := 12) (n := 12) (c := (lane Lb L 0 12).toNat) (by decide) (fun _ => rfl) (fun _ => rfl) (fun _ => andi_low _)) ?_
  refine step_gather d L X Lb hL 0 12 (by intro _; rfl) (by intro _; rfl) (by intro _; exact andi_low _) ?_
  refine step_assume d L (gather_ok (l := 13) (n := 13) (c := (lane Lb L 0 13).toNat) (by decide) (fun _ => rfl) (fun _ => rfl) (fun _ => andi_low _)) ?_
  refine step_gather d L X Lb hL 0 13 (by intro _; rfl) (by intro _; rfl) (by intro _; exact andi_low _) ?_
  refine step_assume d L (gather_ok (l := 14) (n := 14) (c := (lane Lb L 0 14).toNat) (by decide) (fun _ => rfl) (fun _ => rfl) (fun _ => andi_low _)) ?_
  refine step_gather d L X Lb hL 0 14 (by intro _; rfl) (by intro _; rfl) (by intro _; exact andi_low _) ?_
  refine step_assume d L (gather_ok (l := 15) (n := 15) (c := (lane Lb L 0 15).toNat) (by decide) (fun _ => rfl) (fun _ => rfl) (fun _ => andi_low _)) ?_
  refine step_gather d L X Lb hL 0 15 (by intro _; rfl) (by intro _; rfl) (by intro _; exact andi_low _) ?_
  rw [pay30_eq, pay29_eq, pay28_eq, pay27_eq X Lb L 0]
  exact step_ret d L h

theorem part15 {h2 : (xV).IsWhole} {h3 : (lV).IsWhole} {h4 : (oV).IsWhole} {h5 : (labV).IsWhole} {h6 : (gatV).IsWhole} {h7 : (corV).IsWhole}
    {Φ : (FVec F S16 .f32) → sProp (MT nD τ sig (HIx 1) (Elt F) ℕ UU ℕ)}
    (h : iprop(R) ⊢ Φ ((nV (aV (accTo X Lb L 0 16)))^[8] (sqrt (aV (accTo X Lb L 0 16))))) :
    iprop(R) ⊢ tw d L (k0_part15 L xV h2 lV h3 oV h4 labV h5 gatV h6 corV h7 cc0_scratch3 cc0_scoped0 cc0_scoped1 (aV (accTo X Lb L 0 16)) (sqrt (aV (accTo X Lb L 0 16))) (qV (aV (accTo X Lb L 0 16)) (sqrt (aV (accTo X Lb L 0 16))))) Φ := by
  rw [k0_part15_eq_skeleton]
  unfold k0_part15_skel
  simp only [Prog.lift, Prog.bind_op, Prog.bind_ret, Prog.pure_eq_ret]
  rw [pay31_eq]
  exact step_ret d L h

theorem part16 {h2 : (xV).IsWhole} {h3 : (lV).IsWhole} {h4 : (oV).IsWhole} {h5 : (labV).IsWhole} {h6 : (gatV).IsWhole} {h7 : (corV).IsWhole}
    {Φ : (Σ' (v556 : FVec F S16 .f32), FVec F S16 .f32) → sProp (MT nD τ sig (HIx 1) (Elt F) ℕ UU ℕ)}
    (h : iprop(R) ⊢ Φ ⟨((nV (aV (accTo X Lb L 0 16)))^[15] (sqrt (aV (accTo X Lb L 0 16)))), (qV (aV (accTo X Lb L 0 16)) ((nV (aV (accTo X Lb L 0 16)))^[15] (sqrt (aV (accTo X Lb L 0 16)))))⟩) :
    iprop(R) ⊢ tw d L (k0_part16 L xV h2 lV h3 oV h4 labV h5 gatV h6 corV h7 cc0_scratch3 cc0_scoped0 cc0_scoped1 (aV (accTo X Lb L 0 16)) ((nV (aV (accTo X Lb L 0 16)))^[8] (sqrt (aV (accTo X Lb L 0 16))))) Φ := by
  rw [k0_part16_eq_skeleton]
  unfold k0_part16_skel
  simp only [Prog.lift, Prog.bind_op, Prog.bind_ret, Prog.pure_eq_ret]
  rw [pay33_eq, pay32_eq, iter_add]
  exact step_ret d L h

end Tile

end Cert.Proof.Ki

end
-- ==== Proof.Ki.PartsC.lean ====
/-
  The second half's copies: started and waited for.
-/
module

public import proofs.«01_k».proof.Proof.Ki.Words

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid0.Coords) (X : S1024x100096.Idx → F .f32) (Lb : S1024.Idx → BitVec 32)
variable (O : CellTallies nD τ sig (HIx 1)) (W : Waits sig (HIx 1))
variable {R : sProp (MT nD τ sig (HIx 1) (Elt F) ℕ UU ℕ)}
variable (hL : LabelsOK Lb) (hO : ∀ g, O g none = 0)
include hL hO

theorem part18 {h2 : (xV).IsWhole} {h3 : (lV).IsWhole} {h4 : (oV).IsWhole} {h5 : (labV).IsWhole} {h6 : (gatV).IsWhole} {h7 : (corV).IsWhole} {v2 : BitVec 32}
    {Φ : (Σ' (v606 : BitVec 32) (k0_hw33 : k0_chk33 L v606) (v620 : BitVec 32) (k0_hw34 : k0_chk34 L v620) (v634 : BitVec 32), k0_chk35 L v634) → sProp (MT nD τ sig (HIx 1) (Elt F) ℕ UU ℕ)}
    (h : iprop(PreIss d L X Lb 1 2 ∗ R) ⊢ Φ ⟨(lane Lb L 1 0), ck33 hL L, (lane Lb L 1 1), ck34 hL L, (lane Lb L 1 2), ck35 hL L⟩) :
    iprop(PreIss d L X Lb 1 0 ∗ R) ⊢ tw d L (k0_part18 L xV h2 lV h3 oV h4 labV h5 gatV h6 corV h7 cc0_scratch3 cc0_scoped0 cc0_scoped1 v2 (k0_pay35 (F := F) (labs Lb L 1))) Φ := by
  rw [k0_part18_eq_skeleton]
  unfold k0_part18_skel
  simp only [Prog.lift, Prog.bind_op, Prog.bind_ret, Prog.pure_eq_ret]
  refine step_assume d L (ck33 (Lb := Lb) hL L) ?_
  refine step_issue d L X Lb hL 1 0 ?_
  refine step_assume d L (ck34 (Lb := Lb) hL L) ?_
  refine step_issue d L X Lb hL 1 1 ?_
  refine step_assume d L (ck35 (Lb := Lb) hL L) ?_
  exact step_ret d L h

theorem part19 {h2 : (xV).IsWhole} {h3 : (lV).IsWhole} {h4 : (oV).IsWhole} {h5 : (labV).IsWhole} {h6 : (gatV).IsWhole} {h7 : (corV).IsWhole} {v2 : BitVec 32} {hw35 : k0_chk35 L (lane Lb L 1 2)}
    {Φ : (Σ' (v648 : BitVec 32) (k0_hw36 : k0_chk36 L v648) (v662 : BitVec 32), k0_chk37 L v662) → sProp (MT nD τ sig (HIx 1) (Elt F) ℕ UU ℕ)}
    (h : iprop(PreIss d L X Lb 1 4 ∗ R) ⊢ Φ ⟨(lane Lb L 1 3), ck36 hL L, (lane Lb L 1 4), ck37 hL L⟩) :
    iprop(PreIss d L X Lb 1 2 ∗ R) ⊢ tw d L (k0_part19 L xV h2 lV h3 oV h4 labV h5 gatV h6 corV h7 cc0_scratch3 cc0_scoped0 cc0_scoped1 v2 (k0_pay35 (F := F) (labs Lb L 1)) (lane Lb L 1 2) hw35) Φ := by
  rw [k0_part19_eq_skeleton]
  unfold k0_part19_skel
  simp only [Prog.lift, Prog.bind_op, Prog.bind_ret, Prog.pure_eq_ret]
  refine step_issue d L X Lb hL 1 2 ?_
  refine step_assume d L (ck36 (Lb := Lb) hL L) ?_
  refine step_issue d L X Lb hL 1 3 ?_
  refine step_assume d L (ck37 (Lb := Lb) hL L) ?_
  exact step_ret d L h

theorem part20 {h2 : (xV).IsWhole} {h3 : (lV).IsWhole} {h4 : (oV).IsWhole} {h5 : (labV).IsWhole} {h6 : (gatV).IsWhole} {h7 : (corV).IsWhole} {v2 : BitVec 32} {hw37 : k0_chk37 L (lane Lb L 1 4)}
    {Φ : (Σ' (v676 : BitVec 32) (k0_hw38 : k0_chk38 L v676) (v690 : BitVec 32) (k0_hw39 : k0_chk39 L v690) (v702 : BitVec 32), IVec S1 32) → sProp (MT nD τ sig (HIx 1) (Elt F) ℕ UU ℕ)}
    (h : ∀ (v702 : BitVec 32), iprop(PreIss d L X Lb 1 7 ∗ R) ⊢ Φ ⟨(lane Lb L 1 5), ck38 hL L, (lane Lb L 1 6), ck39 hL L, v702, (k0_pay43 (k0_pay35 (F := F) (labs Lb L 1)))⟩) :
    iprop(PreIss d L X Lb 1 4 ∗ R) ⊢ tw d L (k0_part20 L xV h2 lV h3 oV h4 labV h5 gatV h6 corV h7 cc0_scratch3 cc0_scoped0 cc0_scoped1 v2 (k0_pay35 (F := F) (labs Lb L 1)) (lane Lb L 1 4) hw37) Φ := by
  rw [k0_part20_eq_skeleton]
  unfold k0_part20_skel
  simp only [Prog.lift, Prog.bind_op, Prog.bind_ret, Prog.pure_eq_ret]
  refine step_issue d L X Lb hL 1 4 ?_
  refine step_assume d L (ck38 (Lb := Lb) hL L) ?_
  refine step_issue d L X Lb hL 1 5 ?_
  refine step_assume d L (ck39 (Lb := Lb) hL L) ?_
  refine step_issue d L X Lb hL 1 6 ?_
  exact step_ret d L (h _)

theorem part21 {h2 : (xV).IsWhole} {h3 : (lV).IsWhole} {h4 : (oV).IsWhole} {h5 : (labV).IsWhole} {h6 : (gatV).IsWhole} {h7 : (corV).IsWhole} {v2 : BitVec 32} {v702 : BitVec 32}
    {Φ : (Σ' (v704 : BitVec 32) (k0_hw40 : k0_chk40 L v704) (v718 : BitVec 32) (k0_hw41 : k0_chk41 L v718) (v732 : BitVec 32), k0_chk42 L v732) → sProp (MT nD τ sig (HIx 1) (Elt F) ℕ UU ℕ)}
    (h : iprop(PreIss d L X Lb 1 9 ∗ R) ⊢ Φ ⟨(lane Lb L 1 7), ck40 hL L, (lane Lb L 1 8), ck41 hL L, (lane Lb L 1 9), ck42 hL L⟩) :
    iprop(PreIss d L X Lb 1 7 ∗ R) ⊢ tw d L (k0_part21 L xV h2 lV h3 oV h4 labV h5 gatV h6 corV h7 cc0_scratch3 cc0_scoped0 cc0_scoped1 v2 (k0_pay35 (F := F) (labs Lb L 1)) v702 (k0_pay43 (k0_pay35 (F := F) (labs Lb L 1)))) Φ := by
  rw [k0_part21_eq_skeleton]
  unfold k0_part21_skel
  simp only [Prog.lift, Prog.bind_op, Prog.bind_ret, Prog.pure_eq_ret]
  refine step_assume d L (ck40 (Lb := Lb) hL L) ?_
  refine step_issue d L X Lb hL 1 7 ?_
  refine step_assume d L (ck41 (Lb := Lb) hL L) ?_
  refine step_issue d L X Lb hL 1 8 ?_
  refine step_assume d L (ck42 (Lb := Lb) hL L) ?_
  exact step_ret d L h

theorem part22 {h2 : (xV).IsWhole} {h3 : (lV).IsWhole} {h4 : (oV).IsWhole} {h5 : (labV).IsWhole} {h6 : (gatV).IsWhole} {h7 : (corV).IsWhole} {v2 : BitVec 32} {hw42 : k0_chk42 L (lane Lb L 1 9)}
    {Φ : (Σ' (v746 : BitVec 32) (k0_hw43 : k0_chk43 L v746) (v760 : BitVec 32), k0_chk44 L v760) → sProp (MT nD τ sig (HIx 1) (Elt F) ℕ UU ℕ)}
    (h : iprop(PreIss d L X Lb 1 12 ∗ R) ⊢ Φ ⟨(lane Lb L 1 10), ck43 hL L, (lane Lb L 1 11), ck44 hL L⟩) :
    iprop(PreIss d L X Lb 1 9 ∗ R) ⊢ tw d L (k0_part22 L xV h2 lV h3 oV h4 labV h5 gatV h6 corV h7 cc0_scratch3 cc0_scoped0 cc0_scoped1 v2 (k0_pay35 (F := F) (labs Lb L 1)) (lane Lb L 1 9) hw42) Φ := by
  rw [k0_part22_eq_skeleton]
  unfold k0_part22_skel
  simp only [Prog.lift, Prog.bind_op, Prog.bind_ret, Prog.pure_eq_ret]
  refine step_issue d L X Lb hL 1 9 ?_
  refine step_assume d L (ck43 (Lb := Lb) hL L) ?_
  refine step_issue d L X Lb hL 1 10 ?_
  refine step_assume d L (ck44 (Lb := Lb) hL L) ?_
  refine step_issue d L X Lb hL 1 11 ?_
  exact step_ret d L h

theorem part23 {h2 : (xV).IsWhole} {h3 : (lV).IsWhole} {h4 : (oV).IsWhole} {h5 : (labV).IsWhole} {h6 : (gatV).IsWhole} {h7 : (corV).IsWhole} {v2 : BitVec 32}
    {Φ : (Σ' (v774 : BitVec 32) (k0_hw45 : k0_chk45 L v774) (v788 : BitVec 32) (k0_hw46 : k0_chk46 L v788) (v802 : BitVec 32), k0_chk47 L v802) → sProp (MT nD τ sig (HIx 1) (Elt F) ℕ UU ℕ)}
    (h : iprop(PreIss d L X Lb 1 14 ∗ R) ⊢ Φ ⟨(lane Lb L 1 12), ck45 hL L, (lane Lb L 1 13), ck46 hL L, (lane Lb L 1 14), ck47 hL L⟩) :
    iprop(PreIss d L X Lb 1 12 ∗ R) ⊢ tw d L (k0_part23 L xV h2 lV h3 oV h4 labV h5 gatV h6 corV h7 cc0_scratch3 cc0_scoped0 cc0_scoped1 v2 (k0_pay35 (F := F) (labs Lb L 1))) Φ := by
  rw [k0_part23_eq_skeleton]
  unfold k0_part23_skel
  simp only [Prog.lift, Prog.bind_op, Prog.bind_ret, Prog.pure_eq_ret]
  refine step_assume d L (ck45 (Lb := Lb) hL L) ?_
  refine step_issue d L X Lb hL 1 12 ?_
  refine step_assume d L (ck46 (Lb := Lb) hL L) ?_
  refine step_issue d L X Lb hL 1 13 ?_
  refine step_assume d L (ck47 (Lb := Lb) hL L) ?_
  exact step_ret d L h

theorem part24 {h2 : (xV).IsWhole} {h3 : (lV).IsWhole} {h4 : (oV).IsWhole} {h5 : (labV).IsWhole} {h6 : (gatV).IsWhole} {h7 : (corV).IsWhole} {v2 : BitVec 32} {hw33 : k0_chk33 L (lane Lb L 1 0)} {hw34 : k0_chk34 L (lane Lb L 1 1)} {hw47 : k0_chk47 L (lane Lb L 1 14)}
    {Φ : (Σ' (v816 : BitVec 32), k0_chk48 L v816) → sProp (MT nD τ sig (HIx 1) (Elt F) ℕ UU ℕ)}
    (h : iprop(Bt d L X Lb 1 16 (1 * NN) ∗ Ow d L O W ∗ R) ⊢ Φ ⟨(lane Lb L 1 15), ck48 hL L⟩) :
    iprop(PreIss d L X Lb 1 14 ∗ Ow d L O W ∗ R) ⊢ tw d L (k0_part24 L xV h2 lV h3 oV h4 labV h5 gatV h6 corV h7 cc0_scratch3 cc0_scoped0 cc0_scoped1 v2 (k0_pay35 (F := F) (labs Lb L 1)) (lane Lb L 1 0) hw33 (lane Lb L 1 1) hw34 (lane Lb L 1 14) hw47) Φ := by
  rw [k0_part24_eq_skeleton]
  unfold k0_part24_skel
  simp only [Prog.lift, Prog.bind_op, Prog.bind_ret, Prog.pure_eq_ret]
  refine step_issue d L X Lb hL 1 14 ?_
  refine step_assume d L (ck48 (Lb := Lb) hL L) ?_
  refine step_issue d L X Lb hL 1 15 ?_
  refine step_done d L X Lb 1 ?_
  refine step_wait d L X Lb O W hO 1 0 (by decide) (t := 0) (ht := (by decide : 0 < 16)) ?_
  exact step_ret d L h

theorem part25 {h2 : (xV).IsWhole} {h3 : (lV).IsWhole} {h4 : (oV).IsWhole} {h5 : (labV).IsWhole} {h6 : (gatV).IsWhole} {h7 : (corV).IsWhole} {hw34 : k0_chk34 L (lane Lb L 1 1)} {hw35 : k0_chk35 L (lane Lb L 1 2)} {hw36 : k0_chk36 L (lane Lb L 1 3)} {hw37 : k0_chk37 L (lane Lb L 1 4)} {hw38 : k0_chk38 L (lane Lb L 1 5)} {hw39 : k0_chk39 L (lane Lb L 1 6)}
    {Φ : (PUnit) → sProp (MT nD τ sig (HIx 1) (Elt F) ℕ UU ℕ)}
    (h : iprop(Bt d L X Lb 1 16 (6 * NN) ∗ Ow d L O W ∗ R) ⊢ Φ ⟨⟩) :
    iprop(Bt d L X Lb 1 16 (1 * NN) ∗ Ow d L O W ∗ R) ⊢ tw d L (k0_part25 L xV h2 lV h3 oV h4 labV h5 gatV h6 corV h7 cc0_scratch3 cc0_scoped0 cc0_scoped1 (lane Lb L 1 1) hw34 (lane Lb L 1 2) hw35 (lane Lb L 1 3) hw36 (lane Lb L 1 4) hw37 (lane Lb L 1 5) hw38 (lane Lb L 1 6) hw39) Φ := by
  rw [k0_part25_eq_skeleton]
  unfold k0_part25_skel
  simp only [Prog.lift, Prog.bind_op, Prog.bind_ret, Prog.pure_eq_ret]
  refine step_wait d L X Lb O W hO 1 1 (by decide) (t := 1) (ht := (by decide : 1 < 16)) ?_
  refine step_wait d L X Lb O W hO 1 2 (by decide) (t := 2) (ht := (by decide : 2 < 16)) ?_
  refine step_wait d L X Lb O W hO 1 3 (by decide) (t := 3) (ht := (by decide : 3 < 16)) ?_
  refine step_wait d L X Lb O W hO 1 4 (by decide) (t := 4) (ht := (by decide : 4 < 16)) ?_
  refine step_wait d L X Lb O W hO 1 5 (by decide) (t := 5) (ht := (by decide : 5 < 16)) ?_
  exact step_ret d L h

theorem part26 {h2 : (xV).IsWhole} {h3 : (lV).IsWhole} {h4 : (oV).IsWhole} {h5 : (labV).IsWhole} {h6 : (gatV).IsWhole} {h7 : (corV).IsWhole} {hw39 : k0_chk39 L (lane Lb L 1 6)} {hw40 : k0_chk40 L (lane Lb L 1 7)} {hw41 : k0_chk41 L (lane Lb L 1 8)} {hw42 : k0_chk42 L (lane Lb L 1 9)} {hw43 : k0_chk43 L (lane Lb L 1 10)} {hw44 : k0_chk44 L (lane Lb L 1 11)}
    {Φ : (PUnit) → sProp (MT nD τ sig (HIx 1) (Elt F) ℕ UU ℕ)}
    (h : iprop(Bt d L X Lb 1 16 (11 * NN) ∗ Ow d L O W ∗ R) ⊢ Φ ⟨⟩) :
    iprop(Bt d L X Lb 1 16 (6 * NN) ∗ Ow d L O W ∗ R) ⊢ tw d L (k0_part26 L xV h2 lV h3 oV h4 labV h5 gatV h6 corV h7 cc0_scratch3 cc0_scoped0 cc0_scoped1 (lane Lb L 1 6) hw39 (lane Lb L 1 7) hw40 (lane Lb L 1 8) hw41 (lane Lb L 1 9) hw42 (lane Lb L 1 10) hw43 (lane Lb L 1 11) hw44) Φ := by
  rw [k0_part26_eq_skeleton]
  unfold k0_part26_skel
  simp only [Prog.lift, Prog.bind_op, Prog.bind_ret, Prog.pure_eq_ret]
  refine step_wait d L X Lb O W hO 1 6 (by decide) (t := 6) (ht := (by decide : 6 < 16)) ?_
  refine step_wait d L X Lb O W hO 1 7 (by decide) (t := 7) (ht := (by decide : 7 < 16)) ?_
  refine step_wait d L X Lb O W hO 1 8 (by decide) (t := 8) (ht := (by decide : 8 < 16)) ?_
  refine step_wait d L X Lb O W hO 1 9 (by decide) (t := 9) (ht := (by decide : 9 < 16)) ?_
  refine step_wait d L X Lb O W hO 1 10 (by decide) (t := 10) (ht := (by decide : 10 < 16)) ?_
  exact step_ret d L h

theorem part27 {h2 : (xV).IsWhole} {h3 : (lV).IsWhole} {h4 : (oV).IsWhole} {h5 : (labV).IsWhole} {h6 : (gatV).IsWhole} {h7 : (corV).IsWhole} {hw44 : k0_chk44 L (lane Lb L 1 11)} {hw45 : k0_chk45 L (lane Lb L 1 12)} {hw46 : k0_chk46 L (lane Lb L 1 13)} {hw47 : k0_chk47 L (lane Lb L 1 14)} {hw48 : k0_chk48 L (lane Lb L 1 15)}
    {Φ : (Σ' (v923 : FVec F S16 .f32) (v924 : IVec S16 32) (v925 : IVec S16 32), BitVec 32) → sProp (MT nD τ sig (HIx 1) (Elt F) ℕ UU ℕ)}
    (h : iprop(((gatV).view.loc (thr d L) ↦{fullShare} fetched d L X Lb 1) ∗ semVal (thr d L, cell) 0 ∗ Ow d L O W ∗ R) ⊢ Φ ⟨(k0_pay52 (F := F)), k0_pay53, k0_pay54, (Scalar.andi (lane Lb L 1 0) 127#32)⟩) :
    iprop(Bt d L X Lb 1 16 (11 * NN) ∗ Ow d L O W ∗ R) ⊢ tw d L (k0_part27 L xV h2 lV h3 oV h4 labV h5 gatV h6 corV h7 cc0_scratch3 cc0_scoped0 cc0_scoped1 (lane Lb L 1 0) (lane Lb L 1 11) hw44 (lane Lb L 1 12) hw45 (lane Lb L 1 13) hw46 (lane Lb L 1 14) hw47 (lane Lb L 1 15) hw48) Φ := by
  rw [k0_part27_eq_skeleton]
  unfold k0_part27_skel
  simp only [Prog.lift, Prog.bind_op, Prog.bind_ret, Prog.pure_eq_ret]
  refine step_wait d L X Lb O W hO 1 11 (by decide) (t := 11) (ht := (by decide : 11 < 16)) ?_
  refine step_wait d L X Lb O W hO 1 12 (by decide) (t := 12) (ht := (by decide : 12 < 16)) ?_
  refine step_wait d L X Lb O W hO 1 13 (by decide) (t := 13) (ht := (by decide : 13 < 16)) ?_
  refine step_wait d L X Lb O W hO 1 14 (by decide) (t := 14) (ht := (by decide : 14 < 16)) ?_
  refine step_waitLast d L X Lb O W hO 1 (t := 15) (ht := (by decide : 15 < 16)) ?_
  exact step_ret d L h

end Tile

end Cert.Proof.Ki

end
-- ==== Proof.Ki.PartsD.lean ====
/-
  The second half's gathers and margin.
-/
module

public import proofs.«01_k».proof.Proof.Ki.Words

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid0.Coords) (X : S1024x100096.Idx → F .f32) (Lb : S1024.Idx → BitVec 32)
variable (O : CellTallies nD τ sig (HIx 1)) (W : Waits sig (HIx 1))
variable {R : sProp (MT nD τ sig (HIx 1) (Elt F) ℕ UU ℕ)}
variable (hL : LabelsOK Lb) (hO : ∀ g, O g none = 0)
include hL hO

theorem part28 {h2 : (xV).IsWhole} {h3 : (lV).IsWhole} {h4 : (oV).IsWhole} {h5 : (labV).IsWhole} {h6 : (gatV).IsWhole} {h7 : (corV).IsWhole}
    {Φ : (Σ' (v963 : Vec F S16 .f32), BitVec 32) → sProp (MT nD τ sig (HIx 1) (Elt F) ℕ UU ℕ)}
    (h : iprop(((gatV).view.loc (thr d L) ↦{fullShare} fetched d L X Lb 1) ∗ R) ⊢ Φ ⟨(accTo X Lb L 1 5), 5#32⟩) :
    iprop(((gatV).view.loc (thr d L) ↦{fullShare} fetched d L X Lb 1) ∗ R) ⊢ tw d L (k0_part28 L xV h2 lV h3 oV h4 labV h5 gatV h6 corV h7 cc0_scratch3 cc0_scoped0 cc0_scoped1 lanes (lane Lb L 1 1) (lane Lb L 1 2) (lane Lb L 1 3) (lane Lb L 1 4) (k0_pay52 (F := F)) k0_pay53 k0_pay54 (Scalar.andi (lane Lb L 1 0) 127#32)) Φ := by
  rw [k0_part28_eq_skeleton]
  unfold k0_part28_skel
  simp only [Prog.lift, Prog.bind_op, Prog.bind_ret, Prog.pure_eq_ret]
  refine step_assume d L (gather_ok (l := 0) (n := 0) (c := (lane Lb L 1 0).toNat) (by decide) (fun _ => rfl) (fun _ => rfl) (fun _ => andi_low _)) ?_
  refine step_gather d L X Lb hL 1 0 (by intro _; rfl) (by intro _; rfl) (by intro _; exact andi_low _) ?_
  refine step_assume d L (gather_ok (l := 1) (n := 1) (c := (lane Lb L 1 1).toNat) (by decide) (fun _ => rfl) (fun _ => rfl) (fun _ => andi_low _)) ?_
  refine step_gather d L X Lb hL 1 1 (by intro _; rfl) (by intro _; rfl) (by intro _; exact andi_low _) ?_
  refine step_assume d L (gather_ok (l := 2) (n := 2) (c := (lane Lb L 1 2).toNat) (by decide) (fun _ => rfl) (fun _ => rfl) (fun _ => andi_low _)) ?_
  refine step_gather d L X Lb hL 1 2 (by intro _; rfl) (by intro _; rfl) (by intro _; exact andi_low _) ?_
  refine step_assume d L (gather_ok (l := 3) (n := 3) (c := (lane Lb L 1 3).toNat) (by decide) (fun _ => rfl) (fun _ => rfl) (fun _ => andi_low _)) ?_
  refine step_gather d L X Lb hL 1 3 (by intro _; rfl) (by intro _; rfl) (by intro _; exact andi_low _) ?_
  refine step_assume d L (gather_ok (l := 4) (n := 4) (c := (lane Lb L 1 4).toNat) (by decide) (fun _ => rfl) (fun _ => rfl) (fun _ => andi_low _)) ?_
  refine step_gather d L X Lb hL 1 4 (by intro _; rfl) (by intro _; rfl) (by intro _; exact andi_low _) ?_
  rw [pay55_eq X Lb L 1]
  exact step_ret d L h

theorem part29 {h2 : (xV).IsWhole} {h3 : (lV).IsWhole} {h4 : (oV).IsWhole} {h5 : (labV).IsWhole} {h6 : (gatV).IsWhole} {h7 : (corV).IsWhole}
    {Φ : (Σ' (v995 : Vec F S16 .f32), Vec F S16 .f32) → sProp (MT nD τ sig (HIx 1) (Elt F) ℕ UU ℕ)}
    (h : iprop(((gatV).view.loc (thr d L) ↦{fullShare} fetched d L X Lb 1) ∗ R) ⊢ Φ ⟨(accTo X Lb L 1 9), (fun _ => pick X Lb L 1 9)⟩) :
    iprop(((gatV).view.loc (thr d L) ↦{fullShare} fetched d L X Lb 1) ∗ R) ⊢ tw d L (k0_part29 L xV h2 lV h3 oV h4 labV h5 gatV h6 corV h7 cc0_scratch3 cc0_scoped0 cc0_scoped1 lanes (lane Lb L 1 5) (lane Lb L 1 6) (lane Lb L 1 7) (lane Lb L 1 8) (lane Lb L 1 9) (accTo X Lb L 1 5) 5#32) Φ := by
  rw [k0_part29_eq_skeleton]
  unfold k0_part29_skel
  simp only [Prog.lift, Prog.bind_op, Prog.bind_ret, Prog.pure_eq_ret]
  refine step_assume d L (gather_ok (l := 5) (n := 5) (c := (lane Lb L 1 5).toNat) (by decide) (fun _ => rfl) (fun _ => rfl) (fun _ => andi_low _)) ?_
  refine step_gather d L X Lb hL 1 5 (by intro _; rfl) (by intro _; rfl) (by intro _; exact andi_low _) ?_
  refine step_assume d L (gather_ok (l := 6) (n := 6) (c := (lane Lb L 1 6).toNat) (by decide) (fun _ => rfl) (fun _ => rfl) (fun _ => andi_low _)) ?_
  refine step_gather d L X Lb hL 1 6 (by intro _; rfl) (by intro _; rfl) (by intro _; exact andi_low _) ?_
  refine step_assume d L (gather_ok (l := 7) (n := 7) (c := (lane Lb L 1 7).toNat) (by decide) (fun _ => rfl) (fun _ => rfl) (fun _ => andi_low _)) ?_
  refine step_gather d L X Lb hL 1 7 (by intro _; rfl) (by intro _; rfl) (by intro _; exact andi_low _) ?_
  refine step_assume d L (gather_ok (l := 8) (n := 8) (c := (lane Lb L 1 8).toNat) (by decide) (fun _ => rfl) (fun _ => rfl) (fun _ => andi_low _)) ?_
  refine step_gather d L X Lb hL 1 8 (by intro _; rfl) (by intro _; rfl) (by intro _; exact andi_low _) ?_
  refine step_assume d L (gather_ok (l := 9) (n := 9) (c := (lane Lb L 1 9).toNat) (by decide) (fun _ => rfl) (fun _ => rfl) (fun _ => andi_low _)) ?_
  refine step_gather d L X Lb hL 1 9 (by intro _; rfl) (by intro _; rfl) (by intro _; exact andi_low _) ?_
  rw [pay56_eq X Lb L 1]
  exact step_ret d L h

theorem part30 {h2 : (xV).IsWhole} {h3 : (lV).IsWhole} {h4 : (oV).IsWhole} {h5 : (labV).IsWhole} {h6 : (gatV).IsWhole} {h7 : (corV).IsWhole}
    {Φ : (Σ' (v1035 : Vec F S16 .f32) (v1036 : IVec S16 32), IVec S16 32) → sProp (MT nD τ sig (HIx 1) (Elt F) ℕ UU ℕ)}
    (h : iprop(((gatV).view.loc (thr d L) ↦{fullShare} fetched d L X Lb 1) ∗ R) ⊢ Φ ⟨(accTo X Lb L 1 14), k0_pay58, k0_pay59⟩) :
    iprop(((gatV).view.loc (thr d L) ↦{fullShare} fetched d L X Lb 1) ∗ R) ⊢ tw d L (k0_part30 L xV h2 lV h3 oV h4 labV h5 gatV h6 corV h7 cc0_scratch3 cc0_scoped0 cc0_scoped1 lanes (lane Lb L 1 10) (lane Lb L 1 11) (lane Lb L 1 12) (lane Lb L 1 13) (accTo X Lb L 1 9) (fun _ => pick X Lb L 1 9)) Φ := by
  rw [k0_part30_eq_skeleton]
  unfold k0_part30_skel
  simp only [Prog.lift, Prog.bind_op, Prog.bind_ret, Prog.pure_eq_ret]
  refine step_assume d L (gather_ok (l := 10) (n := 10) (c := (lane Lb L 1 10).toNat) (by decide) (fun _ => rfl) (fun _ => rfl) (fun _ => andi_low _)) ?_
  refine step_gather d L X Lb hL 1 10 (by intro _; rfl) (by intro _; rfl) (by intro _; exact andi_low _) ?_
  refine step_assume d L (gather_ok (l := 11) (n := 11) (c := (lane Lb L 1 11).toNat) (by decide) (fun _ => rfl) (fun _ => rfl) (fun _ => andi_low _)) ?_
  refine step_gather d L X Lb hL 1 11 (by intro _; rfl) (by intro _; rfl) (by intro _; exact andi_low _) ?_
  refine step_assume d L (gather_ok (l := 12) (n := 12) (c := (lane Lb L 1 12).toNat) (by decide) (fun _ => rfl) (fun _ => rfl) (fun _ => andi_low _)) ?_
  refine step_gather d L X Lb hL 1 12 (by intro _; rfl) (by intro _; rfl) (by intro _; exact andi_low _) ?_
  refine step_assume d L (gather_ok (l := 13) (n := 13) (c := (lane Lb L 1 13).toNat) (by decide) (fun _ => rfl) (fun _ => rfl) (fun _ => andi_low _)) ?_
  refine step_gather d L X Lb hL 1 13 (by intro _; rfl) (by intro _; rfl) (by intro _; exact andi_low _) ?_
  rw [pay57_eq X Lb L 1]
  exact step_ret d L h

theorem part31 {h2 : (xV).IsWhole} {h3 : (lV).IsWhole} {h4 : (oV).IsWhole} {h5 : (labV).IsWhole} {h6 : (gatV).IsWhole} {h7 : (corV).IsWhole}
    {Φ : (Σ' (v1051 : Vec F S16 .f32) (v1058 : FVec F S16 .f32) (v1077 : FVec F S16 .f32), FVec F S16 .f32) → sProp (MT nD τ sig (HIx 1) (Elt F) ℕ UU ℕ)}
    (h : iprop(((gatV).view.loc (thr d L) ↦{fullShare} fetched d L X Lb 1) ∗ R) ⊢ Φ ⟨(accTo X Lb L 1 16), (aV (accTo X Lb L 1 16)), ((nV (aV (accTo X Lb L 1 16)))^[3] (sqrt (aV (accTo X Lb L 1 16)))), (maximumf ((nV (aV (accTo X Lb L 1 16)))^[3] (sqrt (aV (accTo X Lb L 1 16)))) (broadcast S16 (Scalar.ofBits .f32 0x0DA24260#32)))⟩) :
    iprop(((gatV).view.loc (thr d L) ↦{fullShare} fetched d L X Lb 1) ∗ R) ⊢ tw d L (k0_part31 L xV h2 lV h3 oV h4 labV h5 gatV h6 corV h7 cc0_scratch3 cc0_scoped0 cc0_scoped1 lanes (lane Lb L 1 14) (lane Lb L 1 15) (accTo X Lb L 1 14) k0_pay58 k0_pay59) Φ := by
  rw [k0_part31_eq_skeleton]
  unfold k0_part31_skel
  simp only [Prog.lift, Prog.bind_op, Prog.bind_ret, Prog.pure_eq_ret]
  refine step_assume d L (gather_ok (l := 14) (n := 14) (c := (lane Lb L 1 14).toNat) (by decide) (fun _ => rfl) (fun _ => rfl) (fun _ => andi_low _)) ?_
  refine step_gather d L X Lb hL 1 14 (by intro _; rfl) (by intro _; rfl) (by intro _; exact andi_low _) ?_
  refine step_assume d L (gather_ok (l := 15) (n := 15) (c := (lane Lb L 1 15).toNat) (by decide) (fun _ => rfl) (fun _ => rfl) (fun _ => andi_low _)) ?_
  refine step_gather d L X Lb hL 1 15 (by intro _; rfl) (by intro _; rfl) (by intro _; exact andi_low _) ?_
  rw [pay63_eq, pay62_eq, pay61_eq, pay60_eq X Lb L 1]
  exact step_ret d L h

theorem part32 {h2 : (xV).IsWhole} {h3 : (lV).IsWhole} {h4 : (oV).IsWhole} {h5 : (labV).IsWhole} {h6 : (gatV).IsWhole} {h7 : (corV).IsWhole}
    {Φ : (Σ' (v1123 : FVec F S16 .f32), FVec F S16 .f32) → sProp (MT nD τ sig (HIx 1) (Elt F) ℕ UU ℕ)}
    (h : iprop(R) ⊢ Φ ⟨(hV (aV (accTo X Lb L 1 16)) ((nV (aV (accTo X Lb L 1 16)))^[10] (sqrt (aV (accTo X Lb L 1 16))))), k0_pay65⟩) :
    iprop(R) ⊢ tw d L (k0_part32 L xV h2 lV h3 oV h4 labV h5 gatV h6 corV h7 cc0_scratch3 cc0_scoped0 cc0_scoped1 (aV (accTo X Lb L 1 16)) ((nV (aV (accTo X Lb L 1 16)))^[3] (sqrt (aV (accTo X Lb L 1 16)))) (maximumf ((nV (aV (accTo X Lb L 1 16)))^[3] (sqrt (aV (accTo X Lb L 1 16)))) (broadcast S16 (Scalar.ofBits .f32 0x0DA24260#32)))) Φ := by
  rw [k0_part32_eq_skeleton]
  unfold k0_part32_skel
  simp only [Prog.lift, Prog.bind_op, Prog.bind_ret, Prog.pure_eq_ret]
  rw [pay64_eq, iter_add]
  exact step_ret d L h

theorem part33 {h2 : (xV).IsWhole} {h3 : (lV).IsWhole} {h4 : (oV).IsWhole} {h5 : (labV).IsWhole} {h6 : (gatV).IsWhole} {h7 : (corV).IsWhole}
    {Φ : (Σ' (v1167 : FVec F S16 .f32), FVec F S16 .f32) → sProp (MT nD τ sig (HIx 1) (Elt F) ℕ UU ℕ)}
    (h : iprop(R) ⊢ Φ ⟨((nV (aV (accTo X Lb L 1 16)))^[18] (sqrt (aV (accTo X Lb L 1 16)))), (maximumf ((nV (aV (accTo X Lb L 1 16)))^[18] (sqrt (aV (accTo X Lb L 1 16)))) (broadcast S16 (Scalar.ofBits .f32 0x0DA24260#32)))⟩) :
    iprop(R) ⊢ tw d L (k0_part33 L xV h2 lV h3 oV h4 labV h5 gatV h6 corV h7 cc0_scratch3 cc0_scoped0 cc0_scoped1 (aV (accTo X Lb L 1 16)) (hV (aV (accTo X Lb L 1 16)) ((nV (aV (accTo X Lb L 1 16)))^[10] (sqrt (aV (accTo X Lb L 1 16))))) k0_pay65) Φ := by
  rw [k0_part33_eq_skeleton]
  unfold k0_part33_skel
  simp only [Prog.lift, Prog.bind_op, Prog.bind_ret, Prog.pure_eq_ret]
  rw [pay67_eq, pay66_eq, iter_add]
  exact step_ret d L h

end Tile

end Cert.Proof.Ki

end
-- ==== Proof.Ki.Body.lean ====
/-
  A tile's whole task: its pieces in order.
-/
module

public import proofs.«01_k».proof.Proof.Ki.PartsA
public import proofs.«01_k».proof.Proof.Ki.PartsB
public import proofs.«01_k».proof.Proof.Ki.PartsC
public import proofs.«01_k».proof.Proof.Ki.PartsD

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

theorem perm_labs (A B C D E R : sProp 𝕄) : iprop(A ∗ B ∗ C ∗ D ∗ E ∗ R) ⊢ iprop(B ∗ E ∗ (A ∗ C ∗ D ∗ R)) := by
  iintro ⟨HA, HB, HC, HD, HE, HR⟩
  isplitl [HB]; · iexact HB
  isplitl [HE]; · iexact HE
  isplitl [HA]; · iexact HA
  isplitl [HC]; · iexact HC
  isplitl [HD]; · iexact HD
  iexact HR
theorem perm_front (A B C : sProp 𝕄) : iprop(A ∗ B ∗ C) ⊢ iprop(B ∗ A ∗ C) := by
  iintro ⟨HA, HB, HC⟩
  isplitl [HB]; · iexact HB
  isplitl [HA]; · iexact HA
  iexact HC
theorem perm_swap (A B C : sProp 𝕄) : iprop(A ∗ B ∗ C) ⊢ iprop(B ∗ A ∗ C) := perm_front A B C
/-- After the labels: the copies first, then what the waits use. -/
theorem perm_issue (P B A C D R : sProp 𝕄) : iprop(P ∗ B ∗ A ∗ C ∗ D ∗ R) ⊢ iprop(P ∗ D ∗ B ∗ A ∗ C ∗ R) := by
  iintro ⟨HP, HB, HA, HC, HD, HR⟩
  isplitl [HP]; · iexact HP
  isplitl [HD]; · iexact HD
  isplitl [HB]; · iexact HB
  isplitl [HA]; · iexact HA
  isplitl [HC]; · iexact HC
  iexact HR
/-- The start. -/
theorem perm_start (P A B C D R : sProp 𝕄) : iprop(P ∗ A ∗ B ∗ C ∗ D ∗ R) ⊢ iprop(A ∗ B ∗ C ∗ D ∗ P ∗ R) := by
  iintro ⟨HP, HA, HB, HC, HD, HR⟩
  isplitl [HA]; · iexact HA
  isplitl [HB]; · iexact HB
  isplitl [HC]; · iexact HC
  isplitl [HD]; · iexact HD
  isplitl [HP]; · iexact HP
  iexact HR
/-- The first half over: the results and the labels first. -/
theorem perm_half (G S D B A C Co X T : sProp 𝕄) : iprop(G ∗ S ∗ D ∗ B ∗ A ∗ C ∗ Co ∗ X ∗ T) ⊢ iprop(Co ∗ B ∗ ((G ∗ S ∗ X) ∗ D ∗ A ∗ C ∗ T)) := by
  iintro ⟨HG, HS, HD, HB, HA, HC, HCo, HX, HT⟩
  isplitl [HCo]; · iexact HCo
  isplitl [HB]; · iexact HB
  isplitl [HG HS HX]
  · isplitl [HG]; · iexact HG
    isplitl [HS]; · iexact HS
    iexact HX
  isplitl [HD]; · iexact HD
  isplitl [HA]; · iexact HA
  isplitl [HC]; · iexact HC
  iexact HT
/-- The second half begins. -/
theorem perm_second (B Co P D A C T : sProp 𝕄) : iprop(B ∗ Co ∗ (P ∗ D ∗ A ∗ C ∗ T)) ⊢ iprop(P ∗ D ∗ Co ∗ B ∗ A ∗ C ∗ T) := by
  iintro ⟨HB, HCo, HP, HD, HA, HC, HT⟩
  isplitl [HP]; · iexact HP
  isplitl [HD]; · iexact HD
  isplitl [HCo]; · iexact HCo
  isplitl [HB]; · iexact HB
  isplitl [HA]; · iexact HA
  isplitl [HC]; · iexact HC
  iexact HT
/-- The results stored. -/
theorem perm_store (G S D Co R : sProp 𝕄) : iprop(G ∗ S ∗ D ∗ Co ∗ R) ⊢ iprop(Co ∗ G ∗ S ∗ D ∗ R) := by
  iintro ⟨HG, HS, HD, HCo, HR⟩
  isplitl [HCo]; · iexact HCo
  isplitl [HG]; · iexact HG
  isplitl [HS]; · iexact HS
  isplitl [HD]; · iexact HD
  iexact HR
/-- The results' copy out. -/
theorem perm_out (Co G S D B A C T U : sProp 𝕄) : iprop(Co ∗ G ∗ S ∗ D ∗ B ∗ A ∗ C ∗ T ∗ U) ⊢ iprop(Co ∗ T ∗ U ∗ D ∗ (G ∗ S ∗ B ∗ A ∗ C)) := by
  iintro ⟨HCo, HG, HS, HD, HB, HA, HC, HT, HU⟩
  isplitl [HCo]; · iexact HCo
  isplitl [HT]; · iexact HT
  isplitl [HU]; · iexact HU
  isplitl [HD]; · iexact HD
  isplitl [HG]; · iexact HG
  isplitl [HS]; · iexact HS
  isplitl [HB]; · iexact HB
  isplitl [HA]; · iexact HA
  iexact HC

section Tile

variable (d : Dev nD) (L : grid0.Coords) (X : S1024x100096.Idx → F .f32) (Lb : S1024.Idx → BitVec 32)
variable (O : CellTallies nD τ sig (HIx 1)) (W : Waits sig (HIx 1))
variable {R : sProp (MT nD τ sig (HIx 1) (Elt F) ℕ UU ℕ)}
variable (hL : LabelsOK Lb) (hO : ∀ g, O g none = 0)

theorem step_bind {α β : Type} {Q : β → sProp (MT nD τ sig (HIx 1) (Elt F) ℕ UU ℕ)} {p : Prog (TpuEff nD τ sig (Elt F) Λ₀ (thr d L).2) α}
    {k : α → Prog (TpuEff nD τ sig (Elt F) Λ₀ (thr d L).2) β} (h : R ⊢ tw d L p fun a => tw d L (k a) Q) : R ⊢ tw d L (p >>= k) Q :=
by
  show R ⊢ wp _ _ _ _ _
  rw [wp_bind]
  exact h

include hL hO

/-- The first piece: the labels fetched, the first copy started. -/
theorem part1 {h2 : (xV).IsWhole} {h3 : (lV).IsWhole} {h4 : (oV).IsWhole} {h5 : (labV).IsWhole} {h6 : (gatV).IsWhole} {h7 : (corV).IsWhole}
    {g : Buf (Elt F) ((labV).view.loc (thr d L))}
    {Φ : (Σ' (v2 : BitVec 32) (v3 : IVec S16 32) (v9 : IVec S16 32) (v13 : BitVec 32) (k0_hw1 : k0_chk1 L v13) (v27 : BitVec 32) (k0_hw2 : k0_chk2 L v27), BitVec 32) → sProp (MT nD τ sig (HIx 1) (Elt F) ℕ UU ℕ)}
    (h : ∀ v2 v30, iprop(PreIss d L X Lb 0 1 ∗ labPts d L (labs32 Lb L) ∗ lPts d L Lb ∗ semVal (thr d L, .dma cc0_scoped0.sem) 0 ∗ Ow d L O W ∗ R)
      ⊢ Φ ⟨v2, lanes, k0_pay1 (F := F) (labs Lb L 0), lane Lb L 0 0, ck1 hL L, lane Lb L 0 1, ck2 hL L, v30⟩) :
    iprop(lPts d L Lb ∗ labPts d L g ∗ semVal (thr d L, .dma cc0_scoped0.sem) 0 ∗ Ow d L O W ∗ PreIss d L X Lb 0 0 ∗ R)
      ⊢ tw d L (k0_part1 L xV h2 lV h3 oV h4 labV h5 gatV h6 corV h7 cc0_scratch3 cc0_scoped0 cc0_scoped1) Φ := by
  rw [k0_part1_eq_skeleton]
  unfold k0_part1_skel
  simp only [Prog.lift, Prog.bind_op, Prog.bind_ret, Prog.pure_eq_ret]
  refine step_labs d L Lb O W hO ?_
  refine BIBase.Entails.trans (perm_labs _ _ _ _ _ _) ?_
  refine step_loadLab d L Lb 0 ?_
  refine step_assume d L (ck1 (Lb := Lb) hL L) ?_
  refine BIBase.Entails.trans (perm_front _ _ _) ?_
  refine step_issue d L X Lb hL 0 0 ?_
  refine step_assume d L (ck2 (Lb := Lb) hL L) ?_
  exact step_ret d L (h _ _)

omit hL in
/-- The first half's results stored, the second half's labels read. -/
theorem part17 {h2 : (xV).IsWhole} {h3 : (lV).IsWhole} {h4 : (oV).IsWhole} {h5 : (labV).IsWhole} {h6 : (gatV).IsWhole} {h7 : (corV).IsWhole}
    {f : Buf (Elt F) ((corV).view.loc (thr d L))} {acc a s : FVec F S16 .f32} (hv : k0_pay34 acc a s (qV a s) = cor16 X Lb L 0)
    {Φ : IVec S16 32 → sProp (MT nD τ sig (HIx 1) (Elt F) ℕ UU ℕ)}
    (h : iprop(labPts d L (labs32 Lb L) ∗ corPts d L (fun i : S32.Idx => if 16 * (0 : Fin 2).val ≤ (i 0).val ∧ (i 0).val < 16 * (0 : Fin 2).val + 16 then cor32 X Lb L i else f i) ∗ R)
      ⊢ Φ (k0_pay35 (F := F) (labs Lb L 1))) :
    iprop(corPts d L f ∗ labPts d L (labs32 Lb L) ∗ R)
      ⊢ tw d L (k0_part17 L xV h2 lV h3 oV h4 labV h5 gatV h6 corV h7 cc0_scratch3 cc0_scoped0 cc0_scoped1 acc a s (qV a s)) Φ := by
  rw [k0_part17_eq_skeleton]
  unfold k0_part17_skel
  simp only [Prog.lift, Prog.bind_op, Prog.bind_ret, Prog.pure_eq_ret]
  refine step_loadCor d L fun v => ?_
  refine step_store d L X Lb 0 hv ?_
  refine BIBase.Entails.trans (perm_swap _ _ _) ?_
  refine step_loadLab d L Lb 1 ?_
  exact step_ret d L h

theorem cor16_first : k0_pay34 (accTo X Lb L 0 16) (aV (accTo X Lb L 0 16)) ((nV (aV (accTo X Lb L 0 16)))^[15] (sqrt (aV (accTo X Lb L 0 16))))
    (qV (aV (accTo X Lb L 0 16)) ((nV (aV (accTo X Lb L 0 16)))^[15] (sqrt (aV (accTo X Lb L 0 16))))) = cor16 X Lb L 0 := by
  rw [pay34_eq, iter_add, acc_all]
  rfl

theorem cor16_second : k0_pay68 (accTo X Lb L 1 16) (aV (accTo X Lb L 1 16)) ((nV (aV (accTo X Lb L 1 16)))^[18] (sqrt (aV (accTo X Lb L 1 16))))
    (maximumf ((nV (aV (accTo X Lb L 1 16)))^[18] (sqrt (aV (accTo X Lb L 1 16)))) (broadcast S16 (Scalar.ofBits .f32 0x0DA24260#32))) = cor16 X Lb L 1 := by
  rw [pay68_eq, iter_add, acc_all]
  rfl

omit hL hO in
theorem cor32_done (f : S32.Idx → F .f32) : (fun i : S32.Idx => if 16 * (1 : Fin 2).val ≤ (i 0).val ∧ (i 0).val < 16 * (1 : Fin 2).val + 16 then cor32 X Lb L i else
    (fun i : S32.Idx => if 16 * (0 : Fin 2).val ≤ (i 0).val ∧ (i 0).val < 16 * (0 : Fin 2).val + 16 then cor32 X Lb L i else f i) i) = cor32 X Lb L := by
  funext i
  have hi : (i 0).val < 32 := (i 0).isLt
  by_cases h1 : 16 * (1 : Fin 2).val ≤ (i 0).val ∧ (i 0).val < 16 * (1 : Fin 2).val + 16
  · rw [if_pos h1]
  · rw [if_neg h1]
    refine if_pos ⟨?_, ?_⟩
    · show 16 * 0 ≤ (i 0).val; omega
    · show (i 0).val < 16 * 0 + 16
      have h2 : ¬ (16 * 1 ≤ (i 0).val ∧ (i 0).val < 16 * 1 + 16) := h1
      omega

/-- The pieces' sequence: from the labels and the row shares to both halves' results. -/
theorem part34 {h2 : (xV).IsWhole} {h3 : (lV).IsWhole} {h4 : (oV).IsWhole} {h5 : (labV).IsWhole} {h6 : (gatV).IsWhole} {h7 : (corV).IsWhole}
    {gl : Buf (Elt F) ((labV).view.loc (thr d L))} {gg : Buf (Elt F) ((gatV).view.loc (thr d L))} {f : Buf (Elt F) ((corV).view.loc (thr d L))}
    {Φ : FVec F S16 .f32 → sProp (MT nD τ sig (HIx 1) (Elt F) ℕ UU ℕ)}
    (h : iprop(corPts d L (fun i : S32.Idx => if 16 * (0 : Fin 2).val ≤ (i 0).val ∧ (i 0).val < 16 * (0 : Fin 2).val + 16 then cor32 X Lb L i else f i)
        ∗ ((gatV).view.loc (thr d L) ↦{fullShare} fetched d L X Lb 1) ∗ semVal (thr d L, cell) 0 ∗ Ow d L O W
        ∗ labPts d L (labs32 Lb L) ∗ lPts d L Lb ∗ semVal (thr d L, .dma cc0_scoped0.sem) 0 ∗ R) ⊢ Φ (cor16 X Lb L 1)) :
    iprop((((gatV).view.loc (thr d L) ↦{fullShare} gg) ∗ semVal (thr d L, cell) 0 ∗ bigSep Finset.univ (xSh d L X 0))
        ∗ lPts d L Lb ∗ labPts d L gl ∗ semVal (thr d L, .dma cc0_scoped0.sem) 0 ∗ Ow d L O W
        ∗ corPts d L f ∗ bigSep Finset.univ (xSh d L X 1) ∗ R)
      ⊢ tw d L (k0_part34 L xV h2 lV h3 oV h4 labV h5 gatV h6 corV h7 cc0_scratch3 cc0_scoped0 cc0_scoped1) Φ := by
  rw [k0_part34_eq_skeleton]
  unfold k0_part34_skel
  refine step_begin d L X Lb 0 ?_
  refine step_bind d L ?_
  refine BIBase.Entails.trans (perm_start _ _ _ _ _ _) ?_
  refine part1 d L X Lb O W hL hO (fun _ _ => ?_)
  dsimp only
  refine BIBase.Entails.trans (perm_issue _ _ _ _ _ _) ?_
  refine step_bind d L ?_
  refine part2 d L X Lb O hL hO (?_)
  dsimp only
  refine step_bind d L ?_
  refine part3 d L X Lb O hL hO (fun _ => ?_)
  dsimp only
  refine step_bind d L ?_
  refine part4 d L X Lb O hL hO (?_)
  dsimp only
  refine step_bind d L ?_
  refine part5 d L X Lb O hL hO (fun _ => ?_)
  dsimp only
  refine step_bind d L ?_
  refine part6 d L X Lb O hL hO (fun _ => ?_)
  dsimp only
  refine step_bind d L ?_
  refine part7 d L X Lb O hL hO (?_)
  dsimp only
  refine step_bind d L ?_
  refine part8 d L X Lb O W hL hO (?_)
  refine step_bind d L ?_
  refine part9 d L X Lb O W hL hO (?_)
  refine step_bind d L ?_
  refine part10 d L X Lb O W hL hO (?_)
  refine step_bind d L ?_
  refine part11 d L X Lb O W hL hO (?_)
  dsimp only
  refine step_bind d L ?_
  refine part12 d L X Lb O hL hO (?_)
  dsimp only
  refine step_bind d L ?_
  refine part13 d L X Lb O hL hO (?_)
  dsimp only
  refine step_bind d L ?_
  refine part14 d L X Lb O hL hO (?_)
  dsimp only
  refine step_bind d L ?_
  refine part15 d L X Lb O hL hO (?_)
  refine step_bind d L ?_
  refine part16 d L X Lb O hL hO (?_)
  dsimp only
  refine BIBase.Entails.trans (perm_half _ _ _ _ _ _ _ _ _) ?_
  refine step_bind d L ?_
  refine part17 d L X Lb O hO (cor16_first L X Lb O hL hO) ?_
  dsimp only
  refine BIBase.Entails.trans (perm_second _ _ _ _ _ _ _) ?_
  refine step_begin d L X Lb 1 ?_
  refine step_bind d L ?_
  refine part18 d L X Lb O hL hO (?_)
  dsimp only
  refine step_bind d L ?_
  refine part19 d L X Lb O hL hO (?_)
  dsimp only
  refine step_bind d L ?_
  refine part20 d L X Lb O hL hO (fun _ => ?_)
  dsimp only
  refine step_bind d L ?_
  refine part21 d L X Lb O hL hO (?_)
  dsimp only
  refine step_bind d L ?_
  refine part22 d L X Lb O hL hO (?_)
  dsimp only
  refine step_bind d L ?_
  refine part23 d L X Lb O hL hO (?_)
  dsimp only
  refine step_bind d L ?_
  refine part24 d L X Lb O W hL hO (?_)
  dsimp only
  refine step_bind d L ?_
  refine part25 d L X Lb O W hL hO (?_)
  refine step_bind d L ?_
  refine part26 d L X Lb O W hL hO (?_)
  refine step_bind d L ?_
  refine part27 d L X Lb O W hL hO (?_)
  dsimp only
  refine step_bind d L ?_
  refine part28 d L X Lb O hL hO (?_)
  dsimp only
  refine step_bind d L ?_
  refine part29 d L X Lb O hL hO (?_)
  dsimp only
  refine step_bind d L ?_
  refine part30 d L X Lb O hL hO (?_)
  dsimp only
  refine step_bind d L ?_
  refine part31 d L X Lb O hL hO (?_)
  dsimp only
  refine step_bind d L ?_
  refine part32 d L X Lb O hL hO (?_)
  dsimp only
  refine step_bind d L ?_
  refine part33 d L X Lb O hL hO (?_)
  dsimp only
  rw [cor16_second L X Lb O hL hO]
  simp only [Prog.lift, Prog.bind_op, Prog.bind_ret, Prog.pure_eq_ret]
  refine BIBase.Entails.trans (perm_store _ _ _ _ _) ?_
  refine step_loadCor d L fun _ => ?_
  refine step_ret d L ?_
  exact h

set_option maxRecDepth 65536 in
/-- A tile's task. -/
theorem body_ok {h2 : (xV).IsWhole} {h3 : (lV).IsWhole} {h4 : (oV).IsWhole} {h5 : (labV).IsWhole} {h6 : (gatV).IsWhole} {h7 : (corV).IsWhole}
    {gl : Buf (Elt F) ((labV).view.loc (thr d L))} {gg : Buf (Elt F) ((gatV).view.loc (thr d L))} {f : Buf (Elt F) ((corV).view.loc (thr d L))}
    {go : Buf (Elt F) ((oV).view.loc (thr d L))}
    {Φ : PUnit → sProp (MT nD τ sig (HIx 1) (Elt F) ℕ UU ℕ)}
    (h : iprop(corPts d L (cor32 X Lb L) ∗ oPts d L (fun i : S1024.Idx => corAt X Lb (i 0)) ∗ semVal (thr d L, .dma cc0_scoped1.sem) 0 ∗ Ow d L O W
        ∗ ((gatV).view.loc (thr d L) ↦{fullShare} fetched d L X Lb 1) ∗ semVal (thr d L, cell) 0
        ∗ labPts d L (labs32 Lb L) ∗ lPts d L Lb ∗ semVal (thr d L, .dma cc0_scoped0.sem) 0) ⊢ Φ ⟨⟩) :
    iprop((((gatV).view.loc (thr d L) ↦{fullShare} gg) ∗ semVal (thr d L, cell) 0 ∗ bigSep Finset.univ (xSh d L X 0))
        ∗ lPts d L Lb ∗ labPts d L gl ∗ semVal (thr d L, .dma cc0_scoped0.sem) 0 ∗ Ow d L O W
        ∗ corPts d L f ∗ bigSep Finset.univ (xSh d L X 1) ∗ oPts d L go ∗ semVal (thr d L, .dma cc0_scoped1.sem) 0)
      ⊢ tw d L (cc0__sc_margin_body L xV h2 lV h3 oV h4 labV h5 gatV h6 corV h7 cc0_scratch3 cc0_scoped0 cc0_scoped1) Φ := by
  rw [cc0__sc_margin_body_eq_skeleton]
  unfold cc0__sc_margin_body_skel
  refine step_bind d L ?_
  refine part34 d L X Lb O W hL hO ?_
  simp only [Prog.lift, Prog.bind_op, Prog.bind_ret, Prog.pure_eq_ret]
  refine step_store d L X Lb 1 rfl ?_
  rw [cor32_done]
  refine BIBase.Entails.trans (perm_out _ _ _ _ _ _ _ _ _) ?_
  refine step_out d L X Lb O W hO ?_
  exact step_ret d L h

end Tile

end Cert.Proof.Ki

end
-- ==== Proof.Ki.Tile.lean ====
/-
  The SparseCore call's tasks as the launch theorem asks for them: what the threads of the call hand each other, a tile's
  own buffers and semaphores, and the obligation of a task.
-/
module

public import proofs.«01_k».proof.Proof.Ki.Body

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What the call's threads hand each other -/

section Payload

variable (X : Dev nD → S1024x100096.Idx → F .f32) (Lb : Dev nD → S1024.Idx → BitVec 32) (o : Dev nD → S1024.Idx → F .f32)

/-- The tile of core `c`, subcore `i`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile is handed: its labels, a share of the padded cosines for each of its rows, its part of the result. -/
abbrev goAt (d : Dev nD) (L : grid0.Coords) : sProp 𝕄 :=
  iprop(lPts d L (Lb d) ∗ (bigSep Finset.univ (xSh d L (X d) 0) ∗ bigSep Finset.univ (xSh d L (X d) 1)) ∗ oPts d L (o d))
/-- What it hands back: its labels, and its part of the result at the margin's values. -/
abbrev tdAt (d : Dev nD) (L : grid0.Coords) : sProp 𝕄 :=
  iprop(lPts d L (Lb d) ∗ oPts d L (fun i : S1024.Idx => corAt (X d) (Lb d) (i 0)))

def P : (K (F := F)).Pay (nD := nD) (Val := Elt F) (Name := ℕ) (U := UU) where
  st := fun q d c => match q with | 0 => bigSep Finset.univ fun i : Fin 16 => goAt X Lb o d (coordsV c i)
  dn := fun q d c => match q with | 0 => bigSep Finset.univ fun i : Fin 16 => tdAt X Lb d (coordsV c i)
  go := fun q d c i => match q with | 0 => goAt X Lb o d (coordsV c i)
  td := fun q d c i => match q with | 0 => tdAt X Lb d (coordsV c i)
  x := fun _ _ => iprop(emp)

instance P_storable : (P X Lb o).IsStorable where
  st q d c := match q with
    | 0 => (inferInstance : BI.Storable (upEmb : UEmb _ 𝕄) (bigSep Finset.univ fun i : Fin 16 => goAt X Lb o d (coordsV c i)))
  dn q d c := match q with
    | 0 => (inferInstance : BI.Storable (upEmb : UEmb _ 𝕄) (bigSep Finset.univ fun i : Fin 16 => tdAt X Lb d (coordsV c i)))
  go q d c i := match q with
    | 0 => (inferInstance : BI.Storable (upEmb : UEmb _ 𝕄) (goAt X Lb o d (coordsV c i)))
  td q d c i := match q with
    | 0 => (inferInstance : BI.Storable (upEmb : UEmb _ 𝕄) (tdAt X Lb d (coordsV c i)))

theorem vecSplit : (K (F := F)).VecSplit' (P X Lb o) 0 := by
  intro d c
  show (bigSep Finset.univ fun i : Fin 16 => goAt X Lb o d (coordsV c i)) ⊢ |={Set.univ}=> iprop(
      (bigSep Finset.univ fun i : Fin 16 => goAt X Lb o d (coordsV c i))
      ∗ ((bigSep Finset.univ fun i : Fin 16 => tdAt X Lb d (coordsV c i)) -∗ (bigSep Finset.univ fun i : Fin 16 => tdAt X Lb d (coordsV c i))))
  iintro H; imodintro
  isplitl [H]; · iexact H
  iintro H; iexact H

end Payload

/-! ## A tile's own buffers and semaphores -/

section Own

variable (d : Dev nD) (L : grid0.Coords)

abbrev aCell : GSem nD τ sig := (thr d L, .dma cc0_scoped0.sem)
abbrev bCell : GSem nD τ sig := (thr d L, .dma cc0_scoped1.sem)
abbrev gCell : GSem nD τ sig := (thr d L, cell)

theorem ownSems0_V :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  unfold SparseCore.Cfg.ownSems0
  rw [SparseCore.bigSep_erase' ((mem_ownCells (g := gCell d L)).mpr ⟨rfl, by
      show (cell : SemLoc sig).isScoped .scVector = true; decide⟩),
    SparseCore.bigSep_erase' (Finset.mem_erase.mpr ⟨by simp [gCell, aCell]; decide, (mem_ownCells (g := aCell d L)).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc0_scoped1.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

end Own

/-! ## The task's obligation -/

section Obl

variable (X : Dev nD → S1024x100096.Idx → F .f32) (Lb : Dev nD → S1024.Idx → BitVec 32) (o : Dev nD → S1024.Idx → F .f32)

/-- What is left of a tile's own buffers and semaphores when those the task uses are taken out. -/
abbrev restB (d : Dev nD) (L : grid0.Coords) : sProp 𝕄 :=
  bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
    fun b => iprop(∃ f, ((d, b) : Loc nD τ sig) ↦{fullShare} f)
abbrev restS (d : Dev nD) (L : grid0.Coords) : sProp 𝕄 :=
  bigSep ((((ownCells (thr d L)).erase (gCell d L)).erase (aCell d L)).erase (bCell d L)) fun g => semVal g 0

theorem tile_body (d : Dev nD) (L : grid0.Coords) (O : CellTallies nD τ sig (HIx 1)) (W : Waits sig (HIx 1))
    (hL : LabelsOK (Lb d)) (hO : ∀ g, O g none = 0) :
    iprop(levAts (K (F := F)).L (K (F := F)).lev ∗ emp ∗ goAt X Lb o d L
        ∗ scopedBufs (thr d L) ∗ scopedSems0 (thr d L) ∗ owes (thr d L) O W)
      ⊢ tw d L (cc0__sc_margin_body L xV (Memref.isWhole_whole _) lV (Memref.isWhole_whole _) oV (Memref.isWhole_whole _)
            labV (Memref.isWhole_whole _) gatV (Memref.isWhole_whole _) corV (Memref.isWhole_whole _) cc0_scratch3 cc0_scoped0 cc0_scoped1)
          fun _ => iprop(tdAt X Lb d L ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  have hbody : ∀ gl gg f, iprop((((gatV).view.loc (thr d L) ↦{fullShare} gg) ∗ semVal (thr d L, cell) 0 ∗ bigSep Finset.univ (xSh d L (X d) 0))
        ∗ lPts d L (Lb d) ∗ labPts d L gl ∗ semVal (thr d L, .dma cc0_scoped0.sem) 0 ∗ Ow d L O W
        ∗ corPts d L f ∗ bigSep Finset.univ (xSh d L (X d) 1) ∗ oPts d L (o d) ∗ semVal (thr d L, .dma cc0_scoped1.sem) 0)
      ⊢ tw d L (cc0__sc_margin_body L xV (Memref.isWhole_whole _) lV (Memref.isWhole_whole _) oV (Memref.isWhole_whole _)
            labV (Memref.isWhole_whole _) gatV (Memref.isWhole_whole _) corV (Memref.isWhole_whole _) cc0_scratch3 cc0_scoped0 cc0_scoped1)
          fun _ => iprop(corPts d L (cor32 (X d) (Lb d) L) ∗ oPts d L (fun i : S1024.Idx => corAt (X d) (Lb d) (i 0)) ∗ semVal (thr d L, .dma cc0_scoped1.sem) 0 ∗ Ow d L O W
        ∗ ((gatV).view.loc (thr d L) ↦{fullShare} fetched d L (X d) (Lb d) 1) ∗ semVal (thr d L, cell) 0
        ∗ labPts d L (labs32 (Lb d) L) ∗ lPts d L (Lb d) ∗ semVal (thr d L, .dma cc0_scoped0.sem) 0) :=
    fun gl gg f => body_ok d L (X d) (Lb d) O W hL hO .rfl
  iintro ⟨#Hlv, -, ⟨Hl, ⟨Hx0, Hx1⟩, Ho⟩, ⟨⟨%gl, Hlab⟩, ⟨%gg, Hgat⟩, ⟨%gc, Hcor⟩, Hbufs⟩, ⟨Hg, Ha, Hb, Hsems⟩, HO⟩
  iapply (wp_wand_r frame (wpE defs₀ 𝒱₀ (thr d L) none) Set.univ)
  isplitl [Hl Hx0 Hx1 Ho Hlab Hgat Hcor Hg Ha Hb HO]
  · iapply (hbody gl gg gc)
    isplitl [Hgat Hg Hx0]
    · isplitl [Hgat]; · iexact Hgat
      isplitl [Hg]; · iexact Hg
      iexact Hx0
    isplitl [Hl]; · iexact Hl
    isplitl [Hlab]; · iexact Hlab
    isplitl [Ha]; · iexact Ha
    isplitl [HO]
    · isplitr; · iexact Hlv
      iexists W
      isplitr; · ipureintro; exact fun p hp => .inl hp
      iexact HO
    isplitl [Hcor]; · iexact Hcor
    isplitl [Hx1]; · iexact Hx1
    isplitl [Ho]; · iexact Ho
    iexact Hb
  iintro %_ ⟨Hcor, Ho, Hb, ⟨-, HO⟩, Hgat, Hg, Hlab, Hl, Ha⟩
  isplitl [Hl Ho]
  · isplitl [Hl]; · iexact Hl
    iexact Ho
  isplitl [Hcor Hgat Hlab Hbufs]
  · isplitl [Hlab]; · iexists _; iexact Hlab
    isplitl [Hgat]; · iexists _; iexact Hgat
    isplitl [Hcor]; · iexists _; iexact Hcor
    iexact Hbufs
  isplitl [Ha Hb Hg Hsems]
  · isplitl [Hg]; · iexact Hg
    isplitl [Ha]; · iexact Ha
    isplitl [Hb]; · iexact Hb
    iexact Hsems
  iexact HO

theorem defs₀_vector (c : Fin τ.nSC) (s : Fin τ.nSub) :
    defs₀ (F := F) (.scVector c s) 0 ()
      = SparseCore.onTile hcore0 hsub0 (fun c s => cc0__sc_margin_body (coordsV c s)
          xV (Memref.isWhole_whole _) lV (Memref.isWhole_whole _) oV (Memref.isWhole_whole _)
          labV (Memref.isWhole_whole _) gatV (Memref.isWhole_whole _) corV (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hL : ∀ d, LabelsOK (Lb d)) : (K (F := F)).TileObl (D (F := F)) 𝒱 (P X Lb o) v₀ 0 := by
  intro d c i O W hO _ _
  simp only [show (P X Lb o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X Lb o d (coordsV ⟨_, hci.1⟩ ⟨_, hci.2⟩) O W (hL d) hO).trans (wp_mono frame _ _ fun _ => obl_post)

end Obl

end Cert.Proof.Ki

end
-- ==== Proof.Ki.Pieces.lean ====
/-
  The call's operands in pieces: the labels and the result cut into the tiles' parts, the padded cosines into a share for
  each of the rows.
-/
module

public import proofs.«01_k».proof.Proof.Ki.Tile

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The tiles and the rows -/

/-- The tiles of the call, numbered. -/
def tileE : Fin 2 × Fin 16 ≃ Fin 32 := (Equiv.prodComm (Fin 2) (Fin 16)).trans (finProdFinEquiv (m := 16) (n := 2))

theorem tileE_eq (c : Fin 2) (i : Fin 16) : tileE (c, i) = wid (coordsV c i) := by
  apply Fin.ext
  show c.val + 2 * i.val = i.val * 2 + c.val
  omega

/-- The rows of the arrays: tile, half, lane. -/
def rowE : Fin 32 × (Fin 2 × Fin 16) ≃ Fin 1024 := (Equiv.prodCongr (Equiv.refl (Fin 32)) (finProdFinEquiv (m := 2) (n := 16))).trans (finProdFinEquiv (m := 32) (n := 32))

theorem rowE_eq (L : grid0.Coords) (w : Fin 2) (l : Fin 16) : rowE (wid L, (w, l)) = row L w l := by
  apply Fin.ext
  show (l.val + 16 * w.val) + 32 * (wid L).val = 32 * (wid L).val + 16 * w.val + l.val
  omega

theorem bigSep_tiles (Φ : Fin 32 → sProp 𝕄) :
    bigSep Finset.univ Φ = bigSep Finset.univ fun c : Fin 2 => bigSep Finset.univ fun i : Fin 16 => Φ (wid (coordsV c i)) := by
  refine (BI.bigSep_univ_equiv tileE Φ).trans ((BI.bigSep_univ_prod _).trans ?_)
  exact bigSep_congr fun c _ => bigSep_congr fun i _ => congrArg Φ (tileE_eq c i)

theorem bigSep_rows (Φ : Fin 1024 → sProp 𝕄) :
    bigSep Finset.univ Φ = bigSep Finset.univ fun c : Fin 2 => bigSep Finset.univ fun i : Fin 16 =>
      iprop((bigSep Finset.univ fun l : Fin 16 => Φ (row (coordsV c i) 0 l)) ∗ bigSep Finset.univ fun l : Fin 16 => Φ (row (coordsV c i) 1 l)) := by
  refine (BI.bigSep_univ_equiv rowE Φ).trans ((BI.bigSep_univ_prod _).trans ((bigSep_tiles _).trans ?_))
  refine bigSep_congr fun c _ => bigSep_congr fun i _ => ?_
  rw [BI.bigSep_univ_prod, show (Finset.univ : Finset (Fin 2)) = {0, 1} by decide, SparseCore.bigSep_insert' (by decide), bigSep_singleton]
  congr 1
  · exact bigSep_congr fun l _ => by rw [rowE_eq]
  · exact bigSep_congr fun l _ => by rw [rowE_eq]

/-! ## The arrays in pieces -/

theorem part_set (j : Fin 32) : lSet j = (rpart j).set := by
  show ((lV).view.slice (rpart j)).set = _
  rw [View.set_slice]; exact Finset.map_refl
theorem opart_set (j : Fin 32) : oSet j = (rpart j).set := by
  show ((oV).view.slice (rpart j)).set = _
  rw [View.set_slice]; exact Finset.map_refl

theorem lpart_disjoint : ∀ i ∈ (Finset.univ : Finset (Fin 32)), ∀ j ∈ (Finset.univ : Finset (Fin 32)), i ≠ j → Disjoint (lSet i) (lSet j) :=
  fun i _ j _ h => by rw [part_set, part_set]; exact Rect.part_disjoint rdiv h
theorem opart_disjoint : ∀ i ∈ (Finset.univ : Finset (Fin 32)), ∀ j ∈ (Finset.univ : Finset (Fin 32)), i ≠ j → Disjoint (oSet i) (oSet j) :=
  fun i _ j _ h => by rw [opart_set, opart_set]; exact Rect.part_disjoint rdiv h
theorem lpart_cover : (Finset.univ : Finset (Fin 32)).biUnion lSet = Finset.univ :=
  (Finset.biUnion_congr rfl fun i _ => part_set i).trans (Rect.biUnion_part rdiv)
theorem opart_cover : (Finset.univ : Finset (Fin 32)).biUnion oSet = Finset.univ :=
  (Finset.biUnion_congr rfl fun i _ => opart_set i).trans (Rect.biUnion_part rdiv)

theorem labels_pieces (d : Dev nD) (f : Buf (Elt F) (lLoc d)) :
    (lLoc d ↦{fullShare} f : sProp 𝕄) = bigSep Finset.univ fun c : Fin 2 => bigSep Finset.univ fun i : Fin 16 => lPts d (coordsV c i) f := by
  have h : (lLoc d ↦{fullShare} f : sProp 𝕄) = bigSep Finset.univ fun i : Fin 32 => lLoc d ↦[lSet i]{fullShare} f := by
    rw [← pointsTo_biUnion Finset.univ (ℓ := lLoc d) lSet lpart_disjoint, lpart_cover]; try rfl
  rw [h, bigSep_tiles]

theorem result_pieces (d : Dev nD) (f : Buf (Elt F) (oLoc d)) :
    (oLoc d ↦{fullShare} f : sProp 𝕄) = bigSep Finset.univ fun c : Fin 2 => bigSep Finset.univ fun i : Fin 16 => oPts d (coordsV c i) f := by
  have h : (oLoc d ↦{fullShare} f : sProp 𝕄) = bigSep Finset.univ fun i : Fin 32 => oLoc d ↦[oSet i]{fullShare} f := by
    rw [← pointsTo_biUnion Finset.univ (ℓ := oLoc d) oSet opart_disjoint, opart_cover]; try rfl
  rw [h, bigSep_tiles]

theorem cosines_pieces (d : Dev nD) (f : Buf (Elt F) (xLoc d)) :
    (xLoc d ↦{fullShare} f : sProp 𝕄) = bigSep Finset.univ fun c : Fin 2 => bigSep Finset.univ fun i : Fin 16 =>
      iprop(bigSep Finset.univ (xSh d (coordsV c i) f 0) ∗ bigSep Finset.univ (xSh d (coordsV c i) f 1)) := by
  have h : (xLoc d ↦{fullShare} f : sProp 𝕄) = bigSep Finset.univ fun i : Fin 1024 => xLoc d ↦{ShareLeaves.leaf 10 fullShare i} f :=
    ShareLeaves.pointsTo_leaves Finset.univ f 10 fullShare
  rw [h, bigSep_rows]

variable (X : Dev nD → S1024x100096.Idx → F .f32) (Lb : Dev nD → S1024.Idx → BitVec 32) (o : Dev nD → S1024.Idx → F .f32)

/-- What the call takes: the labels, the padded cosines and the result's array, whole. -/
theorem st0_eq (d : Dev nD) : (bigSep Finset.univ fun c : Fin ((K (F := F)).nCore 0) => (P X Lb o).st 0 d c)
    = iprop((lLoc d ↦{fullShare} (Lb d : Buf (Elt F) (lLoc d))) ∗ (xLoc d ↦{fullShare} (X d : Buf (Elt F) (xLoc d)))
        ∗ (oLoc d ↦{fullShare} (o d : Buf (Elt F) (oLoc d)))) := by
  rw [labels_pieces, result_pieces, cosines_pieces, ← bigSep_sep', ← bigSep_sep']
  refine bigSep_congr fun c _ => ?_
  rw [← bigSep_sep', ← bigSep_sep']
  rfl
/-- What it hands back: the labels, and the result's array at the margin's values. -/
theorem dn0_eq (d : Dev nD) : (bigSep Finset.univ fun c : Fin ((K (F := F)).nCore 0) => (P X Lb o).dn 0 d c)
    = iprop((lLoc d ↦{fullShare} (Lb d : Buf (Elt F) (lLoc d)))
        ∗ (oLoc d ↦{fullShare} ((fun i : S1024.Idx => corAt (X d) (Lb d) (i 0)) : Buf (Elt F) (oLoc d)))) := by
  rw [labels_pieces, result_pieces, ← bigSep_sep']
  refine bigSep_congr fun c _ => ?_
  rw [← bigSep_sep']
  rfl

end Cert.Proof.Ki

end
-- ==== Proof.Ki.Region.lean ====
/-
  The TensorCore call: its body at a grid point, and the call as a region of `main` entered with the labels, the margin's
  values and the cosines in its operands.
-/
module

public import proofs.«01_k».proof.Proof.Ki.Base
public import proofs.«01_k».proof.Proof.Gen.KernelIdeal.Launch
public import proofs.«01_k».proof.Proof.Gen.KernelIdeal.Points
public import Idealize.ShloMosaic.Lib.Pipeline.ValueKit
public import Idealize.ShloMosaic.Lib.Pipeline.Covers
public import Idealize.ShloMosaic.Lib.VecWindow

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Cfg Window BodyObligation cellOf)

variable {F : FTy → Type} [FloatOps F] [Named F]

local notation "𝕄" => MT nD τ sig (HIx 1) (Elt F) ℕ UU ℕ

/-! ## The dense body -/

/-- A staging buffer, held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- From the four staging buffers the body runs to its return, the first three as they were and the fourth holding the
    body's value of what the three hold. -/
noncomputable def denseRun (c : Dev nD) (i : grid1.Coords) (M0 : Memref sig .tc .vmem S16x1 .i32) (h0 : M0.IsWhole) (M1 : Memref sig .tc .vmem S16x1 .f32) (h1 : M1.IsWhole)
    (M2 : Memref sig .tc .vmem S16x100000 .f32) (h2 : M2.IsWhole) (M3 : Memref sig .tc .vmem S16x100000 .f32) (h3 : M3.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) :
    { W : Buf (Elt F) (M3.view.loc (c : Thread nD τ)) // ∀ (E : Set ℕ) (Q : PUnit → sProp 𝕄),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) Variants.none c none) E (cc1__dense_body i M0 h0 M1 h1 M2 h2 M3 h3) Q } := by
  refine ⟨?_, fun E Q => ?run⟩
  case run =>
    simp only [cc1__dense_body_eq_skeleton]; unfold cc1__dense_body_skel
    iintro ⟨H0, H1, H2, H3, Hk⟩
    sl_exec!
    sl_step
    iapply Hk
    isplitl [H0]; · iexact H0
    isplitl [H1]; · iexact H1
    isplitl [H2]; · iexact H2
    iexact H3

theorem denseRun_read (c : Dev nD) (i : grid1.Coords) (M0 : Memref sig .tc .vmem S16x1 .i32) (h0 : M0.IsWhole) (M1 : Memref sig .tc .vmem S16x1 .f32) (h1 : M1.IsWhole)
    (M2 : Memref sig .tc .vmem S16x100000 .f32) (h2 : M2.IsWhole) (M3 : Memref sig .tc .vmem S16x100000 .f32) (h3 : M3.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) :
    M3.view.read (Elt F) (denseRun c i M0 h0 M1 h1 M2 h2 M3 h3 f0 f1 f2 f3).1
      = k1_pay1 i (M2.view.read (Elt F) f2) (M0.view.read (Elt F) f0) (M1.view.read (Elt F) f1) := by
  unfold denseRun
  dsimp only
  sl_unfold_words
  rw [View.read_writes_full, View.readAt_full, View.readAt_full, View.readAt_full]

/-! ## The proof data, at the contents the call is entered with -/

variable (A0 : Dev nD → S1024x1.Idx → BitVec 32) (A1 : Dev nD → S1024x1.Idx → F .f32) (A2 A3 : Dev nD → S1024x100000.Idx → F .f32)

/-- The recorded waits the TensorCore may come with: those at or below a level. -/
abbrev recd (d : Dev nD) (b : ℕ) : Set (SemLoc sig × HIx 1) := {p | (K (F := F)).lev (SparseCore.T d, p.1) p.2 ≤ b}

/-- The four arrays' contents at the call's entry. -/
def arrC (d : Dev nD) : (w : Fin 4) → Buf (Elt F) ((d : Thread nD τ).loc (Pipeline.arrRef spec1 w))
  | 0 => A0 d
  | 1 => A1 d
  | 2 => A2 d
  | 3 => A3 d

/-- The blocks the body reads at a grid point: of the labels, of the margin's values, of the cosines. -/
abbrev blk0 (d : Dev nD) (t : Fin cfg1.N) : S16x1.Idx → BitVec 32 := ((cfg1.win 0).blk t).view.read (Elt F) (arrC A0 A1 A2 A3 d 0)
abbrev blk1 (d : Dev nD) (t : Fin cfg1.N) : S16x1.Idx → F .f32 := ((cfg1.win 1).blk t).view.read (Elt F) (arrC A0 A1 A2 A3 d 1)
abbrev blk2 (d : Dev nD) (t : Fin cfg1.N) : S16x100000.Idx → F .f32 := ((cfg1.win 2).blk t).view.read (Elt F) (arrC A0 A1 A2 A3 d 2)

/-- What the body leaves in its result's staging buffer at a grid point. -/
def left (d : Dev nD) (t : Fin cfg1.N) : S16x100000.Idx → F .f32 :=
  k1_pay1 (grid1.coords t) (blk2 A0 A1 A2 A3 d t) (blk0 A0 A1 A2 A3 d t) (blk1 A0 A1 A2 A3 d t)

def dat (b : ℕ) (d : Dev nD) : Dat τ (Elt F) (HIx 1) ℕ UU ℕ cfg1 d where
  A w := arrC A0 A1 A2 A3 d w
  after w t := match w with
    | 0 => blk0 A0 A1 A2 A3 d t
    | 1 => blk1 A0 A1 A2 A3 d t
    | 2 => blk2 A0 A1 A2 A3 d t
    | 3 => left A0 A1 A2 A3 d t
  Φ _ := BI.emp
  q _ := fullShare
  owed _ := 0
  recorded _ := recd (F := F) d b

theorem before_0 (b : ℕ) (d : Dev nD) (t : Fin cfg1.N) (e) : (dat A0 A1 A2 A3 b d).before 0 t e = blk0 A0 A1 A2 A3 d t := by
  unfold Dat.before; rw [if_pos (fetch1_0 t)]; rfl
theorem before_1 (b : ℕ) (d : Dev nD) (t : Fin cfg1.N) (e) : (dat A0 A1 A2 A3 b d).before 1 t e = blk1 A0 A1 A2 A3 d t := by
  unfold Dat.before; rw [if_pos (fetch1_1 t)]; rfl
theorem before_2 (b : ℕ) (d : Dev nD) (t : Fin cfg1.N) (e) : (dat A0 A1 A2 A3 b d).before 2 t e = blk2 A0 A1 A2 A3 d t := by
  unfold Dat.before; rw [if_pos (fetch1_2 t)]; rfl

theorem body_obligation (b : ℕ) (d : Dev nD) : BodyObligation (dat A0 A1 A2 A3 b d) (defs₀ (F := F)) 𝒱₀ none Set.univ := fun t => by
  rw [bigSep_W1, bigSep_W1]
  rw [show (dat A0 A1 A2 A3 b d).Φ t.castSucc = BI.emp from rfl, show (dat A0 A1 A2 A3 b d).Φ t.succ = BI.emp from rfl,
    show (dat A0 A1 A2 A3 b d).owesAt none t.succ = (dat A0 A1 A2 A3 b d).owesAt none t.castSucc from rfl]
  rw [(show (cfg1.win 0).stage (cfg1.slots t 0) = st1_0 t from rfl)]
  unfold owns
  rw [(stage_whole1 0 (cfg1.slots t 0)).set_eq_univ, (stage_whole1 1 (cfg1.slots t 1)).set_eq_univ, (stage_whole1 2 (cfg1.slots t 2)).set_eq_univ, (stage_whole1 3 (cfg1.slots t 3)).set_eq_univ]
  iintro ⟨-, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  have hr := denseRun_read (F := F) d (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) f0 f1 f2 f3
  iapply ((denseRun (F := F) d (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) f0 f1 f2 f3).2 Set.univ _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists _; isplitr; swap; (· iexact H3)
  ipureintro
  rw [hr, hf0, hf1, hf2]; rfl

/-! ## The result's array after the call -/

/-- The dense body's value at one index of the whole array. -/
def denseOut (a0 : S1024x1.Idx → BitVec 32) (a1 : S1024x1.Idx → F .f32) (a2 : S1024x100000.Idx → F .f32) : S1024x100000.Idx → F .f32 := fun j =>
  if BitVec.ofNat 32 (j 1).val = a0 (ix2 (j 0) 0) then a1 (ix2 (j 0) 0) else FloatOps.mulf (a2 j) (Scalar.ofBits .f32 0x42800000#32)

/-- The body's value at one index of the block. -/
theorem pay_at (i : grid1.Coords) (v0 : S16x100000.Idx → F .f32) (v1 : S16x1.Idx → BitVec 32) (v3 : S16x1.Idx → F .f32) (y : S16x100000.Idx) :
    k1_pay1 i v0 v1 v3 y
      = if BitVec.ofNat 32 (y 1).val = v1 (ix2 (y 0) 0) then v3 (ix2 (y 0) 0) else FloatOps.mulf (v0 y) (Scalar.ofBits .f32 0x42800000#32) := by
  have hi : (i 1).val = 0 := Nat.lt_one_iff.mp (i 1).isLt
  have hb : ∀ {α : Type} (v : S16x1.Idx → α), broadcastTo S16x100000 (shapeCast S16x1 v shapeCasts_S16x1_S16x1) broadcasts_S16x1_S16x100000 y = v (ix2 (y 0) 0) := by
    intro α v
    rw [shapeCast_self]
    refine congrArg v (funext fun a => ?_)
    fin_cases a <;> rfl
  unfold k1_pay1
  dsimp only [select, cmpi, addi, mulf, broadcast, iota]
  rw [hb, hb, hi]
  simp [Scalar.select, IntOp.cmpi, Scalar.muli]
  rw [shapeCast_self, show IntOp.addi (IntOp.muli (0#32 : BitVec 32) 100000#32) (BitVec.ofNat 32 (y 1).val) = BitVec.ofNat 32 (y 1).val from by
    simp [IntOp.addi, IntOp.muli]]
  by_cases h : BitVec.ofNat 32 (y 1).val = v1 (ix2 (y 0) 0)
  · rw [if_pos h, h, beq_self_eq_true]; rfl
  · rw [if_neg h, beq_eq_false_iff_ne.mpr h]; rfl

theorem index_0 : ∀ t : Fin cfg1.N, win1_0.index t = ![(grid1.coords t 0).val, 0] := (by decide +kernel : ∀ t : Fin grid1.N, _)
theorem index_1 : ∀ t : Fin cfg1.N, win1_1.index t = ![(grid1.coords t 0).val, 0] := (by decide +kernel : ∀ t : Fin grid1.N, _)
theorem index_2 : ∀ t : Fin cfg1.N, win1_2.index t = ![(grid1.coords t 0).val, 0] := (by decide +kernel : ∀ t : Fin grid1.N, _)
theorem index_3 : ∀ t : Fin cfg1.N, win1_3.index t = ![(grid1.coords t 0).val, 0] := (by decide +kernel : ∀ t : Fin grid1.N, _)

set_option maxRecDepth 16384 in
theorem final_out (b : ℕ) (d : Dev nD) : (dat A0 A1 A2 A3 b d).arrAt 3 cfg1.N = denseOut (A0 d) (A1 d) (A2 d) := by
  refine (dat A0 A1 A2 A3 b d).arrAt_eq_of_covers 3 _ (by decide +kernel) fun t hf y => ?_
  blk_simp
  change left A0 A1 A2 A3 d t y = _
  unfold left denseOut
  rw [pay_at]
  have hy : (y 1).val = ((win1_3.blk t).view.emb y 1).val := by blk_simp [index_3]
  have e0 : (win1_0.blk t).view.emb (ix2 (y 0) 0) = ix2 ((win1_3.blk t).view.emb y 0) 0 := by blk_ext [index_0, index_3, ix2]
  have e1 : (win1_1.blk t).view.emb (ix2 (y 0) 0) = ix2 ((win1_3.blk t).view.emb y 0) 0 := by blk_ext [index_1, index_3, ix2]
  have e2 : (win1_2.blk t).view.emb y = (win1_3.blk t).view.emb y := by blk_ext [index_2, index_3]
  have h0 : blk0 A0 A1 A2 A3 d t (ix2 (y 0) 0) = A0 d (ix2 ((win1_3.blk t).view.emb y 0) 0) := congrArg (A0 d) e0
  have h1 : blk1 A0 A1 A2 A3 d t (ix2 (y 0) 0) = A1 d (ix2 ((win1_3.blk t).view.emb y 0) 0) := congrArg (A1 d) e1
  have h2 : blk2 A0 A1 A2 A3 d t y = A2 d ((win1_3.blk t).view.emb y) := congrArg (A2 d) e2
  rw [h0, h1, h2, hy]

/-! ## The region of `main` -/

/-- No table is prefetched: nothing constrains the run. -/
abbrev adm : (p : Fin 1) → (pcfgs (F := F) p).Adm := fun p => (cfgs p).toPCfg_adm

/-- The proof data of the one call. -/
def pdats (b : ℕ) : (p : Fin 1) → (c : Dev nD) → Dat τ (Elt F) (HIx 1) ℕ UU ℕ (Pipeline.pin (pcfgs (F := F)) adm p) c
  | 0 => fun d => dat A0 A1 A2 A3 b d

/-- The TensorCore's debts: none, its recorded waits at or below a level. -/
def clear (b : ℕ) (d : Dev nD) : sProp 𝕄 := iprop(∃ W, ⌜(K (F := F)).WBelow (T d) W b⌝ ∗ owes (T d) (0 : CellTallies nD τ sig (HIx 1)) W)

/-- The four arrays, the result's at a given contents. -/
def arrs (d : Dev nD) (R : S1024x100000.Idx → F .f32) : sProp 𝕄 :=
  iprop(((SparseCore.T d).loc main_v2 ↦{fullShare} (A0 d : Buf (Elt F) ((SparseCore.T d).loc main_v2)))
    ∗ ((SparseCore.T d).loc main_v3 ↦{fullShare} (A1 d : Buf (Elt F) ((SparseCore.T d).loc main_v3)))
    ∗ ((SparseCore.T d).loc main_arg0 ↦{fullShare} (A2 d : Buf (Elt F) ((SparseCore.T d).loc main_arg0)))
    ∗ ((SparseCore.T d).loc main_v4 ↦{fullShare} (R : Buf (Elt F) ((SparseCore.T d).loc main_v4))))

theorem arrs_of (b : ℕ) (d : Dev nD) (Fa : (w : Fin 4) → Buf (Elt F) ((d : Thread nD τ).loc (Pipeline.arrRef spec1 w)))
    (R : S1024x100000.Idx → F .f32) (h0 : Fa 0 = A0 d) (h1 : Fa 1 = A1 d) (h2 : Fa 2 = A2 d) (h3 : Fa 3 = R) :
    (dat A0 A1 A2 A3 b d).arrays Fa = arrs A0 A1 A2 d R := by
  have h := Pipeline.arrays_eq (fun _ : Fin 1 => cfg1) (fun (_ : Fin 1) c => dat A0 A1 A2 A3 b c) 0 d (fun w => arr_whole1 w) ((dat A0 A1 A2 A3 b d).share_full fun _ => rfl) Fa
  rw [show (dat A0 A1 A2 A3 b d).arrays Fa = _ from h, bigSep_W1, h0, h1, h2, h3]
  rfl

set_option backward.isDefEq.respectTransparency.types false in
/-- The dense call, entered with its four arrays and no debt, and left with the result's array at the dense body's value. -/
def reg (b : ℕ) : Pipeline.RegionSeg (pcfgs (F := F)) adm (pdats A0 A1 A2 A3 b) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation A0 A1 A2 A3 b c).loose
  hwaits := Pipeline.hwaits_of_owed_zero _ _ _ _ _ _ 0 fun _ _ => rfl
  pre d := iprop(arrs A0 A1 A2 d (A3 d) ∗ clear (F := F) b d)
  post d := iprop(arrs A0 A1 A2 d (denseOut (A0 d) (A1 d) (A2 d)) ∗ clear (F := F) b d)
  X _ := BI.emp
  Y _ := BI.emp
  Z _ := BI.emp
  hentry d := by
    rw [Pipeline.ownSems0_none]
    have ha : (arrs A0 A1 A2 d (A3 d) : sProp 𝕄) ⊢ (pdats A0 A1 A2 A3 b 0 d).arrays ((pdats A0 A1 A2 A3 b 0 d).arrAt · 0) := by
      rw [← arrs_of A0 A1 A2 A3 b d (arrC A0 A1 A2 A3 d) (A3 d) rfl rfl rfl rfl]; exact BIBase.Entails.rfl
    iintro ⟨⟨Ha, HO⟩, -, -⟩
    imodintro
    isplitl [Ha]
    · iapply ha; iexact Ha
    isplitr; · unfold Pipeline.prefHeld; rw [show (Finset.univ : Finset (Fin 0)) = ∅ from rfl, BI.bigSep_empty]; iempintro
    isplitl [HO]
    · unfold Pipeline.Dat.owesAt Pipeline.owesWithin clear
      icases HO with ⟨%W, %hW, HO⟩; iexists W; isplitr; · ipureintro; exact fun p hp => Or.inl (hW p hp)
      iexact HO
    isplitr; · iempintro
    iempintro
  hin d := by
    rw [show (pdats A0 A1 A2 A3 b 0 d).Φ 0 = BI.emp from rfl]
    rw [scopedRest1_eq]
    iintro ⟨-, -, Hr⟩; iexact Hr
  hout d := by
    rw [Pipeline.ownSems0_none, show (pdats A0 A1 A2 A3 b 0 d).Φ (Fin.last _) = BI.emp from rfl, scopedRest1_eq]
    iintro Hr
    isplitr; · iempintro
    isplitr; · iempintro
    iexact Hr
  hexit d := by
    have he := arrs_of A0 A1 A2 A3 b d (fun w => (dat A0 A1 A2 A3 b d).arrAt w cfg1.N) (denseOut (A0 d) (A1 d) (A2 d))
      ((dat A0 A1 A2 A3 b d).arrAt_in 0 rfl _) ((dat A0 A1 A2 A3 b d).arrAt_in 1 rfl _) ((dat A0 A1 A2 A3 b d).arrAt_in 2 rfl _) (final_out A0 A1 A2 A3 b d)
    have ha : ((pdats A0 A1 A2 A3 b 0 d).arrays ((pdats A0 A1 A2 A3 b 0 d).arrAt · cfg1.N) : sProp 𝕄) ⊢ arrs A0 A1 A2 d (denseOut (A0 d) (A1 d) (A2 d)) := by
      rw [← he]; exact BIBase.Entails.rfl
    iintro ⟨Ha, HO, -, -⟩
    imodintro
    isplitl [Ha]
    · iapply ha; iexact Ha
    unfold Pipeline.Dat.owesAt Pipeline.owesWithin clear
    icases HO with ⟨%W, %hW, HO⟩; iexists W; isplitr; swap; (· iexact HO)
    ipureintro
    intro p hp
    rcases hW hp with h | ⟨w, s, h⟩
    · exact h
    · rw [h]; exact Nat.zero_le _

end Cert.Proof.Ki

end
-- ==== Proof.Ki.Run.lean ====
/-
  `main`: the host's padding, the SparseCore call, the two reshapes and the dense call, run from the launch to the
  program's result.
-/
module

public import proofs.«01_k».proof.Proof.Ki.Pieces
public import proofs.«01_k».proof.Proof.Ki.Region
public import Idealize.ShloMosaic.Lib.SparseCore.Quiescent
public import Idealize.ShloMosaic.Lib.StableHlo.Run

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The values -/

/-- The launch's cosines and labels. -/
abbrev cosA (d : Dev nD) : S1024x100000.Idx → F .f32 := m ((SparseCore.T d).loc main_arg0)
abbrev labA (d : Dev nD) : S1024.Idx → BitVec 32 := m ((SparseCore.T d).loc main_arg1)

/-- The cosines with ninety-six more columns. -/
def padX (d : Dev nD) : S1024x100096.Idx → F .f32 :=
  pad S1024x100096 ![0, 0] ![0, 96] ![0, 0] (cosA m d) (sitofp .f32 (constantI S_ 32 0#32)) pads_S1024x100000_S1024x100096_000_0960 h_S_

/-- The result's contents when the call starts. -/
abbrev oA (d : Dev nD) : S1024.Idx → F .f32 := m (oLoc d)

/-- The margin's values, one for each row. -/
abbrev corA (d : Dev nD) : S1024.Idx → F .f32 := fun i => corAt (padX m d) (labA m d) (i 0)

/-- The dense call's labels and margin's values. -/
abbrev labC (d : Dev nD) : S1024x1.Idx → BitVec 32 := shapeCast S1024x1 (labA m d) shapeCasts_S1024_S1024x1
abbrev corC (d : Dev nD) : S1024x1.Idx → F .f32 := shapeCast S1024x1 (corA m d) shapeCasts_S1024_S1024x1
/-- The result's array before the dense call. -/
abbrev v4A (d : Dev nD) : S1024x100000.Idx → F .f32 := m ((SparseCore.T d).loc main_v4)

/-- The program's result. -/
def outVal (d : Dev nD) : S1024x100000.Idx → F .f32 := fun j =>
  if BitVec.ofNat 32 (j 1).val = labA m d (ix1 (j 0)) then corAt (padX m d) (labA m d) (j 0)
  else FloatOps.mulf (cosA m d j) (Scalar.ofBits .f32 0x42800000#32)

theorem cast_col {α : Type} (v : S1024.Idx → α) (r : Fin 1024) : shapeCast S1024x1 v shapeCasts_S1024_S1024x1 (ix2 r 0) = v (ix1 r) := by
  refine shapeCast_apply v _ (ix2 r 0) (ix1 r) ?_
  rw [Shape.rowMajor_val_one, Shape.rowMajor_val_two]
  show r.val = r.val * 1 + 0
  omega

theorem denseOut_eq (d : Dev nD) : denseOut (labC m d) (corC m d) (cosA m d) = outVal m d := by
  funext j
  unfold denseOut outVal
  have h1 : labC m d (ix2 (j 0) 0) = labA m d (ix1 (j 0)) := cast_col (labA m d) (j 0)
  have h2 : corC m d (ix2 (j 0) 0) = corAt (padX m d) (labA m d) (j 0) := cast_col (corA m d) (j 0)
  by_cases hc : BitVec.ofNat 32 (j 1).val = labA m d (ix1 (j 0))
  · exact (if_pos (hc.trans h1.symm)).trans (h2.trans (if_pos hc).symm)
  · exact (if_neg fun e => hc (e.trans h1)).trans (if_neg hc).symm

/-! ## The launch's ghost state -/

abbrev Pm := P (padX m) (labA m) (oA m)

abbrev pinned : Fin 1 → Pipeline.Cfg sig Λ₀ := Pipeline.pin (pcfgs (F := F)) adm

def u₀ : UU := (initOf (K (F := F)).hsCells (K (F := F)).hsToks,
  (initOf (Pipeline.cells (nD := nD) (τ := τ) (pinned (F := F)) cellOf_inj) (Pipeline.launchToks (pinned (F := F)) cellOf_inj), 1))

/-- What the dense call's staging takes. -/
def G (d : Dev nD) : sProp 𝕄 := iprop(Pipeline.cellsGhost (pinned (F := F)) EP 0 d ∗ Pipeline.toksInit (pinned (F := F)) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (Pm m).x q thr) := by
  unfold u₀
  iintro Hu
  ihave H := (ownU_pair (initOf (K (F := F)).hsCells (K (F := F)).hsToks) (initOf (Pipeline.cells (nD := nD) (τ := τ) (pinned (F := F)) cellOf_inj) (Pipeline.launchToks (pinned (F := F)) cellOf_inj), (1 : Counters))) $$ Hu
  icases H with ⟨HH, HR⟩
  ihave HR' := (own_pair_emb (embR : Emb (UP × Counters) 𝕄) (initOf (Pipeline.cells (nD := nD) (τ := τ) (pinned (F := F)) cellOf_inj) (Pipeline.launchToks (pinned (F := F)) cellOf_inj)) (1 : Counters)) $$ HR
  icases HR' with ⟨HP, -⟩
  imod (Pipeline.fund_ghost (pinned (F := F)) EP cellOf_inj) $$ HP with ⟨Hc, Ht⟩
  imodintro
  isplitl [HH]; · iexact HH
  isplitl [Hc Ht]
  · unfold G
    rw [bigSep_sep']
    isplitl [Hc]
    · ihave Hc' := (Entails.of_eq (bigSep_congr fun (c : Dev nD) _ => (bigSep_univ_of_subsingleton (0 : Fin 1) (Φ := fun p => Pipeline.cellsGhost (pinned (F := F)) EP p c)))) $$ Hc
      iexact Hc'
    · ihave Ht' := (Entails.of_eq (bigSep_congr fun (c : Dev nD) _ => (bigSep_univ_of_subsingleton (0 : Fin 1) (Φ := fun p => Pipeline.toksInit (pinned (F := F)) EP p c)))) $$ Ht
      iexact Ht'
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## The host's operations -/

abbrev cR : DevRef τ sig := Proc.devRef .tc (main_c : Ref sig .tc)
abbrev uR : DevRef τ sig := Proc.devRef .tc (main_call0_v0 : Ref sig .tc)
abbrev aR : DevRef τ sig := Proc.devRef .tc (main_arg0 : Ref sig .tc)
abbrev bR : DevRef τ sig := Proc.devRef .tc (main_arg1 : Ref sig .tc)
abbrev xR : DevRef τ sig := Proc.devRef .tc (main_v0 : Ref sig .tc)
abbrev oR : DevRef τ sig := Proc.devRef .tc (main_v1 : Ref sig .tc)
abbrev r2 : DevRef τ sig := Proc.devRef .tc (main_v2 : Ref sig .tc)
abbrev r3 : DevRef τ sig := Proc.devRef .tc (main_v3 : Ref sig .tc)

abbrev opC : HloOp τ sig (Elt F) := StableHlo.nullary main_c (constantI S_ 32 0#32)
abbrev opU : HloOp τ sig (Elt F) := StableHlo.TRef.unary (StableHlo.TRef.of main_c : StableHlo.TRef sig ⟨S_, .i32⟩) (main_call0).v0 (sitofp .f32)
abbrev opP : HloOp τ sig (Elt F) := StableHlo.TRef.binary (StableHlo.TRef.of main_arg0 : StableHlo.TRef sig ⟨S1024x100000, .f32⟩) (main_call0).v0 (main_call0).v1
  (fun x v => pad S1024x100096 ![0, 0] ![0, 96] ![0, 0] x v pads_S1024x100000_S1024x100096_000_0960 h_S_)
abbrev opL : HloOp τ sig (Elt F) := StableHlo.reshape main_arg1 main_v2 (rfl : (.i32 : EltTy) = .i32) shapeCasts_S1024_S1024x1
abbrev opV : HloOp τ sig (Elt F) := StableHlo.reshape main_v1 main_v3 (rfl : (.f32 : EltTy) = .f32) shapeCasts_S1024_S1024x1

abbrev S1 : Finset (DevRef τ sig) := {cR, uR, aR, xR}
abbrev S2 : Finset (DevRef τ sig) := {bR, oR, r2, r3}

theorem held_S1 (d : Dev nD) (W : Valuation τ sig (Elt F)) :
    (held (T d) S1 W : sProp 𝕄) = iprop(((SparseCore.T d).loc main_c ↦{fullShare} W cR) ∗ ((SparseCore.T d).loc main_call0_v0 ↦{fullShare} W uR)
      ∗ ((SparseCore.T d).loc main_arg0 ↦{fullShare} W aR) ∗ (xLoc d ↦{fullShare} W xR)) := by
  unfold held S1
  rw [SparseCore.bigSep_insert' (by decide), SparseCore.bigSep_insert' (by decide), SparseCore.bigSep_insert' (by decide), bigSep_singleton]
theorem held_S2 (d : Dev nD) (W : Valuation τ sig (Elt F)) :
    (held (T d) S2 W : sProp 𝕄) = iprop((lLoc d ↦{fullShare} W bR) ∗ (oLoc d ↦{fullShare} W oR)
      ∗ ((SparseCore.T d).loc main_v2 ↦{fullShare} W r2) ∗ ((SparseCore.T d).loc main_v3 ↦{fullShare} W r3)) := by
  unfold held S2
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_c ↦{fullShare} W main_c) ∗ ((SparseCore.T d).loc main_call0_v0 ↦{fullShare} W main_call0_v0)
      ∗ ((SparseCore.T d).loc main_arg0 ↦{fullShare} W main_arg0) ∗ (xLoc d ↦{fullShare} W main_v0)
      ∗ (lLoc d ↦{fullShare} W main_arg1) ∗ (oLoc d ↦{fullShare} W main_v1)
      ∗ ((SparseCore.T d).loc main_v2 ↦{fullShare} W main_v2) ∗ ((SparseCore.T d).loc main_v3 ↦{fullShare} W main_v3)
      ∗ ((SparseCore.T d).loc main_v4 ↦{fullShare} W main_v4)) := by
  unfold unscopedBufs
  rw [show (Finset.univ.filter fun b : Ref sig .tc => ¬ b.isScoped) = {main_c, main_call0_v0, main_arg0, main_v0, main_arg1, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The launch's contents; those after the SparseCore call. -/
def V0 (d : Dev nD) : Valuation τ sig (Elt F) := fun b => m (d, b)
def V1 (d : Dev nD) : Valuation τ sig (Elt F) := Function.update (V0 m d) oR (corA m d)
def W0 (d : Dev nD) : Valuation τ sig (Elt F) := StableHlo.after [opC (F := F), opU, opP] (V0 m d)
def W1 (d : Dev nD) : Valuation τ sig (Elt F) := StableHlo.after [opL (F := F), opV] (V1 m d)

theorem opU_eq : (opU (F := F)) = StableHlo.unary main_c main_call0_v0 (sitofp .f32) := rfl
theorem opP_eq : (opP (F := F)) = StableHlo.binary main_arg0 main_call0_v0 main_v0
    (fun x v => pad S1024x100096 ![0, 0] ![0, 96] ![0, 0] x v pads_S1024x100000_S1024x100096_000_0960 h_S_) := rfl
theorem W0_x (d : Dev nD) : W0 m d xR = padX m d := by
  unfold W0
  rw [opU_eq, opP_eq]
  after_results
  rfl
theorem W0_a (d : Dev nD) : W0 m d aR = cosA m d := by
  unfold W0
  rw [opU_eq, opP_eq]
  after_results
  rfl
theorem V1_b (d : Dev nD) : V1 m d bR = labA m d := Function.update_of_ne (show bR ≠ oR by decide) _ _
theorem V1_o (d : Dev nD) : V1 m d oR = corA m d := Function.update_self _ _ _
theorem W1_b (d : Dev nD) : W1 m d bR = labA m d := by
  unfold W1
  after_results
  exact V1_b m d
theorem W1_2 (d : Dev nD) : W1 m d r2 = labC m d := by
  unfold W1
  after_results
  rw [V1_b]; rfl
theorem W1_3 (d : Dev nD) : W1 m d r3 = corC m d := by
  unfold W1
  after_results
  rw [V1_o]; rfl
theorem W1_4 (d : Dev nD) : V1 m d r2 = m ((SparseCore.T d).loc main_v2) := Function.update_of_ne (show r2 ≠ oR by decide) _ _
theorem W1_5 (d : Dev nD) : V1 m d r3 = m ((SparseCore.T d).loc main_v3) := Function.update_of_ne (show r3 ≠ oR by decide) _ _

theorem opC_bufs : (opC (F := F)).bufs ⊆ S1 := show ({cR} : Finset (DevRef τ sig)) ⊆ S1 by decide
theorem opU_bufs : (opU (F := F)).bufs ⊆ S1 := show ({cR, uR} : Finset (DevRef τ sig)) ⊆ S1 by decide
theorem opP_bufs : (opP (F := F)).bufs ⊆ S1 := show ({aR, uR, xR} : Finset (DevRef τ sig)) ⊆ S1 by decide
theorem opL_bufs : (opL (F := F)).bufs ⊆ S2 := show ({bR, r2} : Finset (DevRef τ sig)) ⊆ S2 by decide
theorem opV_bufs : (opV (F := F)).bufs ⊆ S2 := show ({oR, r3} : Finset (DevRef τ sig)) ⊆ S2 by decide

/-! ## The TensorCore's run -/

/-- What the TensorCore ends with: the arguments as they were, and the result. -/
abbrev FIN (d : Dev nD) : sProp 𝕄 :=
  iprop(((SparseCore.T d).loc main_arg0 ↦{fullShare} (cosA m d : Buf (Elt F) ((SparseCore.T d).loc main_arg0)))
    ∗ ((SparseCore.T d).loc main_arg1 ↦{fullShare} (labA m d : Buf (Elt F) ((SparseCore.T d).loc main_arg1)))
    ∗ ((SparseCore.T d).loc main_v4 ↦{fullShare} (outVal m d : Buf (Elt F) ((SparseCore.T d).loc main_v4))))

theorem owed_done (d : Dev nD) : (K (F := F)).Otc d 1 = 0 := by
  unfold SparseCore.Cfg.Otc
  exact Finset.sum_eq_zero fun q _ => if_neg (by have := q.isLt; omega)

theorem owes_done (d : Dev nD) (W : Waits sig (HIx 1)) :
    (owes (T d) ((K (F := F)).Otc d 1) W : sProp 𝕄) = owes (T d) (0 : CellTallies nD τ sig (HIx 1)) W := by rw [owed_done d]

/-- The dense call, from its four arrays. -/
theorem dense_call [∀ e, Nonempty (Elt F e)] (κ : GSem nD τ sig → ℕ) (b : ℕ) (d : Dev nD) (Q : PUnit → sProp 𝕄) :
    iprop((K (F := F)).ctx EH (Pm m) κ ∗ boundary (T d) ∗ arrs (labC m) (corC m) (cosA m) d (v4A m d) ∗ clear (F := F) b d ∗ G (F := F) d
        ∗ (iprop(boundary (T d) ∗ arrs (labC m) (corC m) (cosA m) d (outVal m d) ∗ clear (F := F) b d) -∗ Q ⟨⟩))
      ⊢ wp frame (wpE ((K (F := F)).defs (D (F := F))) 𝒱 (SparseCore.T d) none) Set.univ
          (Prog.lift (.customCall (SparseCore.inner (Pipeline.entry 0)) ())) Q := by
  have step := ((K (F := F)).wp_liftProg (D (F := F)) 𝒱 (SparseCore.T d) Set.univ none
    (.op (.customCall (Pipeline.entry 0) ()) .ret) Q)
  refine BIBase.Entails.trans ?_ step
  have hreg := Pipeline.RegionSeg.wp (pcfgs (F := F)) adm (pdats (labC m) (corC m) (cosA m) (v4A m) b) none cellOf_inj EP defs₀ 𝒱₀
    (K (F := F)).L (K (F := F)).lev (reg (labC m) (corC m) (cosA m) (v4A m) b) d none (fun _ h => nomatch h) .ret Q
  refine BIBase.Entails.trans ?_ hreg
  have hpre : (reg (labC m) (corC m) (cosA m) (v4A m) b).pre d = iprop(arrs (labC m) (corC m) (cosA m) d (v4A m d) ∗ clear (F := F) b d) := rfl
  have hpost : (reg (labC m) (corC m) (cosA m) (v4A m) b).post d
      = iprop(arrs (labC m) (corC m) (cosA m) d (denseOut (labC m d) (corC m d) (cosA m d)) ∗ clear (F := F) b d) := rfl
  rw [hpre, hpost, denseOut_eq]
  iintro ⟨#Hctx, Hb, Ha, Hc, HG, Hk⟩
  ihave Hlev := (SparseCore.Cfg.ctx_levAts κ) $$ Hctx
  unfold G
  icases HG with ⟨HG1, HG2⟩
  isplitl [Hk]
  · iintro ⟨Hb, Hpost⟩
    rw [wp_ret]
    imodintro
    iapply Hk
    isplitl [Hb]; · iexact Hb
    iexact Hpost
  isplitl [Hb]; · iexact Hb
  isplitl [Ha Hc]
  · isplitl [Ha]; · iexact Ha
    iexact Hc
  isplitl [Hlev]; · iexact Hlev
  isplitl [HG1]; · iexact HG1
  iexact HG2

set_option maxRecDepth 16384 in
/-- `main` on a device's TensorCore. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, fn_pad.body, wp_bind, wp_pure]
  iintro ⟨#Hctx, Hst, ⟨Hb, ⟨Hc, Hu, Ha, Hx, Hl, Ho, H2, H3, H4⟩, Hts, -⟩, HG⟩
  -- the padding
  iapply (wp_hlo_within 𝒱 (SparseCore.T d) none Set.univ (op := opC) (S := S1) opC_bufs (V := V0 m d)) $$ [Hb Hc Hu Ha Hx]
  · isplitl [Hb]; · iexact Hb
    rw [held_S1]
    isplitl [Hc]; · iexact Hc
    isplitl [Hu]; · iexact Hu
    isplitl [Ha]; · iexact Ha
    iexact Hx
  iintro ⟨Hb, Hheld⟩
  rw [wp_ret]; imodintro
  iapply (wp_hlo_within 𝒱 (SparseCore.T d) none Set.univ (op := opU) (S := S1) opU_bufs (V := (opC (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opP) (S := S1) opP_bufs (V := (opU (F := F)).result ((opC (F := F)).result (V0 m d)))) $$ [Hb Hheld]
  · isplitl [Hb]; · iexact Hb
    iexact Hheld
  iintro ⟨Hb, Hheld⟩
  rw [wp_ret]; imodintro
  have e0 : (held (T d) S1 ((opP (F := F)).result ((opU (F := F)).result ((opC (F := F)).result (V0 m d)))) : sProp 𝕄) ⊢ _ :=
    Entails.of_eq (held_S1 d (W0 m d))
  ihave Hheld' := e0 $$ Hheld
  rw [W0_a, W0_x]
  icases Hheld' with ⟨-, -, Ha, Hx⟩
  -- the SparseCore call
  iapply ((K (F := F)).wp_run (D (F := F)) 𝒱 (EH := EH) (P := Pm m) κ d 0) $$ [Hst Hl Hx Ho Hb Hts Ha H2 H3 H4 HG]
  isplitr; · iexact Hctx
  isplitl [Hst]; · iexact Hst
  isplitl [Hl Hx Ho]
  · rw [st0_eq]
    isplitl [Hl]; · iexact Hl
    isplitl [Hx]; · iexact Hx
    iexact Ho
  iintro ⟨Hst, Hdn⟩
  ihave Hdn' := (Entails.of_eq (dn0_eq (padX m) (labA m) (oA m) d)) $$ Hdn
  icases Hdn' with ⟨Hl, Ho⟩
  -- the two reshapes
  iapply (wp_hlo_within 𝒱 (SparseCore.T d) none Set.univ (op := opL) (S := S2) opL_bufs (V := V1 m d)) $$ [Hb Hl Ho H2 H3]
  · isplitl [Hb]; · iexact Hb
    rw [held_S2, V1_b, V1_o, W1_4, W1_5]
    isplitl [Hl]; · iexact Hl
    isplitl [Ho]; · iexact Ho
    isplitl [H2]; · iexact H2
    iexact H3
  iintro ⟨Hb, Hheld⟩
  rw [wp_ret]; imodintro
  iapply (wp_hlo_within 𝒱 (SparseCore.T d) none Set.univ (op := opV) (S := S2) opV_bufs (V := (opL (F := F)).result (V1 m d))) $$ [Hb Hheld]
  · isplitl [Hb]; · iexact Hb
    iexact Hheld
  iintro ⟨Hb, Hheld⟩
  rw [wp_ret]; imodintro
  have e1 : (held (T d) S2 ((opV (F := F)).result ((opL (F := F)).result (V1 m d))) : sProp 𝕄) ⊢ _ :=
    Entails.of_eq (held_S2 d (W1 m d))
  ihave Hheld' := e1 $$ Hheld
  rw [W1_b, W1_2, W1_3]
  icases Hheld' with ⟨Hl, -, H2, H3⟩
  -- the dense call
  unfold SparseCore.Cfg.tcSt
  icases Hst with ⟨⟨%W, %hW, HO⟩, Hrest⟩
  iapply (dense_call (F := F) m κ _ d) $$ [Hb Ha H2 H3 H4 HG HO Hl Hrest Hts]
  isplitr; · iexact Hctx
  isplitl [Hb]; · iexact Hb
  isplitl [Ha H2 H3 H4]
  · unfold arrs
    isplitl [H2]; · iexact H2
    isplitl [H3]; · iexact H3
    isplitl [Ha]; · iexact Ha
    iexact H4
  isplitl [HO]
  · unfold clear
    iexists W
    isplitr; · ipureintro; exact hW
    ihave HO' := (show (owes (T d) ((K (F := F)).Otc d ((0 : Fin 1).val + 1)) W : sProp 𝕄) ⊢ _ from Entails.of_eq (owes_done (F := F) d W)) $$ HO
    iexact HO'
  isplitl [HG]; · iexact HG
  iintro ⟨Hb, Harr, Hc⟩
  unfold arrs
  icases Harr with ⟨-, -, Ha, H4⟩
  imodintro
  isplitl [Hc Hrest]
  · isplitl [Hc]
    · unfold clear
      icases Hc with ⟨%W', %hW', HO⟩
      iexists W'
      isplitr; · ipureintro; exact hW'
      ihave HO' := (Entails.of_eq (owes_done (F := F) d W').symm) $$ HO
      iexact HO'
    · iexact Hrest
  isplitr [Hb Hts]
  · isplitl [Ha]; · iexact Ha
    isplitl [Hl]; · iexact Hl
    iexact H4
  isplitl [Hb] <;> iassumption

/-! ## The run -/

def fq (d : Dev nD) (s' : Phys nD τ sig (Elt F)) : Prop :=
  s'.mem.mem ((SparseCore.T d).loc main_arg0) = cosA m d ∧ s'.mem.mem ((SparseCore.T d).loc main_arg1) = labA m d
    ∧ s'.mem.mem ((SparseCore.T d).loc main_v4) = outVal m d

set_option maxRecDepth 16384 in
theorem hfin (d : Dev nD) (s' : Phys nD τ sig (Elt F)) : iprop(FIN m d ∗ SI s') ⊢ (⌜fq m d s'⌝ : sProp 𝕄) := by
  iintro ⟨⟨Ha, Hl, H4⟩, HSI⟩
  ihave H := (persistent_entails_right (SI_pointsTo_agree (st := s') (ℓ := (SparseCore.T d).loc main_arg0) (I := Finset.univ) (q := fullShare) (f := cosA m d))) $$ [HSI Ha]
  · isplitl [HSI] <;> iassumption
  icases H with ⟨%h1, HSI, -⟩
  ihave H := (persistent_entails_right (SI_pointsTo_agree (st := s') (ℓ := (SparseCore.T d).loc main_arg1) (I := Finset.univ) (q := fullShare) (f := labA m d))) $$ [HSI Hl]
  · isplitl [HSI] <;> iassumption
  icases H with ⟨%h2, HSI, -⟩
  ihave H := (SI_pointsTo_agree (st := s') (ℓ := (SparseCore.T d).loc main_v4) (I := Finset.univ) (q := fullShare) (f := outVal m d)) $$ [HSI H4]
  · isplitl [HSI] <;> iassumption
  icases H with %h3
  ipureintro
  exact ⟨funext fun i => h1 i (Finset.mem_univ i), funext fun i => h2 i (Finset.mem_univ i), funext fun i => h3 i (Finset.mem_univ i)⟩

/-- What holds when the program has run. -/
def QC : PUnit × MemSt nD τ sig (Elt F) → Prop := fun r =>
  (∀ d : Dev nD, r.2.mem ((SparseCore.T d).loc main_arg0) = cosA m d ∧ r.2.mem ((SparseCore.T d).loc main_arg1) = labA m d
    ∧ r.2.mem ((SparseCore.T d).loc main_v4) = outVal m d) ∧ r.2.sem = fun _ => 0

theorem run_main [∀ e, Nonempty (Elt F e)] (hok : ∀ d, LabelsOK (labA m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (padX m) (labA m) (oA m) hok)
    (fun q _ => match q with | 0 => SparseCore.Cfg.VecSplit.of_plain (vecSplit (padX m) (labA m) (oA m)))
    m ρ main (G (F := F)) (FIN m) (u₀ (F := F)) (sep_elim_left.trans (hu₀ m)) (hmain m ρ) (fq m) (hfin m) (QC m) (fun _ h hz => ⟨h, hz⟩)

end Cert.Proof.Ki

end
-- ==== Proof.Claims.lean ====
/-
  The certificate's claims: the frames from each program's run, the named constant, and the kernel's result equal to the
  reference's at the extended reals.
-/
module

public import proofs.«01_k».proof.Defs
public import proofs.«01_k».proof.Proof.Preds
public import proofs.«01_k».proof.Proof.Trig
public import proofs.«01_k».proof.Proof.Ki.Run
public import proofs.«01_k».proof.Proof.Kp.Run
public import Idealize.ShloMosaic.Lib.KernelVsHost

@[expose] public section

noncomputable section

namespace Cert.Proof.Claims

open Idealize.ShloMosaic Idealize.ShloMosaic.TcCoe Idealize.SL.Sem

/-! ## Labels -/

section Words
open Cert.Proof.Preds

theorem neg_one {w : BitVec 32} (h : InRange w) (hn : w.toInt < 0) : w = 4294967295#32 := by
  refine BitVec.eq_of_toInt_eq ?_
  have : (4294967295#32 : BitVec 32).toInt = -1 := by decide
  have := h.1
  omega

theorem nonneg_toNat {w : BitVec 32} (h : InRange w) (hn : ¬ w.toInt < 0) : w.toNat < 100000 := by
  have h2 := h.2
  have := w.isLt
  rw [BitVec.toInt_eq_toNat_cond] at h2 hn
  split at h2 <;> omega

/-- A label in range is −1, or a column below 100000. -/
theorem label_cases {w : BitVec 32} (h : InRange w) :
    (w = 4294967295#32) ∨ (w ≠ 4294967295#32 ∧ ¬ w.toInt < 0 ∧ w.toNat < 100000) := by
  by_cases hn : w.toInt < 0
  · exact Or.inl (neg_one h hn)
  · refine Or.inr ⟨?_, hn, nonneg_toNat h hn⟩
    rintro rfl
    exact hn (by decide)

theorem cmp0 (w : BitVec 32) : IntOp.cmpi .slt w 0#32 = BitVec.ofBool (decide (w.toInt < 0)) := by
  have : (0#32 : BitVec 32).toInt = 0 := by decide
  rw [WordCmp.cmpi_slt_eq, this]

theorem ki_safe_neg : Ki.safe 4294967295#32 = 0#32 := by decide
theorem kp_safe_neg : Kp.safe 4294967295#32 = 0#32 := by decide

theorem ki_safe {w : BitVec 32} (hn : ¬ w.toInt < 0) : Ki.safe w = w := by
  unfold Ki.safe; rw [cmp0, WordCmp.select_decide, if_neg hn]
theorem kp_safe {w : BitVec 32} (hn : ¬ w.toInt < 0) : Kp.safe w = w := by
  unfold Kp.safe; rw [cmp0, WordCmp.select_decide, if_neg hn]

theorem ki_ok {w : BitVec 32} (h : InRange w) : (Ki.safe w).toNat < 100000 := by
  rcases label_cases h with rfl | ⟨_, hn, hl⟩
  · rw [ki_safe_neg]; decide
  · rw [ki_safe hn]; exact hl
theorem kp_ok {w : BitVec 32} (h : InRange w) : (Kp.safe w).toNat < 100000 := by
  rcases label_cases h with rfl | ⟨_, hn, hl⟩
  · rw [kp_safe_neg]; decide
  · rw [kp_safe hn]; exact hl
theorem ref_ok {w : BitVec 32} (h : InRange w) : (Ref.safeL w).toNat < 100000 := by
  rcases label_cases h with rfl | ⟨hne, hn, hl⟩
  · decide
  · unfold Ref.safeL; rw [if_neg hne]; exact hl

end Words

/-! ## The frames -/

theorem frame_p [Cert.Pre_labels_in_range.Facts] : Cert.quiescent_Kernel := fun m g hpre =>
  (θ_run Cert.Kernel.defs _ _).mono (fun _ h => ⟨fun c => ⟨(h.1 c).1, (h.1 c).2.1⟩, h.2⟩)
    (Kp.run_main (F := Bits) m g fun d j => kp_ok (Preds.labels _ _ (hpre d) j))

theorem frame_pi [Cert.Pre_labels_in_range.Facts] : Cert.quiescent_KernelIdeal := fun m g hpre =>
  (θ_run Cert.KernelIdeal.defs _ _).mono (fun _ h => ⟨fun c => ⟨(h.1 c).1, (h.1 c).2.1⟩, h.2⟩)
    (Ki.run_main (F := Ideal) m g fun d j => ki_ok (Preds.labels _ _ (hpre d) j))

theorem frame_pi_cosines [Cert.Pre_cosines.Facts] : Cert.quiescent_KernelIdeal_pre_cosines := fun m g hpre =>
  (θ_run Cert.KernelIdeal.defs _ _).mono (fun _ h => ⟨fun c => ⟨(h.1 c).1, (h.1 c).2.1⟩, h.2⟩)
    (Ki.run_main (F := Ideal) m g fun d j => ki_ok (Preds.cosines_labels _ _ (hpre d) j))

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_cosines [Cert.Pre_cosines.Facts] : Cert.quiescent_ReferenceIdeal_pre_cosines := fun m g _ => frame_ri m g trivial

/-- The named constant's table entry. -/
theorem preserves : Cert.preserves_Kernel_KernelIdeal :=
  IdealRules.named_const.statement Cert.KernelIdeal.κ "cos_m" .f32 0x3F60A940#32
    ((Real.sqrt (54194568723295 / 70368744177664) : ℝ) : EReal) rfl

/-! ## The value -/

section Value
open Cert.KernelIdeal Cert.KernelIdeal.Gen

/-- The two spellings of an index of one and of two coordinates. -/
theorem ix1_eq {n : Nat} (a : Fin n) : ValueIdx.ix1 a = ix1 a := funext fun i => match i with | ⟨0, _⟩ => rfl
theorem ix2_eq {n k : Nat} (a : Fin n) (b : Fin k) : ValueIdx.ix2 a b = ix2 a b :=
  funext fun i => match i with | ⟨0, _⟩ => rfl | ⟨1, _⟩ => rfl

/-- The padded logits at a column of the array. -/
theorem padX_at (m : (ℓ : Loc nD τ sig) → Buf (Elt Ideal) ℓ) (d : Dev nD) (r : Fin 1024) (c : Fin 100000) (n : Fin 100096) (hn : n.val = c.val) :
    Ki.padX m d (ix2 r n) = Ki.cosA m d (ix2 r c) := by
  unfold Ki.padX
  refine pad_apply_of_inside _ _ _ _ _ _ _ (ix2 r n) (ix2 r c) fun a => ?_
  match a with
  | ⟨0, _⟩ => show r.val = 0 + r.val * (0 + 1); omega
  | ⟨1, _⟩ => show n.val = 0 + c.val * (0 + 1); omega

/-- The kernel's result is the reference's, on cosines. -/
theorem outVal_eq (m : (ℓ : Loc nD τ sig) → Buf (Elt Ideal) ℓ) (d : Dev nD) (hL : ∀ j, Preds.InRange (Ki.labA m d j))
    (hX : ∀ i, ∃ x : ℝ, Ki.cosA m d i = (x : EReal) ∧ Trig.Cosine x) :
    Ref.refOut (Ki.cosA m d) (Ki.labA m d) = Ki.outVal m d := by
  have hok : Ref.LabOK (Ki.labA m d) := fun r => ref_ok (hL (ix1 r))
  funext j
  obtain ⟨r, c, rfl⟩ : ∃ (r : Fin 1024) (c : Fin 100000), j = ix2 r c := ⟨j 0, j 1, eq_ix2 j⟩
  have href := Ref.refOut_at (Ki.cosA m d) hok r c
  rw [ix2_eq, ix1_eq] at href
  rw [href]
  obtain ⟨x, hx, hc⟩ := hX (ix2 r c)
  have hcl := c.isLt
  show _ = if BitVec.ofNat 32 c.val = Ki.labA m d (ix1 r) then Ki.corAt (Ki.padX m d) (Ki.labA m d) r
    else FloatOps.mulf (Ki.cosA m d (ix2 r c)) (Scalar.ofBits .f32 0x42800000#32)
  rcases label_cases (hL (ix1 r)) with hw | ⟨hne, hn, hlt⟩
  · -- no target: the safe label's angle is kept
    have hno : BitVec.ofNat 32 c.val ≠ Ki.labA m d (ix1 r) := by
      rw [hw]; intro e
      have := congrArg BitVec.toNat e
      rw [BitVec.toNat_ofNat] at this
      have h2 : (4294967295#32 : BitVec 32).toNat = 4294967295 := by decide
      omega
    rw [if_neg hno, Ref.newAng, if_pos hw, ite_self, hx]
    exact Trig.keep hc
  · have hs : Ref.safeL (Ki.labA m d (ix1 r)) = Ki.labA m d (ix1 r) := by unfold Ref.safeL; rw [if_neg hne]
    rw [hs]
    by_cases e : c.val = (Ki.labA m d (ix1 r)).toNat
    · have he : BitVec.ofNat 32 c.val = Ki.labA m d (ix1 r) := by
        refine BitVec.eq_of_toNat_eq ?_
        rw [BitVec.toNat_ofNat]; omega
      rw [if_pos e, if_pos he, Ref.newAng, if_neg hne]
      unfold Ki.corAt
      rw [padX_at m d r c _ (by
        rw [ki_safe hn]; show (Ki.labA m d (ix1 r)).toNat % 100096 = c.val; omega), hx]
      exact Trig.margin hc
    · have he : BitVec.ofNat 32 c.val ≠ Ki.labA m d (ix1 r) := by
        intro h'
        have := congrArg BitVec.toNat h'
        rw [BitVec.toNat_ofNat] at this
        omega
      rw [if_neg e, if_neg he, hx]
      exact Trig.keep hc

end Value

theorem algebraic [Cert.Pre_cosines.Facts] : Cert.algebraic_KernelIdeal_ReferenceIdeal_pre_cosines := by
  intro m g m' g' hpre hagree
  have hL : ∀ d j, Preds.InRange (Ki.labA m d j) := fun d j => Preds.cosines_labels _ _ (hpre d) j
  have hX : ∀ d i, ∃ x : ℝ, Ki.cosA m d i = (x : EReal) ∧ Trig.Cosine x :=
    fun d i => Trig.cosine_of (Preds.cosines_logits _ _ (hpre d) i)
  refine ⟨fun d => Ki.outVal m d, ?_, ?_⟩
  · exact (θ_run Cert.KernelIdeal.defs _ _).mono (fun _ h c => ⟨(h.1 c).2.2, (h.1 c).1, (h.1 c).2.1⟩)
      (Ki.run_main (F := Ideal) m g fun d j => ki_ok (hL d j))
  · refine (θ_run Cert.ReferenceIdeal.defs _ _).mono (fun _ h c => ⟨(h c).1.trans ?_, (h c).2⟩)
      (Cert.ReferenceIdeal.Value.run (F := Ideal) m' g')
    rw [Ref.res_eq, (hagree c).1, (hagree c).2]
    exact outVal_eq m c (hL c) (hX c)

end Cert.Proof.Claims

end
-- ==== Proof.Margin.lean ====
/-
  The reference's margin is the angle whose sine is the programs' word for `sin 0.5`: it lies between 1/2 and
  1/2 + 2⁻²⁶, so that 0.5 is the f32 word nearest to it.
-/
module

public import proofs.«01_k».proof.Proof.Trig
public import Mathlib.Analysis.Complex.Trigonometric

@[expose] public section

noncomputable section

namespace Cert.Proof.Margin

open Cert.Proof.Trig

/-- The sine's series to the eleventh power, for an angle in [0, 1]. -/
theorem sin_near {x : ℝ} (h0 : 0 ≤ x) (h1 : x ≤ 1) :
    |Real.sin x - (x - x ^ 3 / 6 + x ^ 5 / 120 - x ^ 7 / 5040 + x ^ 9 / 362880 - x ^ 11 / 39916800)| ≤ x ^ 12 * (13 / (479001600 * 12)) := by
  have hn : ‖(x : ℂ) * Complex.I‖ = x := by
    rw [norm_mul, Complex.norm_I, mul_one, Complex.norm_real, Real.norm_eq_abs, abs_of_nonneg h0]
  have hb := Complex.exp_bound (x := (x : ℂ) * Complex.I) (by rw [hn]; exact h1) (n := 12) (by norm_num)
  rw [hn] at hb
  have i2 := Complex.I_sq
  have i3 : Complex.I ^ 3 = -Complex.I := by rw [pow_succ, i2]; ring
  have i4 := Complex.I_pow_four
  have i5 : Complex.I ^ 5 = Complex.I := by rw [pow_succ, i4, one_mul]
  have i6 : Complex.I ^ 6 = -1 := by rw [pow_succ, i5, ← sq, i2]
  have i7 : Complex.I ^ 7 = -Complex.I := by rw [pow_succ, i6]; ring
  have i8 : Complex.I ^ 8 = 1 := by rw [show 8 = 4 * 2 from rfl, pow_mul, i4, one_pow]
  have i9 : Complex.I ^ 9 = Complex.I := by rw [pow_succ, i8, one_mul]
  have i10 : Complex.I ^ 10 = -1 := by rw [pow_succ, i9, ← sq, i2]
  have i11 : Complex.I ^ 11 = -Complex.I := by rw [pow_succ, i10]; ring
  have hs : ∑ m ∈ Finset.range 12, ((x : ℂ) * Complex.I) ^ m / (m.factorial : ℂ)
      = ((1 - x ^ 2 / 2 + x ^ 4 / 24 - x ^ 6 / 720 + x ^ 8 / 40320 - x ^ 10 / 3628800 : ℝ) : ℂ)
        + ((x - x ^ 3 / 6 + x ^ 5 / 120 - x ^ 7 / 5040 + x ^ 9 / 362880 - x ^ 11 / 39916800 : ℝ) : ℂ) * Complex.I := by
    simp only [Finset.sum_range_succ, Finset.sum_range_zero, mul_pow, i2, i3, i4, i5, i6, i7, i8, i9, i10, i11, Nat.factorial]
    push_cast
    ring
  rw [hs] at hb
  refine le_trans (le_trans (le_of_eq ?_) (Complex.abs_im_le_norm _)) (hb.trans (le_of_eq ?_))
  · rw [Complex.sub_im, Complex.exp_ofReal_mul_I_im, Complex.add_im, Complex.ofReal_im, Complex.im_ofReal_mul, Complex.I_im, mul_one, zero_add]
  · norm_num [Nat.factorial]

/-- The reference's margin. -/
theorem margin_near : 1 / 2 ≤ Real.arcsin sm ∧ Real.arcsin sm ≤ 1 / 2 + 1 / 2 ^ 26 := by
  have hpi := Real.two_le_pi
  constructor
  · rw [Real.le_arcsin_iff_sin_le' ⟨by linarith, by linarith⟩]
    have h := (abs_le.1 (sin_near (x := 1 / 2) (by norm_num) (by norm_num))).2
    refine le_trans (sub_le_iff_le_add.1 h) ?_
    unfold sm; norm_num
  · rw [Real.arcsin_le_iff_le_sin' ⟨by norm_num; linarith, by norm_num; linarith⟩]
    have h := (abs_le.1 (sin_near (x := 1 / 2 + 1 / 2 ^ 26) (by norm_num) (by norm_num))).1
    refine le_trans ?_ (neg_le_sub_iff_le_add.1 h |> fun h' => sub_le_iff_le_add.2 h')
    unfold sm; norm_num

end Cert.Proof.Margin

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Margin

@[expose] public section

noncomputable section

namespace Cert.Proof

open Idealize.ShloMosaic

theorem facts_labels : Cert.Pre_labels_in_range.Facts where
  bcast_S_S1024 := by decide
  reducesTo_S1024_S_d0 := by decide
  h_S_ := by decide

theorem facts_cosines : Cert.Pre_cosines.Facts where
  bcast_S_S1024 := by decide
  reducesTo_S1024_S_d0 := by decide
  h_S_ := by decide
  bcast_S_S1024x100000 := by decide
  reducesTo_S1024x100000_S_d0_1 := by decide

theorem claim : Cert.Claim :=
  haveI := facts_labels
  haveI := facts_cosines
  ⟨Cert.Kernel.Gen.facts, Cert.KernelIdeal.Gen.facts, Cert.ReferenceIdeal.Gen.facts, facts_labels, facts_cosines,
    Claims.frame_p, Claims.frame_pi, Claims.frame_pi_cosines, Claims.frame_ri, Claims.frame_ri_cosines,
    Claims.preserves, Claims.algebraic⟩

end Cert.Proof

end
